-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_sixteen_places [hPre_sixteen_places : Cert.Pre_sixteen_places.Facts] (m : (ℓ : Loc Cert.KernelIdeal.nD Cert.KernelIdeal.τ Cert.KernelIdeal.sig) → Buf (Elt Ideal) ℓ) : Prop :=
  ∀ c : Dev Cert.KernelIdeal.nD,
    (Cert.Pre_sixteen_places.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sixteen_places [hPre_sixteen_places : Cert.Pre_sixteen_places.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sixteen_places.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_sixteen_places [hKernelIdeal : Cert.KernelIdeal.Facts] [hPre_sixteen_places : Cert.Pre_sixteen_places.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sixteen_places m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_sixteen_places [hReferenceIdeal : Cert.ReferenceIdeal.Facts] [hPre_sixteen_places : Cert.Pre_sixteen_places.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sixteen_places m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_sixteen_places [hKernelIdeal : Cert.KernelIdeal.Facts] [hReferenceIdeal : Cert.ReferenceIdeal.Facts] [hPre_sixteen_places : Cert.Pre_sixteen_places.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sixteen_places m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v10)) (v1 : (c : Dev Cert.KernelIdeal.nD) → Buf (Elt Ideal) ((c.tc : Thread Cert.KernelIdeal.nD Cert.KernelIdeal.τ).loc Cert.KernelIdeal.main_v12)) (v2 : (c : Dev Cert.KernelIdeal.nD) → Buf (Elt Ideal) ((c.tc : Thread Cert.KernelIdeal.nD Cert.KernelIdeal.τ).loc Cert.KernelIdeal.main_v20)) (v3 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_v12) = v1 c
          ∧ r.2.mem ((c.tc : Thread Cert.KernelIdeal.nD Cert.KernelIdeal.τ).loc Cert.KernelIdeal.main_v20) = v2 c
          ∧ r.2.mem ((c.tc : Thread Cert.KernelIdeal.nD Cert.KernelIdeal.τ).loc Cert.KernelIdeal.main_v19) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_v10) = v1 c
          ∧ r.2.mem ((c.tc : Thread Cert.ReferenceIdeal.nD Cert.ReferenceIdeal.τ).loc Cert.ReferenceIdeal.main_v108) = v2 c
          ∧ r.2.mem ((c.tc : Thread Cert.ReferenceIdeal.nD Cert.ReferenceIdeal.τ).loc Cert.ReferenceIdeal.main_v107) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_sixteen_places : Cert.Pre_sixteen_places.Facts),
    quiescent_Kernel (hKernel := hKernel)
    ∧ quiescent_KernelIdeal (hKernelIdeal := hKernelIdeal)
    ∧ quiescent_KernelIdeal_pre_sixteen_places (hKernelIdeal := hKernelIdeal) (hPre_sixteen_places := hPre_sixteen_places)
    ∧ quiescent_ReferenceIdeal (hReferenceIdeal := hReferenceIdeal)
    ∧ quiescent_ReferenceIdeal_pre_sixteen_places (hReferenceIdeal := hReferenceIdeal) (hPre_sixteen_places := hPre_sixteen_places)
    ∧ preserves_Kernel_KernelIdeal
    ∧ algebraic_KernelIdeal_ReferenceIdeal_pre_sixteen_places (hKernelIdeal := hKernelIdeal) (hReferenceIdeal := hReferenceIdeal) (hPre_sixteen_places := hPre_sixteen_places)
-- ==== Pre_sixteen_places.lean ====
abbrev S4x64x64 : Shape := ⟨3, ![4, 64, 64]⟩
abbrev S4x64x64x3 : Shape := ⟨4, ![4, 64, 64, 3]⟩
abbrev S4x32x32x3 : Shape := ⟨4, ![4, 32, 32, 3]⟩
abbrev S4x512x512x3 : Shape := ⟨4, ![4, 512, 512, 3]⟩
abbrev S4x4096 : Shape := ⟨2, ![4, 4096]⟩
abbrev S_ : Shape := ⟨0, ![]⟩
abbrev S4 : Shape := ⟨1, ![4]⟩
abbrev S4x1 : Shape := ⟨2, ![4, 1]⟩

class Facts : Prop where
  shapeCasts_S4x64x64_S4x4096 : S4x64x64.ShapeCasts S4x4096
  reducesTo_S4x4096_S4_d1 : S4x4096.ReducesTo [1] S4
  h_S_ : 0 < S_.numel
  bcast_S4_S4x1_0 : S4.BroadcastsInDim S4x1 (![0] : Fin 1 → Fin S4x1.rank)
  bcast_S4x1_S4x4096_0_1 : S4x1.BroadcastsInDim S4x4096 (![0, 1] : Fin 2 → Fin S4x4096.rank)
  bcast_S_S4x4096 : S_.BroadcastsInDim S4x4096 (![] : Fin 0 → Fin S4x4096.rank)
  natLt_1_32 : 1 < 32
  bcast_S_S4 : S_.BroadcastsInDim S4 (![] : Fin 0 → Fin S4.rank)
  reducesTo_S4_S_d0 : S4.ReducesTo [0] S_

variable [Facts]

def fn {F : FTy → Type} [FloatOps F] (main_arg0 : FVec F S4x64x64 .f32) (main_arg1 : IVec S4x64x64 32) (main_arg2 : FVec F S4x64x64x3 .f32) (main_arg3 : FVec F S4x32x32x3 .f32) (main_arg4 : FVec F S4x512x512x3 .f32) (main_arg5 : FVec F S4x512x512x3 .f32) (main_arg6 : FVec F S4x4096 .f32) : IVec S_ 1 :=
  let main_v0 : FVec F S4x4096 .f32 := shapeCast S4x4096 main_arg0 shapeCasts_S4x64x64_S4x4096
  let main_cst : FVec F S_ .f32 := constant S_ .f32 0x00000000#32
  let main_v1 : FVec F S4 .f32 := (fun x v => Host.reduceAdd x v reducesTo_S4x4096_S4_d1 h_S_) main_v0 main_cst
  let main_v2 : FVec F S4x1 .f32 := broadcastInDim S4x1 ![0] bcast_S4_S4x1_0 main_v1
  let main_v3 : FVec F S4x4096 .f32 := broadcastInDim S4x4096 ![0, 1] bcast_S4x1_S4x4096_0_1 main_v2
  let main_v4 : FVec F S4x4096 .f32 := Host.divf main_v0 main_v3
  let main_v5 : FVec F S4x4096 .f32 := Host.log main_v4
  let main_v6 : FVec F S4x4096 .f32 := addf main_v5 main_arg6
  let main_cst_0 : FVec F S_ .f32 := constant S_ .f32 0xFF800000#32
  let main_v7 : FVec F S4x4096 .f32 := broadcastInDim S4x4096 ![] bcast_S_S4x4096 main_cst_0
  let main_v8 : IVec S4x4096 1 := cmpf .ogt main_v6 main_v7
  let main_v9 : IVec S4x4096 32 := (extui 32 · natLt_1_32) main_v8
  let main_c : IVec S_ 32 := constantI S_ 32 0#32
  let main_v10 : IVec S4 32 := (fun x v => Host.reduce IntOp.addi x v reducesTo_S4x4096_S4_d1 h_S_) main_v9 main_c
  let main_c_1 : IVec S_ 32 := constantI S_ 32 16#32
  let main_v11 : IVec S4 32 := broadcastInDim S4 ![] bcast_S_S4 main_c_1
  let main_v12 : IVec S4 1 := cmpi .sge main_v10 main_v11
  let main_c_2 : IVec S_ 1 := constantI S_ 1 1#1
  let main_v13 : IVec S_ 1 := (fun x v => Host.reduce IntOp.andi x v reducesTo_S4_S_d0 h_S_) main_v12 main_c_2
  main_v13
-- ==== Kernel.lean ====
abbrev S4x64x64 : Shape := ⟨3, ![4, 64, 64]⟩
abbrev S4x64x64x3 : Shape := ⟨4, ![4, 64, 64, 3]⟩
abbrev S4x32x32x3 : Shape := ⟨4, ![4, 32, 32, 3]⟩
abbrev S4x512x512x3 : Shape := ⟨4, ![4, 512, 512, 3]⟩
abbrev S4x4096 : Shape := ⟨2, ![4, 4096]⟩
abbrev S4x32x128 : Shape := ⟨3, ![4, 32, 128]⟩
abbrev S4x4x128 : Shape := ⟨3, ![4, 4, 128]⟩
abbrev S64x16 : Shape := ⟨2, ![64, 16]⟩
abbrev S32x128 : Shape := ⟨2, ![32, 128]⟩
abbrev S1x128 : Shape := ⟨2, ![1, 128]⟩
abbrev S16x16 : Shape := ⟨2, ![16, 16]⟩
abbrev S1x32x128 : Shape := ⟨3, ![1, 32, 128]⟩
abbrev S128 : Shape := ⟨1, ![128]⟩
abbrev S1x1 : Shape := ⟨2, ![1, 1]⟩
abbrev S1x16 : Shape := ⟨2, ![1, 16]⟩
abbrev S4x128 : Shape := ⟨2, ![4, 128]⟩
abbrev S1x4x128 : Shape := ⟨3, ![1, 4, 128]⟩
abbrev S4x3x512x512 : Shape := ⟨4, ![4, 3, 512, 512]⟩
abbrev S64x3x64x64 : Shape := ⟨4, ![64, 3, 64, 64]⟩
abbrev S3x72x256 : Shape := ⟨3, ![3, 72, 256]⟩
abbrev S3x64x64 : Shape := ⟨3, ![3, 64, 64]⟩
abbrev S_ : Shape := ⟨0, ![]⟩
abbrev S16 : Shape := ⟨1, ![16]⟩
abbrev S1 : Shape := ⟨1, ![1]⟩
abbrev S1x3x72x256 : Shape := ⟨4, ![1, 3, 72, 256]⟩
abbrev S1x1x16 : Shape := ⟨3, ![1, 1, 16]⟩
abbrev S1x3x64x64 : Shape := ⟨4, ![1, 3, 64, 64]⟩
abbrev S4x16x3x64x64 : Shape := ⟨5, ![4, 16, 3, 64, 64]⟩
abbrev S4x16x64x64x3 : Shape := ⟨5, ![4, 16, 64, 64, 3]⟩
abbrev S4x1x16 : Shape := ⟨3, ![4, 1, 16]⟩
abbrev S4x16 : Shape := ⟨2, ![4, 16]⟩
abbrev S4x16x1 : Shape := ⟨3, ![4, 16, 1]⟩
abbrev S4x16x2 : Shape := ⟨3, ![4, 16, 2]⟩

abbrev nBuf : Table → Nat
  | .hbm => 30
  | .local .tc .vmem => 5
  | .local .scVector .vmem => 3
  | _ => 0

abbrev bufTy : (tb : Table) → Fin (nBuf tb) → BufTy
  | .hbm, ⟨0, _⟩ => ⟨S4x64x64, .f32⟩
  | .hbm, ⟨1, _⟩ => ⟨S4x64x64, .i32⟩
  | .hbm, ⟨2, _⟩ => ⟨S4x64x64x3, .f32⟩
  | .hbm, ⟨3, _⟩ => ⟨S4x32x32x3, .f32⟩
  | .hbm, ⟨4, _⟩ => ⟨S4x512x512x3, .f32⟩
  | .hbm, ⟨5, _⟩ => ⟨S4x512x512x3, .f32⟩
  | .hbm, ⟨6, _⟩ => ⟨S4x4096, .f32⟩
  | .hbm, ⟨7, _⟩ => ⟨S4x4096, .f32⟩
  | .hbm, ⟨8, _⟩ => ⟨S4x4096, .i32⟩
  | .hbm, ⟨9, _⟩ => ⟨S4x32x128, .f32⟩
  | .hbm, ⟨10, _⟩ => ⟨S4x32x128, .i32⟩
  | .hbm, ⟨11, _⟩ => ⟨S4x32x128, .f32⟩
  | .hbm, ⟨12, _⟩ => ⟨S4x4x128, .f32⟩
  | .hbm, ⟨13, _⟩ => ⟨S64x16, .i32⟩
  | .hbm, ⟨14, _⟩ => ⟨S4x3x512x512, .f32⟩
  | .hbm, ⟨15, _⟩ => ⟨S4x3x512x512, .f32⟩
  | .hbm, ⟨16, _⟩ => ⟨S64x3x64x64, .f32⟩
  | .hbm, ⟨17, _⟩ => ⟨S4x16x3x64x64, .f32⟩
  | .hbm, ⟨18, _⟩ => ⟨S4x16x64x64x3, .f32⟩
  | .hbm, ⟨19, _⟩ => ⟨S4x1x16, .f32⟩
  | .hbm, ⟨20, _⟩ => ⟨S4x16, .f32⟩
  | .hbm, ⟨21, _⟩ => ⟨S4x1x16, .f32⟩
  | .hbm, ⟨22, _⟩ => ⟨S4x16, .f32⟩
  | .hbm, ⟨23, _⟩ => ⟨S4x1x16, .f32⟩
  | .hbm, ⟨24, _⟩ => ⟨S4x16, .f32⟩
  | .hbm, ⟨25, _⟩ => ⟨S4x16x1, .f32⟩
  | .hbm, ⟨26, _⟩ => ⟨S4x16x1, .f32⟩
  | .hbm, ⟨27, _⟩ => ⟨S4x16x2, .f32⟩
  | .hbm, ⟨28, _⟩ => ⟨S_, .f32⟩
  | .hbm, ⟨29, _⟩ => ⟨S4x16x2, .f32⟩
  | .local .tc .vmem, ⟨0, _⟩ => ⟨S4x32x128, .f32⟩
  | .local .tc .vmem, ⟨1, _⟩ => ⟨S4x32x128, .i32⟩
  | .local .tc .vmem, ⟨2, _⟩ => ⟨S4x32x128, .f32⟩
  | .local .tc .vmem, ⟨3, _⟩ => ⟨S4x4x128, .f32⟩
  | .local .tc .vmem, ⟨4, _⟩ => ⟨S64x16, .i32⟩
  | .local .scVector .vmem, ⟨0, _⟩ => ⟨S64x16, .i32⟩
  | .local .scVector .vmem, ⟨1, _⟩ => ⟨S3x72x256, .f32⟩
  | .local .scVector .vmem, ⟨2, _⟩ => ⟨S3x64x64, .f32⟩
  | _, _ => ⟨S4x64x64, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 12 → Bool
  | ⟨0, _⟩ => true
  | ⟨1, _⟩ => true
  | ⟨2, _⟩ => true
  | ⟨3, _⟩ => true
  | ⟨4, _⟩ => true
  | ⟨5, _⟩ => false
  | ⟨6, _⟩ => false
  | ⟨7, _⟩ => false
  | ⟨8, _⟩ => false
  | ⟨9, _⟩ => false
  | ⟨10, _⟩ => false
  | ⟨11, _⟩ => false
  | _ => false

abbrev sig : RefSig :=
  ofTables nBuf rfl bufTy 4 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst : Ref sig .tc := ⟨.hbm, 28, rfl⟩
abbrev main_v20 : Ref sig .tc := ⟨.hbm, 29, rfl⟩
abbrev main_v5_1_scv : Ref sig .scVector := ⟨.hbm, 13, rfl⟩
abbrev main_v6_scv : Ref sig .scVector := ⟨.hbm, 14, rfl⟩
abbrev main_v7_scv : Ref sig .scVector := ⟨.hbm, 15, rfl⟩
abbrev main_v8_scv : Ref sig .scVector := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := .none

abbrev stage0_0 : Fin 1 → Memref sig .tc .vmem S4x32x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x32x128 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x32x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x4x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x16 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev grid1 : Pipeline.Grid := ⟨2, ![2, 16], ![false, false]⟩

def k1_off1 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v3 : BitVec 32 := Scalar.muli v1 c2_i32_0
  let c0_i32 : BitVec 32 := 0#32
  let v4 : BitVec 32 := Scalar.addi v3 c0_i32
  let v22 : Index := Scalar.indexCast v4
  let c0 : Index := 0#32
  ![v22.toNat, 0]
def k1_mult1 (v25 : BitVec 32) : BitVec 32 :=
  v25

def k1_chk1 (v25 : BitVec 32) : Prop :=
  (8 ∣ (k1_mult1 v25).toNat)
theorem k1_mult1_dvd : ∀ (v25 : BitVec 32) (k1_hw1 : k1_chk1 v25), 8 ∣ (k1_mult1 v25).toNat := fun v25 k1_hw1 => k1_hw1

def k1_mult2 (v30 : BitVec 32) : BitVec 32 :=
  v30

def k1_chk2 (v30 : BitVec 32) : Prop :=
  (128 ∣ (k1_mult2 v30).toNat)
theorem k1_mult2_dvd : ∀ (v30 : BitVec 32) (k1_hw2 : k1_chk2 v30), 128 ∣ (k1_mult2 v30).toNat := fun v30 k1_hw2 => k1_hw2

def k1_off2 (i : grid1.Coords) (v25 : BitVec 32) (v30 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v3 : BitVec 32 := Scalar.muli v1 c2_i32_0
  let c0_i32 : BitVec 32 := 0#32
  let v4 : BitVec 32 := Scalar.addi v3 c0_i32
  let c0_i32_1 : BitVec 32 := 0#32
  let v6 : BitVec 1 := Scalar.cmpi .sgt v4 c0_i32_1
  let v7 : BitVec 32 := Scalar.extui v6
  let c0_i32_2 : BitVec 32 := 0#32
  let v8 : BitVec 1 := Scalar.cmpi .slt v4 c0_i32_2
  let v9 : BitVec 32 := Scalar.extui v8
  let v10 : BitVec 32 := Scalar.subi v7 v9
  let c16_i32 : BitVec 32 := 16#32
  let c0_i32_3 : BitVec 32 := 0#32
  let v11 : BitVec 1 := Scalar.cmpi .sgt c16_i32 c0_i32_3
  let v12 : BitVec 32 := Scalar.extui v11
  let c0_i32_4 : BitVec 32 := 0#32
  let v13 : BitVec 1 := Scalar.cmpi .slt c16_i32 c0_i32_4
  let v14 : BitVec 32 := Scalar.extui v13
  let v15 : BitVec 32 := Scalar.subi v12 v14
  let v16 : BitVec 1 := Scalar.cmpi .ne v10 v15
  let v17 : BitVec 32 := Scalar.remsi v4 c16_i32
  let c0_i32_5 : BitVec 32 := 0#32
  let v18 : BitVec 1 := Scalar.cmpi .ne v17 c0_i32_5
  let v19 : BitVec 1 := Scalar.andi v16 v18
  let v5 : BitVec 32 := Scalar.divsi v4 c16_i32
  let c1_i32 : BitVec 32 := 1#32
  let v20 : BitVec 32 := Scalar.subi v5 c1_i32
  let v21 : BitVec 32 := Scalar.select v19 v20 v5
  let c0_i32_29_r1 : BitVec 32 := 0#32
  let v26 : BitVec 32 := v25
  let v31 : BitVec 32 := v30
  ![v21.toNat, 0, v26.toNat, v31.toNat]
def k1_cond1 (v35 : BitVec 32) : BitVec 1 :=
  let c1_i32_6 : BitVec 32 := 1#32
  let v36 : BitVec 1 := Scalar.cmpi .eq v35 c1_i32_6
  let v37 : BitVec 32 := Scalar.extui v36
  let c0_i32_7 : BitVec 32 := 0#32
  let v38 : BitVec 1 := Scalar.cmpi .ne v37 c0_i32_7
  v38

def k1_off3 (i : grid1.Coords) (v25 : BitVec 32) (v30 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v3 : BitVec 32 := Scalar.muli v1 c2_i32_0
  let c0_i32 : BitVec 32 := 0#32
  let v4 : BitVec 32 := Scalar.addi v3 c0_i32
  let c0_i32_1 : BitVec 32 := 0#32
  let v6 : BitVec 1 := Scalar.cmpi .sgt v4 c0_i32_1
  let v7 : BitVec 32 := Scalar.extui v6
  let c0_i32_2 : BitVec 32 := 0#32
  let v8 : BitVec 1 := Scalar.cmpi .slt v4 c0_i32_2
  let v9 : BitVec 32 := Scalar.extui v8
  let v10 : BitVec 32 := Scalar.subi v7 v9
  let c16_i32 : BitVec 32 := 16#32
  let c0_i32_3 : BitVec 32 := 0#32
  let v11 : BitVec 1 := Scalar.cmpi .sgt c16_i32 c0_i32_3
  let v12 : BitVec 32 := Scalar.extui v11
  let c0_i32_4 : BitVec 32 := 0#32
  let v13 : BitVec 1 := Scalar.cmpi .slt c16_i32 c0_i32_4
  let v14 : BitVec 32 := Scalar.extui v13
  let v15 : BitVec 32 := Scalar.subi v12 v14
  let v16 : BitVec 1 := Scalar.cmpi .ne v10 v15
  let v17 : BitVec 32 := Scalar.remsi v4 c16_i32
  let c0_i32_5 : BitVec 32 := 0#32
  let v18 : BitVec 1 := Scalar.cmpi .ne v17 c0_i32_5
  let v19 : BitVec 1 := Scalar.andi v16 v18
  let v5 : BitVec 32 := Scalar.divsi v4 c16_i32
  let c1_i32 : BitVec 32 := 1#32
  let v20 : BitVec 32 := Scalar.subi v5 c1_i32
  let v21 : BitVec 32 := Scalar.select v19 v20 v5
  let c0_i32_29_r2 : BitVec 32 := 0#32
  let v26 : BitVec 32 := v25
  let v31 : BitVec 32 := v30
  ![v21.toNat, 0, v26.toNat, v31.toNat]

def k1_chk3 (i : grid1.Coords) (v25 : BitVec 32) (v30 : BitVec 32) (v35 : BitVec 32) : Prop :=
  (∀ (k1_h1 : k1_cond1 v35 = 1#1), ∀ a, (k1_off2 i v25 v30) a + S1x3x72x256.size a ≤ S4x3x512x512.size a) ∧
  (∀ (k1_h1 : ¬(k1_cond1 v35 = 1#1)), ∀ a, (k1_off3 i v25 v30) a + S1x3x72x256.size a ≤ S4x3x512x512.size a)
theorem k1_off2_inb : ∀ (i : grid1.Coords) (v25 : BitVec 32) (v30 : BitVec 32) (v35 : BitVec 32) (k1_hw3 : k1_chk3 i v25 v30 v35), ∀ (k1_h1 : k1_cond1 v35 = 1#1), ∀ a, (k1_off2 i v25 v30) a + S1x3x72x256.size a ≤ S4x3x512x512.size a := fun i v25 v30 v35 k1_hw3 k1_h1 => k1_hw3.1 k1_h1
theorem k1_off3_inb : ∀ (i : grid1.Coords) (v25 : BitVec 32) (v30 : BitVec 32) (v35 : BitVec 32) (k1_hw3 : k1_chk3 i v25 v30 v35), ∀ (k1_h1 : ¬(k1_cond1 v35 = 1#1)), ∀ a, (k1_off3 i v25 v30) a + S1x3x72x256.size a ≤ S4x3x512x512.size a := fun i v25 v30 v35 k1_hw3 k1_h1 => k1_hw3.2 k1_h1

@[reducible] def k1_t1_loop : Scf.Loop 32 :=
  let c0_i32_9 : BitVec 32 := 0#32
  let c192_i32 : BitVec 32 := 192#32
  let v39 : BitVec 32 := Scalar.addi c0_i32_9 c192_i32
  let c1_i32_10 : BitVec 32 := 1#32
  ⟨c0_i32_9, v39, c1_i32_10⟩

def k1_chk4 (v98 : IVec S16 32) (v100 : IVec S16 32) (v103 : IVec S16 32) : Prop :=
  (∀ a x, ((![v98, v100, v103] : Fin 3 → IVec S16 32) a x).toNat < S3x72x256.size a)
theorem k1_idx1_inb : ∀ (v98 : IVec S16 32) (v100 : IVec S16 32) (v103 : IVec S16 32) (k1_hw4 : k1_chk4 v98 v100 v103), ∀ a x, ((![v98, v100, v103] : Fin 3 → IVec S16 32) a x).toNat < S3x72x256.size a := fun v98 v100 v103 k1_hw4 => k1_hw4
def k1_off4 (k1_t1 : Fin k1_t1_loop.trips) : Fin 3 → Nat :=
  let c0_i32_9 : BitVec 32 := 0#32
  let c1_i32_10 : BitVec 32 := 1#32
  let arg9 : BitVec 32 := Scf.iv c0_i32_9 c1_i32_10 k1_t1
  let c0_i32_29 : BitVec 32 := 0#32
  let v80 : BitVec 1 := Scalar.cmpi .sgt arg9 c0_i32_29
  let v81 : BitVec 32 := Scalar.extui v80
  let c0_i32_30 : BitVec 32 := 0#32
  let v82 : BitVec 1 := Scalar.cmpi .slt arg9 c0_i32_30
  let v83 : BitVec 32 := Scalar.extui v82
  let v84 : BitVec 32 := Scalar.subi v81 v83
  let c64_i32 : BitVec 32 := 64#32
  let c0_i32_31 : BitVec 32 := 0#32
  let v85 : BitVec 1 := Scalar.cmpi .sgt c64_i32 c0_i32_31
  let v86 : BitVec 32 := Scalar.extui v85
  let c0_i32_32 : BitVec 32 := 0#32
  let v87 : BitVec 1 := Scalar.cmpi .slt c64_i32 c0_i32_32
  let v88 : BitVec 32 := Scalar.extui v87
  let v89 : BitVec 32 := Scalar.subi v86 v88
  let v90 : BitVec 1 := Scalar.cmpi .ne v84 v89
  let v91 : BitVec 32 := Scalar.remsi arg9 c64_i32
  let c0_i32_33 : BitVec 32 := 0#32
  let v92 : BitVec 1 := Scalar.cmpi .ne v91 c0_i32_33
  let v93 : BitVec 1 := Scalar.andi v90 v92
  let v79 : BitVec 32 := Scalar.divsi arg9 c64_i32
  let c1_i32_34 : BitVec 32 := 1#32
  let v94 : BitVec 32 := Scalar.subi v79 c1_i32_34
  let v95 : BitVec 32 := Scalar.select v93 v94 v79
  let v105 : Index := Scalar.indexCast v95
  let c64_i32_35 : BitVec 32 := 64#32
  let v96 : BitVec 32 := Scalar.muli v95 c64_i32_35
  let v97 : BitVec 32 := Scalar.subi arg9 v96
  let v106 : Index := Scalar.indexCast v97
  let c0_37 : Index := 0#32
  ![v105.toNat, v106.toNat, 0]

def k1_chk5 (v98 : IVec S16 32) (v100 : IVec S16 32) (v110 : IVec S16 32) : Prop :=
  (∀ a x, ((![v98, v100, v110] : Fin 3 → IVec S16 32) a x).toNat < S3x72x256.size a)
theorem k1_idx2_inb : ∀ (v98 : IVec S16 32) (v100 : IVec S16 32) (v110 : IVec S16 32) (k1_hw5 : k1_chk5 v98 v100 v110), ∀ a x, ((![v98, v100, v110] : Fin 3 → IVec S16 32) a x).toNat < S3x72x256.size a := fun v98 v100 v110 k1_hw5 => k1_hw5
def k1_off5 (k1_t1 : Fin k1_t1_loop.trips) : Fin 3 → Nat :=
  let c0_i32_9 : BitVec 32 := 0#32
  let c1_i32_10 : BitVec 32 := 1#32
  let arg9 : BitVec 32 := Scf.iv c0_i32_9 c1_i32_10 k1_t1
  let c0_i32_29 : BitVec 32 := 0#32
  let v80 : BitVec 1 := Scalar.cmpi .sgt arg9 c0_i32_29
  let v81 : BitVec 32 := Scalar.extui v80
  let c0_i32_30 : BitVec 32 := 0#32
  let v82 : BitVec 1 := Scalar.cmpi .slt arg9 c0_i32_30
  let v83 : BitVec 32 := Scalar.extui v82
  let v84 : BitVec 32 := Scalar.subi v81 v83
  let c64_i32 : BitVec 32 := 64#32
  let c0_i32_31 : BitVec 32 := 0#32
  let v85 : BitVec 1 := Scalar.cmpi .sgt c64_i32 c0_i32_31
  let v86 : BitVec 32 := Scalar.extui v85
  let c0_i32_32 : BitVec 32 := 0#32
  let v87 : BitVec 1 := Scalar.cmpi .slt c64_i32 c0_i32_32
  let v88 : BitVec 32 := Scalar.extui v87
  let v89 : BitVec 32 := Scalar.subi v86 v88
  let v90 : BitVec 1 := Scalar.cmpi .ne v84 v89
  let v91 : BitVec 32 := Scalar.remsi arg9 c64_i32
  let c0_i32_33 : BitVec 32 := 0#32
  let v92 : BitVec 1 := Scalar.cmpi .ne v91 c0_i32_33
  let v93 : BitVec 1 := Scalar.andi v90 v92
  let v79 : BitVec 32 := Scalar.divsi arg9 c64_i32
  let c1_i32_34 : BitVec 32 := 1#32
  let v94 : BitVec 32 := Scalar.subi v79 c1_i32_34
  let v95 : BitVec 32 := Scalar.select v93 v94 v79
  let v112 : Index := Scalar.indexCast v95
  let c64_i32_35 : BitVec 32 := 64#32
  let v96 : BitVec 32 := Scalar.muli v95 c64_i32_35
  let v97 : BitVec 32 := Scalar.subi arg9 v96
  let v113 : Index := Scalar.indexCast v97
  let c16 : Index := 16#32
  ![v112.toNat, v113.toNat, 16]

def k1_chk6 (v98 : IVec S16 32) (v100 : IVec S16 32) (v117 : IVec S16 32) : Prop :=
  (∀ a x, ((![v98, v100, v117] : Fin 3 → IVec S16 32) a x).toNat < S3x72x256.size a)
theorem k1_idx3_inb : ∀ (v98 : IVec S16 32) (v100 : IVec S16 32) (v117 : IVec S16 32) (k1_hw6 : k1_chk6 v98 v100 v117), ∀ a x, ((![v98, v100, v117] : Fin 3 → IVec S16 32) a x).toNat < S3x72x256.size a := fun v98 v100 v117 k1_hw6 => k1_hw6
def k1_off6 (k1_t1 : Fin k1_t1_loop.trips) : Fin 3 → Nat :=
  let c0_i32_9 : BitVec 32 := 0#32
  let c1_i32_10 : BitVec 32 := 1#32
  let arg9 : BitVec 32 := Scf.iv c0_i32_9 c1_i32_10 k1_t1
  let c0_i32_29 : BitVec 32 := 0#32
  let v80 : BitVec 1 := Scalar.cmpi .sgt arg9 c0_i32_29
  let v81 : BitVec 32 := Scalar.extui v80
  let c0_i32_30 : BitVec 32 := 0#32
  let v82 : BitVec 1 := Scalar.cmpi .slt arg9 c0_i32_30
  let v83 : BitVec 32 := Scalar.extui v82
  let v84 : BitVec 32 := Scalar.subi v81 v83
  let c64_i32 : BitVec 32 := 64#32
  let c0_i32_31 : BitVec 32 := 0#32
  let v85 : BitVec 1 := Scalar.cmpi .sgt c64_i32 c0_i32_31
  let v86 : BitVec 32 := Scalar.extui v85
  let c0_i32_32 : BitVec 32 := 0#32
  let v87 : BitVec 1 := Scalar.cmpi .slt c64_i32 c0_i32_32
  let v88 : BitVec 32 := Scalar.extui v87
  let v89 : BitVec 32 := Scalar.subi v86 v88
  let v90 : BitVec 1 := Scalar.cmpi .ne v84 v89
  let v91 : BitVec 32 := Scalar.remsi arg9 c64_i32
  let c0_i32_33 : BitVec 32 := 0#32
  let v92 : BitVec 1 := Scalar.cmpi .ne v91 c0_i32_33
  let v93 : BitVec 1 := Scalar.andi v90 v92
  let v79 : BitVec 32 := Scalar.divsi arg9 c64_i32
  let c1_i32_34 : BitVec 32 := 1#32
  let v94 : BitVec 32 := Scalar.subi v79 c1_i32_34
  let v95 : BitVec 32 := Scalar.select v93 v94 v79
  let v119 : Index := Scalar.indexCast v95
  let c64_i32_35 : BitVec 32 := 64#32
  let v96 : BitVec 32 := Scalar.muli v95 c64_i32_35
  let v97 : BitVec 32 := Scalar.subi arg9 v96
  let v120 : Index := Scalar.indexCast v97
  let c32 : Index := 32#32
  ![v119.toNat, v120.toNat, 32]

def k1_chk7 (v98 : IVec S16 32) (v100 : IVec S16 32) (v124 : IVec S16 32) : Prop :=
  (∀ a x, ((![v98, v100, v124] : Fin 3 → IVec S16 32) a x).toNat < S3x72x256.size a)
theorem k1_idx4_inb : ∀ (v98 : IVec S16 32) (v100 : IVec S16 32) (v124 : IVec S16 32) (k1_hw7 : k1_chk7 v98 v100 v124), ∀ a x, ((![v98, v100, v124] : Fin 3 → IVec S16 32) a x).toNat < S3x72x256.size a := fun v98 v100 v124 k1_hw7 => k1_hw7
def k1_off7 (k1_t1 : Fin k1_t1_loop.trips) : Fin 3 → Nat :=
  let c0_i32_9 : BitVec 32 := 0#32
  let c1_i32_10 : BitVec 32 := 1#32
  let arg9 : BitVec 32 := Scf.iv c0_i32_9 c1_i32_10 k1_t1
  let c0_i32_29 : BitVec 32 := 0#32
  let v80 : BitVec 1 := Scalar.cmpi .sgt arg9 c0_i32_29
  let v81 : BitVec 32 := Scalar.extui v80
  let c0_i32_30 : BitVec 32 := 0#32
  let v82 : BitVec 1 := Scalar.cmpi .slt arg9 c0_i32_30
  let v83 : BitVec 32 := Scalar.extui v82
  let v84 : BitVec 32 := Scalar.subi v81 v83
  let c64_i32 : BitVec 32 := 64#32
  let c0_i32_31 : BitVec 32 := 0#32
  let v85 : BitVec 1 := Scalar.cmpi .sgt c64_i32 c0_i32_31
  let v86 : BitVec 32 := Scalar.extui v85
  let c0_i32_32 : BitVec 32 := 0#32
  let v87 : BitVec 1 := Scalar.cmpi .slt c64_i32 c0_i32_32
  let v88 : BitVec 32 := Scalar.extui v87
  let v89 : BitVec 32 := Scalar.subi v86 v88
  let v90 : BitVec 1 := Scalar.cmpi .ne v84 v89
  let v91 : BitVec 32 := Scalar.remsi arg9 c64_i32
  let c0_i32_33 : BitVec 32 := 0#32
  let v92 : BitVec 1 := Scalar.cmpi .ne v91 c0_i32_33
  let v93 : BitVec 1 := Scalar.andi v90 v92
  let v79 : BitVec 32 := Scalar.divsi arg9 c64_i32
  let c1_i32_34 : BitVec 32 := 1#32
  let v94 : BitVec 32 := Scalar.subi v79 c1_i32_34
  let v95 : BitVec 32 := Scalar.select v93 v94 v79
  let v126 : Index := Scalar.indexCast v95
  let c64_i32_35 : BitVec 32 := 64#32
  let v96 : BitVec 32 := Scalar.muli v95 c64_i32_35
  let v97 : BitVec 32 := Scalar.subi arg9 v96
  let v127 : Index := Scalar.indexCast v97
  let c48 : Index := 48#32
  ![v126.toNat, v127.toNat, 48]
def k1_off8 (i : grid1.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v3 : BitVec 32 := Scalar.muli v1 c2_i32_0
  let c0_i32 : BitVec 32 := 0#32
  let v4 : BitVec 32 := Scalar.addi v3 c0_i32
  let c0_i32_29_r3 : BitVec 32 := 0#32
  let c0_i32_30_r3 : BitVec 32 := 0#32
  let c0_i32_31_r3 : BitVec 32 := 0#32
  ![v4.toNat, 0, 0, 0]
def k1_off9 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_12 : BitVec 32 := 2#32
  let v41 : BitVec 32 := Scalar.muli v1 c2_i32_12
  let c1_i32_13 : BitVec 32 := 1#32
  let v42 : BitVec 32 := Scalar.addi v41 c1_i32_13
  let v60 : Index := Scalar.indexCast v42
  let c0_21 : Index := 0#32
  ![v60.toNat, 0]
def k1_mult3 (v63 : BitVec 32) : BitVec 32 :=
  v63

def k1_chk8 (v63 : BitVec 32) : Prop :=
  (8 ∣ (k1_mult3 v63).toNat)
theorem k1_mult3_dvd : ∀ (v63 : BitVec 32) (k1_hw8 : k1_chk8 v63), 8 ∣ (k1_mult3 v63).toNat := fun v63 k1_hw8 => k1_hw8

def k1_mult4 (v68 : BitVec 32) : BitVec 32 :=
  v68

def k1_chk9 (v68 : BitVec 32) : Prop :=
  (128 ∣ (k1_mult4 v68).toNat)
theorem k1_mult4_dvd : ∀ (v68 : BitVec 32) (k1_hw9 : k1_chk9 v68), 128 ∣ (k1_mult4 v68).toNat := fun v68 k1_hw9 => k1_hw9

def k1_off10 (i : grid1.Coords) (v63 : BitVec 32) (v68 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_12 : BitVec 32 := 2#32
  let v41 : BitVec 32 := Scalar.muli v1 c2_i32_12
  let c1_i32_13 : BitVec 32 := 1#32
  let v42 : BitVec 32 := Scalar.addi v41 c1_i32_13
  let c0_i32_15 : BitVec 32 := 0#32
  let v44 : BitVec 1 := Scalar.cmpi .sgt v42 c0_i32_15
  let v45 : BitVec 32 := Scalar.extui v44
  let c0_i32_16 : BitVec 32 := 0#32
  let v46 : BitVec 1 := Scalar.cmpi .slt v42 c0_i32_16
  let v47 : BitVec 32 := Scalar.extui v46
  let v48 : BitVec 32 := Scalar.subi v45 v47
  let c16_i32_14 : BitVec 32 := 16#32
  let c0_i32_17 : BitVec 32 := 0#32
  let v49 : BitVec 1 := Scalar.cmpi .sgt c16_i32_14 c0_i32_17
  let v50 : BitVec 32 := Scalar.extui v49
  let c0_i32_18 : BitVec 32 := 0#32
  let v51 : BitVec 1 := Scalar.cmpi .slt c16_i32_14 c0_i32_18
  let v52 : BitVec 32 := Scalar.extui v51
  let v53 : BitVec 32 := Scalar.subi v50 v52
  let v54 : BitVec 1 := Scalar.cmpi .ne v48 v53
  let v55 : BitVec 32 := Scalar.remsi v42 c16_i32_14
  let c0_i32_19 : BitVec 32 := 0#32
  let v56 : BitVec 1 := Scalar.cmpi .ne v55 c0_i32_19
  let v57 : BitVec 1 := Scalar.andi v54 v56
  let v43 : BitVec 32 := Scalar.divsi v42 c16_i32_14
  let c1_i32_20 : BitVec 32 := 1#32
  let v58 : BitVec 32 := Scalar.subi v43 c1_i32_20
  let v59 : BitVec 32 := Scalar.select v57 v58 v43
  let c0_i32_29_r4 : BitVec 32 := 0#32
  let v64 : BitVec 32 := v63
  let v69 : BitVec 32 := v68
  ![v59.toNat, 0, v64.toNat, v69.toNat]
def k1_cond2 (v73 : BitVec 32) : BitVec 1 :=
  let c1_i32_22 : BitVec 32 := 1#32
  let v74 : BitVec 1 := Scalar.cmpi .eq v73 c1_i32_22
  let v75 : BitVec 32 := Scalar.extui v74
  let c0_i32_23 : BitVec 32 := 0#32
  let v76 : BitVec 1 := Scalar.cmpi .ne v75 c0_i32_23
  v76

def k1_off11 (i : grid1.Coords) (v63 : BitVec 32) (v68 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_12 : BitVec 32 := 2#32
  let v41 : BitVec 32 := Scalar.muli v1 c2_i32_12
  let c1_i32_13 : BitVec 32 := 1#32
  let v42 : BitVec 32 := Scalar.addi v41 c1_i32_13
  let c0_i32_15 : BitVec 32 := 0#32
  let v44 : BitVec 1 := Scalar.cmpi .sgt v42 c0_i32_15
  let v45 : BitVec 32 := Scalar.extui v44
  let c0_i32_16 : BitVec 32 := 0#32
  let v46 : BitVec 1 := Scalar.cmpi .slt v42 c0_i32_16
  let v47 : BitVec 32 := Scalar.extui v46
  let v48 : BitVec 32 := Scalar.subi v45 v47
  let c16_i32_14 : BitVec 32 := 16#32
  let c0_i32_17 : BitVec 32 := 0#32
  let v49 : BitVec 1 := Scalar.cmpi .sgt c16_i32_14 c0_i32_17
  let v50 : BitVec 32 := Scalar.extui v49
  let c0_i32_18 : BitVec 32 := 0#32
  let v51 : BitVec 1 := Scalar.cmpi .slt c16_i32_14 c0_i32_18
  let v52 : BitVec 32 := Scalar.extui v51
  let v53 : BitVec 32 := Scalar.subi v50 v52
  let v54 : BitVec 1 := Scalar.cmpi .ne v48 v53
  let v55 : BitVec 32 := Scalar.remsi v42 c16_i32_14
  let c0_i32_19 : BitVec 32 := 0#32
  let v56 : BitVec 1 := Scalar.cmpi .ne v55 c0_i32_19
  let v57 : BitVec 1 := Scalar.andi v54 v56
  let v43 : BitVec 32 := Scalar.divsi v42 c16_i32_14
  let c1_i32_20 : BitVec 32 := 1#32
  let v58 : BitVec 32 := Scalar.subi v43 c1_i32_20
  let v59 : BitVec 32 := Scalar.select v57 v58 v43
  let c0_i32_29_r5 : BitVec 32 := 0#32
  let v64 : BitVec 32 := v63
  let v69 : BitVec 32 := v68
  ![v59.toNat, 0, v64.toNat, v69.toNat]

def k1_chk10 (i : grid1.Coords) (v63 : BitVec 32) (v68 : BitVec 32) (v73 : BitVec 32) : Prop :=
  (∀ (k1_h2 : k1_cond2 v73 = 1#1), ∀ a, (k1_off10 i v63 v68) a + S1x3x72x256.size a ≤ S4x3x512x512.size a) ∧
  (∀ (k1_h2 : ¬(k1_cond2 v73 = 1#1)), ∀ a, (k1_off11 i v63 v68) a + S1x3x72x256.size a ≤ S4x3x512x512.size a)
theorem k1_off10_inb : ∀ (i : grid1.Coords) (v63 : BitVec 32) (v68 : BitVec 32) (v73 : BitVec 32) (k1_hw10 : k1_chk10 i v63 v68 v73), ∀ (k1_h2 : k1_cond2 v73 = 1#1), ∀ a, (k1_off10 i v63 v68) a + S1x3x72x256.size a ≤ S4x3x512x512.size a := fun i v63 v68 v73 k1_hw10 k1_h2 => k1_hw10.1 k1_h2
theorem k1_off11_inb : ∀ (i : grid1.Coords) (v63 : BitVec 32) (v68 : BitVec 32) (v73 : BitVec 32) (k1_hw10 : k1_chk10 i v63 v68 v73), ∀ (k1_h2 : ¬(k1_cond2 v73 = 1#1)), ∀ a, (k1_off11 i v63 v68) a + S1x3x72x256.size a ≤ S4x3x512x512.size a := fun i v63 v68 v73 k1_hw10 k1_h2 => k1_hw10.2 k1_h2

@[reducible] def k1_t2_loop : Scf.Loop 32 :=
  let c0_i32_25 : BitVec 32 := 0#32
  let c192_i32_26 : BitVec 32 := 192#32
  let v77 : BitVec 32 := Scalar.addi c0_i32_25 c192_i32_26
  let c1_i32_27 : BitVec 32 := 1#32
  ⟨c0_i32_25, v77, c1_i32_27⟩

def k1_chk11 (v98 : IVec S16 32) (v100 : IVec S16 32) (v103 : IVec S16 32) : Prop :=
  (∀ a x, ((![v98, v100, v103] : Fin 3 → IVec S16 32) a x).toNat < S3x72x256.size a)
theorem k1_idx5_inb : ∀ (v98 : IVec S16 32) (v100 : IVec S16 32) (v103 : IVec S16 32) (k1_hw11 : k1_chk11 v98 v100 v103), ∀ a x, ((![v98, v100, v103] : Fin 3 → IVec S16 32) a x).toNat < S3x72x256.size a := fun v98 v100 v103 k1_hw11 => k1_hw11
def k1_off12 (k1_t2 : Fin k1_t2_loop.trips) : Fin 3 → Nat :=
  let c0_i32_25 : BitVec 32 := 0#32
  let c1_i32_27 : BitVec 32 := 1#32
  let arg9 : BitVec 32 := Scf.iv c0_i32_25 c1_i32_27 k1_t2
  let c0_i32_29 : BitVec 32 := 0#32
  let v80 : BitVec 1 := Scalar.cmpi .sgt arg9 c0_i32_29
  let v81 : BitVec 32 := Scalar.extui v80
  let c0_i32_30 : BitVec 32 := 0#32
  let v82 : BitVec 1 := Scalar.cmpi .slt arg9 c0_i32_30
  let v83 : BitVec 32 := Scalar.extui v82
  let v84 : BitVec 32 := Scalar.subi v81 v83
  let c64_i32 : BitVec 32 := 64#32
  let c0_i32_31 : BitVec 32 := 0#32
  let v85 : BitVec 1 := Scalar.cmpi .sgt c64_i32 c0_i32_31
  let v86 : BitVec 32 := Scalar.extui v85
  let c0_i32_32 : BitVec 32 := 0#32
  let v87 : BitVec 1 := Scalar.cmpi .slt c64_i32 c0_i32_32
  let v88 : BitVec 32 := Scalar.extui v87
  let v89 : BitVec 32 := Scalar.subi v86 v88
  let v90 : BitVec 1 := Scalar.cmpi .ne v84 v89
  let v91 : BitVec 32 := Scalar.remsi arg9 c64_i32
  let c0_i32_33 : BitVec 32 := 0#32
  let v92 : BitVec 1 := Scalar.cmpi .ne v91 c0_i32_33
  let v93 : BitVec 1 := Scalar.andi v90 v92
  let v79 : BitVec 32 := Scalar.divsi arg9 c64_i32
  let c1_i32_34 : BitVec 32 := 1#32
  let v94 : BitVec 32 := Scalar.subi v79 c1_i32_34
  let v95 : BitVec 32 := Scalar.select v93 v94 v79
  let v105 : Index := Scalar.indexCast v95
  let c64_i32_35 : BitVec 32 := 64#32
  let v96 : BitVec 32 := Scalar.muli v95 c64_i32_35
  let v97 : BitVec 32 := Scalar.subi arg9 v96
  let v106 : Index := Scalar.indexCast v97
  let c0_37 : Index := 0#32
  ![v105.toNat, v106.toNat, 0]

def k1_chk12 (v98 : IVec S16 32) (v100 : IVec S16 32) (v110 : IVec S16 32) : Prop :=
  (∀ a x, ((![v98, v100, v110] : Fin 3 → IVec S16 32) a x).toNat < S3x72x256.size a)
theorem k1_idx6_inb : ∀ (v98 : IVec S16 32) (v100 : IVec S16 32) (v110 : IVec S16 32) (k1_hw12 : k1_chk12 v98 v100 v110), ∀ a x, ((![v98, v100, v110] : Fin 3 → IVec S16 32) a x).toNat < S3x72x256.size a := fun v98 v100 v110 k1_hw12 => k1_hw12
def k1_off13 (k1_t2 : Fin k1_t2_loop.trips) : Fin 3 → Nat :=
  let c0_i32_25 : BitVec 32 := 0#32
  let c1_i32_27 : BitVec 32 := 1#32
  let arg9 : BitVec 32 := Scf.iv c0_i32_25 c1_i32_27 k1_t2
  let c0_i32_29 : BitVec 32 := 0#32
  let v80 : BitVec 1 := Scalar.cmpi .sgt arg9 c0_i32_29
  let v81 : BitVec 32 := Scalar.extui v80
  let c0_i32_30 : BitVec 32 := 0#32
  let v82 : BitVec 1 := Scalar.cmpi .slt arg9 c0_i32_30
  let v83 : BitVec 32 := Scalar.extui v82
  let v84 : BitVec 32 := Scalar.subi v81 v83
  let c64_i32 : BitVec 32 := 64#32
  let c0_i32_31 : BitVec 32 := 0#32
  let v85 : BitVec 1 := Scalar.cmpi .sgt c64_i32 c0_i32_31
  let v86 : BitVec 32 := Scalar.extui v85
  let c0_i32_32 : BitVec 32 := 0#32
  let v87 : BitVec 1 := Scalar.cmpi .slt c64_i32 c0_i32_32
  let v88 : BitVec 32 := Scalar.extui v87
  let v89 : BitVec 32 := Scalar.subi v86 v88
  let v90 : BitVec 1 := Scalar.cmpi .ne v84 v89
  let v91 : BitVec 32 := Scalar.remsi arg9 c64_i32
  let c0_i32_33 : BitVec 32 := 0#32
  let v92 : BitVec 1 := Scalar.cmpi .ne v91 c0_i32_33
  let v93 : BitVec 1 := Scalar.andi v90 v92
  let v79 : BitVec 32 := Scalar.divsi arg9 c64_i32
  let c1_i32_34 : BitVec 32 := 1#32
  let v94 : BitVec 32 := Scalar.subi v79 c1_i32_34
  let v95 : BitVec 32 := Scalar.select v93 v94 v79
  let v112 : Index := Scalar.indexCast v95
  let c64_i32_35 : BitVec 32 := 64#32
  let v96 : BitVec 32 := Scalar.muli v95 c64_i32_35
  let v97 : BitVec 32 := Scalar.subi arg9 v96
  let v113 : Index := Scalar.indexCast v97
  let c16 : Index := 16#32
  ![v112.toNat, v113.toNat, 16]

def k1_chk13 (v98 : IVec S16 32) (v100 : IVec S16 32) (v117 : IVec S16 32) : Prop :=
  (∀ a x, ((![v98, v100, v117] : Fin 3 → IVec S16 32) a x).toNat < S3x72x256.size a)
theorem k1_idx7_inb : ∀ (v98 : IVec S16 32) (v100 : IVec S16 32) (v117 : IVec S16 32) (k1_hw13 : k1_chk13 v98 v100 v117), ∀ a x, ((![v98, v100, v117] : Fin 3 → IVec S16 32) a x).toNat < S3x72x256.size a := fun v98 v100 v117 k1_hw13 => k1_hw13
def k1_off14 (k1_t2 : Fin k1_t2_loop.trips) : Fin 3 → Nat :=
  let c0_i32_25 : BitVec 32 := 0#32
  let c1_i32_27 : BitVec 32 := 1#32
  let arg9 : BitVec 32 := Scf.iv c0_i32_25 c1_i32_27 k1_t2
  let c0_i32_29 : BitVec 32 := 0#32
  let v80 : BitVec 1 := Scalar.cmpi .sgt arg9 c0_i32_29
  let v81 : BitVec 32 := Scalar.extui v80
  let c0_i32_30 : BitVec 32 := 0#32
  let v82 : BitVec 1 := Scalar.cmpi .slt arg9 c0_i32_30
  let v83 : BitVec 32 := Scalar.extui v82
  let v84 : BitVec 32 := Scalar.subi v81 v83
  let c64_i32 : BitVec 32 := 64#32
  let c0_i32_31 : BitVec 32 := 0#32
  let v85 : BitVec 1 := Scalar.cmpi .sgt c64_i32 c0_i32_31
  let v86 : BitVec 32 := Scalar.extui v85
  let c0_i32_32 : BitVec 32 := 0#32
  let v87 : BitVec 1 := Scalar.cmpi .slt c64_i32 c0_i32_32
  let v88 : BitVec 32 := Scalar.extui v87
  let v89 : BitVec 32 := Scalar.subi v86 v88
  let v90 : BitVec 1 := Scalar.cmpi .ne v84 v89
  let v91 : BitVec 32 := Scalar.remsi arg9 c64_i32
  let c0_i32_33 : BitVec 32 := 0#32
  let v92 : BitVec 1 := Scalar.cmpi .ne v91 c0_i32_33
  let v93 : BitVec 1 := Scalar.andi v90 v92
  let v79 : BitVec 32 := Scalar.divsi arg9 c64_i32
  let c1_i32_34 : BitVec 32 := 1#32
  let v94 : BitVec 32 := Scalar.subi v79 c1_i32_34
  let v95 : BitVec 32 := Scalar.select v93 v94 v79
  let v119 : Index := Scalar.indexCast v95
  let c64_i32_35 : BitVec 32 := 64#32
  let v96 : BitVec 32 := Scalar.muli v95 c64_i32_35
  let v97 : BitVec 32 := Scalar.subi arg9 v96
  let v120 : Index := Scalar.indexCast v97
  let c32 : Index := 32#32
  ![v119.toNat, v120.toNat, 32]

def k1_chk14 (v98 : IVec S16 32) (v100 : IVec S16 32) (v124 : IVec S16 32) : Prop :=
  (∀ a x, ((![v98, v100, v124] : Fin 3 → IVec S16 32) a x).toNat < S3x72x256.size a)
theorem k1_idx8_inb : ∀ (v98 : IVec S16 32) (v100 : IVec S16 32) (v124 : IVec S16 32) (k1_hw14 : k1_chk14 v98 v100 v124), ∀ a x, ((![v98, v100, v124] : Fin 3 → IVec S16 32) a x).toNat < S3x72x256.size a := fun v98 v100 v124 k1_hw14 => k1_hw14
def k1_off15 (k1_t2 : Fin k1_t2_loop.trips) : Fin 3 → Nat :=
  let c0_i32_25 : BitVec 32 := 0#32
  let c1_i32_27 : BitVec 32 := 1#32
  let arg9 : BitVec 32 := Scf.iv c0_i32_25 c1_i32_27 k1_t2
  let c0_i32_29 : BitVec 32 := 0#32
  let v80 : BitVec 1 := Scalar.cmpi .sgt arg9 c0_i32_29
  let v81 : BitVec 32 := Scalar.extui v80
  let c0_i32_30 : BitVec 32 := 0#32
  let v82 : BitVec 1 := Scalar.cmpi .slt arg9 c0_i32_30
  let v83 : BitVec 32 := Scalar.extui v82
  let v84 : BitVec 32 := Scalar.subi v81 v83
  let c64_i32 : BitVec 32 := 64#32
  let c0_i32_31 : BitVec 32 := 0#32
  let v85 : BitVec 1 := Scalar.cmpi .sgt c64_i32 c0_i32_31
  let v86 : BitVec 32 := Scalar.extui v85
  let c0_i32_32 : BitVec 32 := 0#32
  let v87 : BitVec 1 := Scalar.cmpi .slt c64_i32 c0_i32_32
  let v88 : BitVec 32 := Scalar.extui v87
  let v89 : BitVec 32 := Scalar.subi v86 v88
  let v90 : BitVec 1 := Scalar.cmpi .ne v84 v89
  let v91 : BitVec 32 := Scalar.remsi arg9 c64_i32
  let c0_i32_33 : BitVec 32 := 0#32
  let v92 : BitVec 1 := Scalar.cmpi .ne v91 c0_i32_33
  let v93 : BitVec 1 := Scalar.andi v90 v92
  let v79 : BitVec 32 := Scalar.divsi arg9 c64_i32
  let c1_i32_34 : BitVec 32 := 1#32
  let v94 : BitVec 32 := Scalar.subi v79 c1_i32_34
  let v95 : BitVec 32 := Scalar.select v93 v94 v79
  let v126 : Index := Scalar.indexCast v95
  let c64_i32_35 : BitVec 32 := 64#32
  let v96 : BitVec 32 := Scalar.muli v95 c64_i32_35
  let v97 : BitVec 32 := Scalar.subi arg9 v96
  let v127 : Index := Scalar.indexCast v97
  let c48 : Index := 48#32
  ![v126.toNat, v127.toNat, 48]
def k1_off16 (i : grid1.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_12 : BitVec 32 := 2#32
  let v41 : BitVec 32 := Scalar.muli v1 c2_i32_12
  let c1_i32_13 : BitVec 32 := 1#32
  let v42 : BitVec 32 := Scalar.addi v41 c1_i32_13
  let c0_i32_29_r6 : BitVec 32 := 0#32
  let c0_i32_30_r6 : BitVec 32 := 0#32
  let c0_i32_31_r6 : BitVec 32 := 0#32
  ![v42.toNat, 0, 0, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x64x64 : Shape := ⟨3, ![4, 64, 64]⟩
abbrev S4x64x64x3 : Shape := ⟨4, ![4, 64, 64, 3]⟩
abbrev S4x32x32x3 : Shape := ⟨4, ![4, 32, 32, 3]⟩
abbrev S4x512x512x3 : Shape := ⟨4, ![4, 512, 512, 3]⟩
abbrev S4x4096 : Shape := ⟨2, ![4, 4096]⟩
abbrev S_ : Shape := ⟨0, ![]⟩
abbrev S4 : Shape := ⟨1, ![4]⟩
abbrev S4x1 : Shape := ⟨2, ![4, 1]⟩
abbrev S4x16 : Shape := ⟨2, ![4, 16]⟩
abbrev S4x16x1 : Shape := ⟨3, ![4, 16, 1]⟩
abbrev S1 : Shape := ⟨1, ![1]⟩
abbrev S1x1x1 : Shape := ⟨3, ![1, 1, 1]⟩
abbrev S4x16x2 : Shape := ⟨3, ![4, 16, 2]⟩
abbrev S16x1 : Shape := ⟨2, ![16, 1]⟩
abbrev S4x16x3 : Shape := ⟨3, ![4, 16, 3]⟩
abbrev S4x16x64x64x3 : Shape := ⟨5, ![4, 16, 64, 64, 3]⟩
abbrev S4x16x1x1x1 : Shape := ⟨5, ![4, 16, 1, 1, 1]⟩

abbrev nBuf : Space → Nat
  | .hbm => 263
  | .vmem => 0
  | .smem => 0
  | _ => 0

abbrev hbmTy0_0 (i : Nat) : BufTy := match i % 128 with
  | 0 => ⟨S4x64x64, .f32⟩
  | 1 => ⟨S4x64x64, .i32⟩
  | 2 => ⟨S4x64x64x3, .f32⟩
  | 3 => ⟨S4x32x32x3, .f32⟩
  | 4 => ⟨S4x512x512x3, .f32⟩
  | 5 => ⟨S4x512x512x3, .f32⟩
  | 6 => ⟨S4x4096, .f32⟩
  | 7 => ⟨S4x4096, .f32⟩
  | 8 => ⟨S_, .f32⟩
  | 9 => ⟨S4, .f32⟩
  | 10 => ⟨S4x1, .f32⟩
  | 11 => ⟨S4x4096, .f32⟩
  | 12 => ⟨S4x4096, .f32⟩
  | 13 => ⟨S4x4096, .f32⟩
  | 14 => ⟨S4x4096, .f32⟩
  | 15 => ⟨S4x4096, .f32⟩
  | 16 => ⟨S4x4096, .i32⟩
  | 17 => ⟨S4x4096, .f32⟩
  | 18 => ⟨S4x4096, .i32⟩
  | 19 => ⟨S4x16, .i32⟩
  | 20 => ⟨S_, .i32⟩
  | 21 => ⟨S4x16, .i32⟩
  | 22 => ⟨S4x16, .i1⟩
  | 23 => ⟨S_, .i32⟩
  | 24 => ⟨S4x16, .i32⟩
  | 25 => ⟨S4x16, .i32⟩
  | 26 => ⟨S4x16, .i32⟩
  | 27 => ⟨S4x16x1, .i32⟩
  | 28 => ⟨S1, .i32⟩
  | 29 => ⟨S_, .i32⟩
  | 30 => ⟨S4x16x1, .i32⟩
  | 31 => ⟨S4x16x1, .i1⟩
  | 32 => ⟨S1x1x1, .i32⟩
  | 33 => ⟨S4x16x1, .i32⟩
  | 34 => ⟨S4x16x1, .i1⟩
  | 35 => ⟨S4x16x1, .i1⟩
  | 36 => ⟨S_, .i1⟩
  | 37 => ⟨S4x16, .i1⟩
  | 38 => ⟨S4x16, .f32⟩
  | 39 => ⟨S_, .f32⟩
  | 40 => ⟨S4x16, .f32⟩
  | 41 => ⟨S4x16, .f32⟩
  | 42 => ⟨S_, .i32⟩
  | 43 => ⟨S_, .i32⟩
  | 44 => ⟨S4x16, .i32⟩
  | 45 => ⟨S4x16, .i32⟩
  | 46 => ⟨S4x16, .i32⟩
  | 47 => ⟨S_, .i32⟩
  | 48 => ⟨S4x16, .i32⟩
  | 49 => ⟨S4x16, .i1⟩
  | 50 => ⟨S4x16, .i32⟩
  | 51 => ⟨S4x16, .i32⟩
  | 52 => ⟨S_, .i32⟩
  | 53 => ⟨S4x16, .i32⟩
  | 54 => ⟨S4x16, .i1⟩
  | 55 => ⟨S4x16, .i1⟩
  | 56 => ⟨S_, .i32⟩
  | 57 => ⟨S4x16, .i32⟩
  | 58 => ⟨S4x16, .i32⟩
  | 59 => ⟨S4x16, .i32⟩
  | 60 => ⟨S4x16, .f32⟩
  | 61 => ⟨S_, .i32⟩
  | 62 => ⟨S_, .i32⟩
  | 63 => ⟨S_, .i32⟩
  | 64 => ⟨S_, .i1⟩
  | 65 => ⟨S_, .i32⟩
  | 66 => ⟨S_, .i32⟩
  | 67 => ⟨S4x16, .i32⟩
  | 68 => ⟨S4x16, .i32⟩
  | 69 => ⟨S_, .i32⟩
  | 70 => ⟨S4x16, .i32⟩
  | 71 => ⟨S4x16, .i1⟩
  | 72 => ⟨S_, .i32⟩
  | 73 => ⟨S4x16, .i32⟩
  | 74 => ⟨S4x16, .i1⟩
  | 75 => ⟨S_, .i32⟩
  | 76 => ⟨S_, .i1⟩
  | 77 => ⟨S4x16, .i1⟩
  | 78 => ⟨S4x16, .i1⟩
  | 79 => ⟨S4x16, .i1⟩
  | 80 => ⟨S4x16, .i32⟩
  | 81 => ⟨S4x16, .i32⟩
  | 82 => ⟨S4x16, .i32⟩
  | 83 => ⟨S4x16, .f32⟩
  | 84 => ⟨S4x16x1, .f32⟩
  | 85 => ⟨S4x16x1, .f32⟩
  | 86 => ⟨S4x16x2, .f32⟩
  | 87 => ⟨S4x4096, .i32⟩
  | 88 => ⟨S_, .i32⟩
  | 89 => ⟨S4x16, .i32⟩
  | 90 => ⟨S4x16, .i1⟩
  | 91 => ⟨S_, .i32⟩
  | 92 => ⟨S4x16, .i32⟩
  | 93 => ⟨S4x16, .i32⟩
  | 94 => ⟨S4x16, .i32⟩
  | 95 => ⟨S4x16x1, .i32⟩
  | 96 => ⟨S1, .i32⟩
  | 97 => ⟨S_, .i32⟩
  | 98 => ⟨S4x16x1, .i32⟩
  | 99 => ⟨S4x16x1, .i1⟩
  | 100 => ⟨S1x1x1, .i32⟩
  | 101 => ⟨S4x16x1, .i32⟩
  | 102 => ⟨S4x16x1, .i1⟩
  | 103 => ⟨S4x16x1, .i1⟩
  | 104 => ⟨S_, .i1⟩
  | 105 => ⟨S4x16, .i1⟩
  | 106 => ⟨S4x16, .i32⟩
  | 107 => ⟨S_, .i32⟩
  | 108 => ⟨S4x16, .i32⟩
  | 109 => ⟨S4x16, .i32⟩
  | 110 => ⟨S_, .f32⟩
  | 111 => ⟨S4x16x2, .f32⟩
  | 112 => ⟨S4x16x2, .f32⟩
  | 113 => ⟨S4x16x1, .f32⟩
  | 114 => ⟨S4x16, .f32⟩
  | 115 => ⟨S_, .f32⟩
  | 116 => ⟨S4x16, .f32⟩
  | 117 => ⟨S4x16, .f32⟩
  | 118 => ⟨S_, .f32⟩
  | 119 => ⟨S4x16, .f32⟩
  | 120 => ⟨S4x16, .f32⟩
  | 121 => ⟨S_, .f32⟩
  | 122 => ⟨S4x16, .f32⟩
  | 123 => ⟨S4x16, .f32⟩
  | 124 => ⟨S4x16x1, .f32⟩
  | 125 => ⟨S4x16, .f32⟩
  | 126 => ⟨S_, .f32⟩
  | 127 => ⟨S4x16, .f32⟩
  | _ => ⟨S4x64x64, .f32⟩

abbrev hbmTy0_1 (i : Nat) : BufTy := match i % 128 with
  | 0 => ⟨S4x16, .f32⟩
  | 1 => ⟨S_, .f32⟩
  | 2 => ⟨S4x16, .f32⟩
  | 3 => ⟨S4x16, .f32⟩
  | 4 => ⟨S_, .f32⟩
  | 5 => ⟨S4x16, .f32⟩
  | 6 => ⟨S4x16, .f32⟩
  | 7 => ⟨S4x16, .i32⟩
  | 8 => ⟨S_, .i32⟩
  | 9 => ⟨S_, .i32⟩
  | 10 => ⟨S_, .i32⟩
  | 11 => ⟨S4x16, .i32⟩
  | 12 => ⟨S4x16, .i32⟩
  | 13 => ⟨S_, .i32⟩
  | 14 => ⟨S4x16, .i32⟩
  | 15 => ⟨S4x16, .i32⟩
  | 16 => ⟨S4x16, .i32⟩
  | 17 => ⟨S_, .i32⟩
  | 18 => ⟨S_, .i32⟩
  | 19 => ⟨S_, .i32⟩
  | 20 => ⟨S4x16, .i32⟩
  | 21 => ⟨S4x16, .i32⟩
  | 22 => ⟨S_, .i32⟩
  | 23 => ⟨S4x16, .i32⟩
  | 24 => ⟨S4x16, .i32⟩
  | 25 => ⟨S_, .i32⟩
  | 26 => ⟨S4x16, .i32⟩
  | 27 => ⟨S4x16, .i1⟩
  | 28 => ⟨S_, .i32⟩
  | 29 => ⟨S4x16, .i32⟩
  | 30 => ⟨S4x16, .i32⟩
  | 31 => ⟨S4x16, .i32⟩
  | 32 => ⟨S_, .i32⟩
  | 33 => ⟨S4x16, .i32⟩
  | 34 => ⟨S4x16, .i1⟩
  | 35 => ⟨S_, .i32⟩
  | 36 => ⟨S4x16, .i32⟩
  | 37 => ⟨S4x16, .i32⟩
  | 38 => ⟨S4x16, .i32⟩
  | 39 => ⟨S_, .i32⟩
  | 40 => ⟨S_, .i32⟩
  | 41 => ⟨S_, .i1⟩
  | 42 => ⟨S_, .i32⟩
  | 43 => ⟨S_, .i32⟩
  | 44 => ⟨S_, .i32⟩
  | 45 => ⟨S_, .i32⟩
  | 46 => ⟨S_, .i32⟩
  | 47 => ⟨S4x16x1, .i32⟩
  | 48 => ⟨S4x16x1, .i32⟩
  | 49 => ⟨S16x1, .i32⟩
  | 50 => ⟨S4x16x1, .i32⟩
  | 51 => ⟨S4x16x3, .i32⟩
  | 52 => ⟨S4x16x64x64x3, .f32⟩
  | 53 => ⟨S_, .f32⟩
  | 54 => ⟨S4x16x2, .f32⟩
  | 55 => ⟨S4x16x2, .f32⟩
  | 56 => ⟨S4x16x1, .f32⟩
  | 57 => ⟨S4x16, .f32⟩
  | 58 => ⟨S_, .f32⟩
  | 59 => ⟨S4x16, .f32⟩
  | 60 => ⟨S4x16, .f32⟩
  | 61 => ⟨S_, .f32⟩
  | 62 => ⟨S4x16, .f32⟩
  | 63 => ⟨S4x16, .f32⟩
  | 64 => ⟨S_, .f32⟩
  | 65 => ⟨S4x16, .f32⟩
  | 66 => ⟨S4x16, .f32⟩
  | 67 => ⟨S4x16x1, .f32⟩
  | 68 => ⟨S4x16, .f32⟩
  | 69 => ⟨S_, .f32⟩
  | 70 => ⟨S4x16, .f32⟩
  | 71 => ⟨S4x16, .f32⟩
  | 72 => ⟨S_, .f32⟩
  | 73 => ⟨S4x16, .f32⟩
  | 74 => ⟨S4x16, .f32⟩
  | 75 => ⟨S_, .f32⟩
  | 76 => ⟨S4x16, .f32⟩
  | 77 => ⟨S4x16, .f32⟩
  | 78 => ⟨S4x16, .i32⟩
  | 79 => ⟨S_, .i32⟩
  | 80 => ⟨S_, .i32⟩
  | 81 => ⟨S_, .i32⟩
  | 82 => ⟨S4x16, .i32⟩
  | 83 => ⟨S4x16, .i32⟩
  | 84 => ⟨S_, .i32⟩
  | 85 => ⟨S4x16, .i32⟩
  | 86 => ⟨S4x16, .i32⟩
  | 87 => ⟨S4x16, .i32⟩
  | 88 => ⟨S_, .i32⟩
  | 89 => ⟨S_, .i32⟩
  | 90 => ⟨S_, .i32⟩
  | 91 => ⟨S4x16, .i32⟩
  | 92 => ⟨S4x16, .i32⟩
  | 93 => ⟨S_, .i32⟩
  | 94 => ⟨S4x16, .i32⟩
  | 95 => ⟨S4x16, .i32⟩
  | 96 => ⟨S_, .i32⟩
  | 97 => ⟨S4x16, .i32⟩
  | 98 => ⟨S4x16, .i1⟩
  | 99 => ⟨S_, .i32⟩
  | 100 => ⟨S4x16, .i32⟩
  | 101 => ⟨S4x16, .i32⟩
  | 102 => ⟨S4x16, .i32⟩
  | 103 => ⟨S_, .i32⟩
  | 104 => ⟨S4x16, .i32⟩
  | 105 => ⟨S4x16, .i1⟩
  | 106 => ⟨S_, .i32⟩
  | 107 => ⟨S4x16, .i32⟩
  | 108 => ⟨S4x16, .i32⟩
  | 109 => ⟨S4x16, .i32⟩
  | 110 => ⟨S_, .i32⟩
  | 111 => ⟨S_, .i32⟩
  | 112 => ⟨S_, .i1⟩
  | 113 => ⟨S_, .i32⟩
  | 114 => ⟨S_, .i32⟩
  | 115 => ⟨S_, .i32⟩
  | 116 => ⟨S_, .i32⟩
  | 117 => ⟨S_, .i32⟩
  | 118 => ⟨S4x16x1, .i32⟩
  | 119 => ⟨S4x16x1, .i32⟩
  | 120 => ⟨S16x1, .i32⟩
  | 121 => ⟨S4x16x1, .i32⟩
  | 122 => ⟨S4x16x3, .i32⟩
  | 123 => ⟨S4x16x64x64x3, .f32⟩
  | 124 => ⟨S_, .i32⟩
  | 125 => ⟨S4x16, .i32⟩
  | 126 => ⟨S4x16, .i1⟩
  | 127 => ⟨S4x16x1x1x1, .i1⟩
  | _ => ⟨S4x64x64, .f32⟩

abbrev hbmTy0_2 (i : Nat) : BufTy := match i % 128 with
  | 0 => ⟨S4x16x64x64x3, .i1⟩
  | 1 => ⟨S4x16x64x64x3, .f32⟩
  | 2 => ⟨S4x16x1, .i1⟩
  | 3 => ⟨S4x16x2, .i1⟩
  | 4 => ⟨S4x16x2, .f32⟩
  | 5 => ⟨S_, .f32⟩
  | 6 => ⟨S4x16x2, .f32⟩
  | _ => ⟨S4x64x64, .f32⟩

abbrev hbmTy (i : Nat) : BufTy := match i / 128 with
  | 0 => hbmTy0_0 i
  | 1 => hbmTy0_1 i
  | 2 => hbmTy0_2 i
  | _ => ⟨S4x64x64, .f32⟩

abbrev bufTy : (tb : Table) → Fin (tcTables nBuf tb) → BufTy
  | .hbm, ⟨i, _⟩ => hbmTy i
  | _, _ => ⟨S4x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_call0_v0 : Ref sig .tc := ⟨.hbm, 16, rfl⟩
abbrev main_call0_v1_0 : Ref sig .tc := ⟨.hbm, 17, rfl⟩
abbrev main_v8 : Ref sig .tc := ⟨.hbm, 18, rfl⟩
abbrev main_v9 : Ref sig .tc := ⟨.hbm, 19, rfl⟩
abbrev main_call1_c : Ref sig .tc := ⟨.hbm, 20, rfl⟩
abbrev main_call1_v0 : Ref sig .tc := ⟨.hbm, 21, rfl⟩
abbrev main_call1_v1 : Ref sig .tc := ⟨.hbm, 22, rfl⟩
abbrev main_call1_c_0 : Ref sig .tc := ⟨.hbm, 23, rfl⟩
abbrev main_call1_v2 : Ref sig .tc := ⟨.hbm, 24, rfl⟩
abbrev main_call1_v3 : Ref sig .tc := ⟨.hbm, 25, rfl⟩
abbrev main_call1_v4 : Ref sig .tc := ⟨.hbm, 26, rfl⟩
abbrev main_call1_v5 : Ref sig .tc := ⟨.hbm, 27, rfl⟩
abbrev main_call1_c_1 : Ref sig .tc := ⟨.hbm, 28, rfl⟩
abbrev main_call1_c_2 : Ref sig .tc := ⟨.hbm, 29, rfl⟩
abbrev main_call1_v6 : Ref sig .tc := ⟨.hbm, 30, rfl⟩
abbrev main_call1_v7 : Ref sig .tc := ⟨.hbm, 31, rfl⟩
abbrev main_call1_v8 : Ref sig .tc := ⟨.hbm, 32, rfl⟩
abbrev main_call1_v9 : Ref sig .tc := ⟨.hbm, 33, rfl⟩
abbrev main_call1_v10 : Ref sig .tc := ⟨.hbm, 34, rfl⟩
abbrev main_call1_v11 : Ref sig .tc := ⟨.hbm, 35, rfl⟩
abbrev main_call1_c_3 : Ref sig .tc := ⟨.hbm, 36, rfl⟩
abbrev main_call1_v12 : Ref sig .tc := ⟨.hbm, 37, rfl⟩
abbrev main_call1_v13 : Ref sig .tc := ⟨.hbm, 38, rfl⟩
abbrev main_call1_cst : Ref sig .tc := ⟨.hbm, 39, rfl⟩
abbrev main_call1_v14 : Ref sig .tc := ⟨.hbm, 40, rfl⟩
abbrev main_v10 : Ref sig .tc := ⟨.hbm, 41, rfl⟩
abbrev main_c : Ref sig .tc := ⟨.hbm, 42, rfl⟩
abbrev main_call2_v0 : Ref sig .tc := ⟨.hbm, 43, rfl⟩
abbrev main_call2_v1 : Ref sig .tc := ⟨.hbm, 44, rfl⟩
abbrev main_call2_v2 : Ref sig .tc := ⟨.hbm, 45, rfl⟩
abbrev main_call2_v3 : Ref sig .tc := ⟨.hbm, 46, rfl⟩
abbrev main_call2_v4 : Ref sig .tc := ⟨.hbm, 47, rfl⟩
abbrev main_call2_v5 : Ref sig .tc := ⟨.hbm, 48, rfl⟩
abbrev main_call2_v6 : Ref sig .tc := ⟨.hbm, 49, rfl⟩
abbrev main_call2_v7 : Ref sig .tc := ⟨.hbm, 50, rfl⟩
abbrev main_call2_v8 : Ref sig .tc := ⟨.hbm, 51, rfl⟩
abbrev main_call2_c : Ref sig .tc := ⟨.hbm, 52, rfl⟩
abbrev main_call2_v9 : Ref sig .tc := ⟨.hbm, 53, rfl⟩
abbrev main_call2_v10 : Ref sig .tc := ⟨.hbm, 54, rfl⟩
abbrev main_call2_v11 : Ref sig .tc := ⟨.hbm, 55, rfl⟩
abbrev main_call2_c_0 : Ref sig .tc := ⟨.hbm, 56, rfl⟩
abbrev main_call2_v12 : Ref sig .tc := ⟨.hbm, 57, rfl⟩
abbrev main_call2_v13 : Ref sig .tc := ⟨.hbm, 58, rfl⟩
abbrev main_v11 : Ref sig .tc := ⟨.hbm, 59, rfl⟩
abbrev main_v12 : Ref sig .tc := ⟨.hbm, 60, rfl⟩
abbrev main_c_0 : Ref sig .tc := ⟨.hbm, 61, rfl⟩
abbrev main_call3_v0 : Ref sig .tc := ⟨.hbm, 62, rfl⟩
abbrev main_call3_c : Ref sig .tc := ⟨.hbm, 63, rfl⟩
abbrev main_call3_v1 : Ref sig .tc := ⟨.hbm, 64, rfl⟩
abbrev main_call3_c_0 : Ref sig .tc := ⟨.hbm, 65, rfl⟩
abbrev main_call3_v2 : Ref sig .tc := ⟨.hbm, 66, rfl⟩
abbrev main_call3_v3 : Ref sig .tc := ⟨.hbm, 67, rfl⟩
abbrev main_call3_v4 : Ref sig .tc := ⟨.hbm, 68, rfl⟩
abbrev main_call3_c_1 : Ref sig .tc := ⟨.hbm, 69, rfl⟩
abbrev main_call3_v5 : Ref sig .tc := ⟨.hbm, 70, rfl⟩
abbrev main_call3_v6 : Ref sig .tc := ⟨.hbm, 71, rfl⟩
abbrev main_call3_c_2 : Ref sig .tc := ⟨.hbm, 72, rfl⟩
abbrev main_call3_v7 : Ref sig .tc := ⟨.hbm, 73, rfl⟩
abbrev main_call3_v8 : Ref sig .tc := ⟨.hbm, 74, rfl⟩
abbrev main_call3_c_3 : Ref sig .tc := ⟨.hbm, 75, rfl⟩
abbrev main_call3_v9 : Ref sig .tc := ⟨.hbm, 76, rfl⟩
abbrev main_call3_v10 : Ref sig .tc := ⟨.hbm, 77, rfl⟩
abbrev main_call3_v11 : Ref sig .tc := ⟨.hbm, 78, rfl⟩
abbrev main_call3_v12 : Ref sig .tc := ⟨.hbm, 79, rfl⟩
abbrev main_call3_v13 : Ref sig .tc := ⟨.hbm, 80, rfl⟩
abbrev main_call3_v14 : Ref sig .tc := ⟨.hbm, 81, rfl⟩
abbrev main_v13 : Ref sig .tc := ⟨.hbm, 82, rfl⟩
abbrev main_v14 : Ref sig .tc := ⟨.hbm, 83, rfl⟩
abbrev main_v15 : Ref sig .tc := ⟨.hbm, 84, rfl⟩
abbrev main_v16 : Ref sig .tc := ⟨.hbm, 85, rfl⟩
abbrev main_v17 : Ref sig .tc := ⟨.hbm, 86, rfl⟩
abbrev main_v18 : Ref sig .tc := ⟨.hbm, 87, rfl⟩
abbrev main_call4_c : Ref sig .tc := ⟨.hbm, 88, rfl⟩
abbrev main_call4_v0 : Ref sig .tc := ⟨.hbm, 89, rfl⟩
abbrev main_call4_v1 : Ref sig .tc := ⟨.hbm, 90, rfl⟩
abbrev main_call4_c_0 : Ref sig .tc := ⟨.hbm, 91, rfl⟩
abbrev main_call4_v2 : Ref sig .tc := ⟨.hbm, 92, rfl⟩
abbrev main_call4_v3 : Ref sig .tc := ⟨.hbm, 93, rfl⟩
abbrev main_call4_v4 : Ref sig .tc := ⟨.hbm, 94, rfl⟩
abbrev main_call4_v5 : Ref sig .tc := ⟨.hbm, 95, rfl⟩
abbrev main_call4_c_1 : Ref sig .tc := ⟨.hbm, 96, rfl⟩
abbrev main_call4_c_2 : Ref sig .tc := ⟨.hbm, 97, rfl⟩
abbrev main_call4_v6 : Ref sig .tc := ⟨.hbm, 98, rfl⟩
abbrev main_call4_v7 : Ref sig .tc := ⟨.hbm, 99, rfl⟩
abbrev main_call4_v8 : Ref sig .tc := ⟨.hbm, 100, rfl⟩
abbrev main_call4_v9 : Ref sig .tc := ⟨.hbm, 101, rfl⟩
abbrev main_call4_v10 : Ref sig .tc := ⟨.hbm, 102, rfl⟩
abbrev main_call4_v11 : Ref sig .tc := ⟨.hbm, 103, rfl⟩
abbrev main_call4_c_3 : Ref sig .tc := ⟨.hbm, 104, rfl⟩
abbrev main_call4_v12 : Ref sig .tc := ⟨.hbm, 105, rfl⟩
abbrev main_call4_v13 : Ref sig .tc := ⟨.hbm, 106, rfl⟩
abbrev main_call4_c_4 : Ref sig .tc := ⟨.hbm, 107, rfl⟩
abbrev main_call4_v14 : Ref sig .tc := ⟨.hbm, 108, rfl⟩
abbrev main_v19 : Ref sig .tc := ⟨.hbm, 109, rfl⟩
abbrev main_cst_1 : Ref sig .tc := ⟨.hbm, 110, rfl⟩
abbrev main_v20 : Ref sig .tc := ⟨.hbm, 111, rfl⟩
abbrev main_v21 : Ref sig .tc := ⟨.hbm, 112, rfl⟩
abbrev main_v22 : Ref sig .tc := ⟨.hbm, 113, rfl⟩
abbrev main_v23 : Ref sig .tc := ⟨.hbm, 114, rfl⟩
abbrev main_cst_2 : Ref sig .tc := ⟨.hbm, 115, rfl⟩
abbrev main_v24 : Ref sig .tc := ⟨.hbm, 116, rfl⟩
abbrev main_v25 : Ref sig .tc := ⟨.hbm, 117, rfl⟩
abbrev main_cst_3 : Ref sig .tc := ⟨.hbm, 118, rfl⟩
abbrev main_v26 : Ref sig .tc := ⟨.hbm, 119, rfl⟩
abbrev main_v27 : Ref sig .tc := ⟨.hbm, 120, rfl⟩
abbrev main_cst_4 : Ref sig .tc := ⟨.hbm, 121, rfl⟩
abbrev main_v28 : Ref sig .tc := ⟨.hbm, 122, rfl⟩
abbrev main_v29 : Ref sig .tc := ⟨.hbm, 123, rfl⟩
abbrev main_v30 : Ref sig .tc := ⟨.hbm, 124, rfl⟩
abbrev main_v31 : Ref sig .tc := ⟨.hbm, 125, rfl⟩
abbrev main_cst_5 : Ref sig .tc := ⟨.hbm, 126, rfl⟩
abbrev main_v32 : Ref sig .tc := ⟨.hbm, 127, rfl⟩
abbrev main_v33 : Ref sig .tc := ⟨.hbm, 128, rfl⟩
abbrev main_cst_6 : Ref sig .tc := ⟨.hbm, 129, rfl⟩
abbrev main_v34 : Ref sig .tc := ⟨.hbm, 130, rfl⟩
abbrev main_v35 : Ref sig .tc := ⟨.hbm, 131, rfl⟩
abbrev main_cst_7 : Ref sig .tc := ⟨.hbm, 132, rfl⟩
abbrev main_v36 : Ref sig .tc := ⟨.hbm, 133, rfl⟩
abbrev main_v37 : Ref sig .tc := ⟨.hbm, 134, rfl⟩
abbrev main_v38 : Ref sig .tc := ⟨.hbm, 135, rfl⟩
abbrev main_c_8 : Ref sig .tc := ⟨.hbm, 136, rfl⟩
abbrev main_c_9 : Ref sig .tc := ⟨.hbm, 137, rfl⟩
abbrev main_call5_v0 : Ref sig .tc := ⟨.hbm, 138, rfl⟩
abbrev main_call5_v1 : Ref sig .tc := ⟨.hbm, 139, rfl⟩
abbrev main_call5_v2 : Ref sig .tc := ⟨.hbm, 140, rfl⟩
abbrev main_call5_v3 : Ref sig .tc := ⟨.hbm, 141, rfl⟩
abbrev main_call5_v4 : Ref sig .tc := ⟨.hbm, 142, rfl⟩
abbrev main_v39 : Ref sig .tc := ⟨.hbm, 143, rfl⟩
abbrev main_v40 : Ref sig .tc := ⟨.hbm, 144, rfl⟩
abbrev main_c_10 : Ref sig .tc := ⟨.hbm, 145, rfl⟩
abbrev main_c_11 : Ref sig .tc := ⟨.hbm, 146, rfl⟩
abbrev main_call6_v0 : Ref sig .tc := ⟨.hbm, 147, rfl⟩
abbrev main_call6_v1 : Ref sig .tc := ⟨.hbm, 148, rfl⟩
abbrev main_call6_v2 : Ref sig .tc := ⟨.hbm, 149, rfl⟩
abbrev main_call6_v3 : Ref sig .tc := ⟨.hbm, 150, rfl⟩
abbrev main_call6_v4 : Ref sig .tc := ⟨.hbm, 151, rfl⟩
abbrev main_v41 : Ref sig .tc := ⟨.hbm, 152, rfl⟩
abbrev main_c_12 : Ref sig .tc := ⟨.hbm, 153, rfl⟩
abbrev main_v42 : Ref sig .tc := ⟨.hbm, 154, rfl⟩
abbrev main_v43 : Ref sig .tc := ⟨.hbm, 155, rfl⟩
abbrev main_c_13 : Ref sig .tc := ⟨.hbm, 156, rfl⟩
abbrev main_v44 : Ref sig .tc := ⟨.hbm, 157, rfl⟩
abbrev main_v45 : Ref sig .tc := ⟨.hbm, 158, rfl⟩
abbrev main_v46 : Ref sig .tc := ⟨.hbm, 159, rfl⟩
abbrev main_c_14 : Ref sig .tc := ⟨.hbm, 160, rfl⟩
abbrev main_v47 : Ref sig .tc := ⟨.hbm, 161, rfl⟩
abbrev main_v48 : Ref sig .tc := ⟨.hbm, 162, rfl⟩
abbrev main_c_15 : Ref sig .tc := ⟨.hbm, 163, rfl⟩
abbrev main_v49 : Ref sig .tc := ⟨.hbm, 164, rfl⟩
abbrev main_v50 : Ref sig .tc := ⟨.hbm, 165, rfl⟩
abbrev main_v51 : Ref sig .tc := ⟨.hbm, 166, rfl⟩
abbrev main_c_16 : Ref sig .tc := ⟨.hbm, 167, rfl⟩
abbrev main_c_17 : Ref sig .tc := ⟨.hbm, 168, rfl⟩
abbrev main_v52 : Ref sig .tc := ⟨.hbm, 169, rfl⟩
abbrev main_c_18 : Ref sig .tc := ⟨.hbm, 170, rfl⟩
abbrev main_c_19 : Ref sig .tc := ⟨.hbm, 171, rfl⟩
abbrev main_v53 : Ref sig .tc := ⟨.hbm, 172, rfl⟩
abbrev main_c_20 : Ref sig .tc := ⟨.hbm, 173, rfl⟩
abbrev main_v54 : Ref sig .tc := ⟨.hbm, 174, rfl⟩
abbrev main_v55 : Ref sig .tc := ⟨.hbm, 175, rfl⟩
abbrev main_v56 : Ref sig .tc := ⟨.hbm, 176, rfl⟩
abbrev main_v57 : Ref sig .tc := ⟨.hbm, 177, rfl⟩
abbrev main_v58 : Ref sig .tc := ⟨.hbm, 178, rfl⟩
abbrev main_v59 : Ref sig .tc := ⟨.hbm, 179, rfl⟩
abbrev main_v60 : Ref sig .tc := ⟨.hbm, 180, rfl⟩
abbrev main_cst_21 : Ref sig .tc := ⟨.hbm, 181, rfl⟩
abbrev main_v61 : Ref sig .tc := ⟨.hbm, 182, rfl⟩
abbrev main_v62 : Ref sig .tc := ⟨.hbm, 183, rfl⟩
abbrev main_v63 : Ref sig .tc := ⟨.hbm, 184, rfl⟩
abbrev main_v64 : Ref sig .tc := ⟨.hbm, 185, rfl⟩
abbrev main_cst_22 : Ref sig .tc := ⟨.hbm, 186, rfl⟩
abbrev main_v65 : Ref sig .tc := ⟨.hbm, 187, rfl⟩
abbrev main_v66 : Ref sig .tc := ⟨.hbm, 188, rfl⟩
abbrev main_cst_23 : Ref sig .tc := ⟨.hbm, 189, rfl⟩
abbrev main_v67 : Ref sig .tc := ⟨.hbm, 190, rfl⟩
abbrev main_v68 : Ref sig .tc := ⟨.hbm, 191, rfl⟩
abbrev main_cst_24 : Ref sig .tc := ⟨.hbm, 192, rfl⟩
abbrev main_v69 : Ref sig .tc := ⟨.hbm, 193, rfl⟩
abbrev main_v70 : Ref sig .tc := ⟨.hbm, 194, rfl⟩
abbrev main_v71 : Ref sig .tc := ⟨.hbm, 195, rfl⟩
abbrev main_v72 : Ref sig .tc := ⟨.hbm, 196, rfl⟩
abbrev main_cst_25 : Ref sig .tc := ⟨.hbm, 197, rfl⟩
abbrev main_v73 : Ref sig .tc := ⟨.hbm, 198, rfl⟩
abbrev main_v74 : Ref sig .tc := ⟨.hbm, 199, rfl⟩
abbrev main_cst_26 : Ref sig .tc := ⟨.hbm, 200, rfl⟩
abbrev main_v75 : Ref sig .tc := ⟨.hbm, 201, rfl⟩
abbrev main_v76 : Ref sig .tc := ⟨.hbm, 202, rfl⟩
abbrev main_cst_27 : Ref sig .tc := ⟨.hbm, 203, rfl⟩
abbrev main_v77 : Ref sig .tc := ⟨.hbm, 204, rfl⟩
abbrev main_v78 : Ref sig .tc := ⟨.hbm, 205, rfl⟩
abbrev main_v79 : Ref sig .tc := ⟨.hbm, 206, rfl⟩
abbrev main_c_28 : Ref sig .tc := ⟨.hbm, 207, rfl⟩
abbrev main_c_29 : Ref sig .tc := ⟨.hbm, 208, rfl⟩
abbrev main_call7_v0 : Ref sig .tc := ⟨.hbm, 209, rfl⟩
abbrev main_call7_v1 : Ref sig .tc := ⟨.hbm, 210, rfl⟩
abbrev main_call7_v2 : Ref sig .tc := ⟨.hbm, 211, rfl⟩
abbrev main_call7_v3 : Ref sig .tc := ⟨.hbm, 212, rfl⟩
abbrev main_call7_v4 : Ref sig .tc := ⟨.hbm, 213, rfl⟩
abbrev main_v80 : Ref sig .tc := ⟨.hbm, 214, rfl⟩
abbrev main_v81 : Ref sig .tc := ⟨.hbm, 215, rfl⟩
abbrev main_c_30 : Ref sig .tc := ⟨.hbm, 216, rfl⟩
abbrev main_c_31 : Ref sig .tc := ⟨.hbm, 217, rfl⟩
abbrev main_call8_v0 : Ref sig .tc := ⟨.hbm, 218, rfl⟩
abbrev main_call8_v1 : Ref sig .tc := ⟨.hbm, 219, rfl⟩
abbrev main_call8_v2 : Ref sig .tc := ⟨.hbm, 220, rfl⟩
abbrev main_call8_v3 : Ref sig .tc := ⟨.hbm, 221, rfl⟩
abbrev main_call8_v4 : Ref sig .tc := ⟨.hbm, 222, rfl⟩
abbrev main_v82 : Ref sig .tc := ⟨.hbm, 223, rfl⟩
abbrev main_c_32 : Ref sig .tc := ⟨.hbm, 224, rfl⟩
abbrev main_v83 : Ref sig .tc := ⟨.hbm, 225, rfl⟩
abbrev main_v84 : Ref sig .tc := ⟨.hbm, 226, rfl⟩
abbrev main_c_33 : Ref sig .tc := ⟨.hbm, 227, rfl⟩
abbrev main_v85 : Ref sig .tc := ⟨.hbm, 228, rfl⟩
abbrev main_v86 : Ref sig .tc := ⟨.hbm, 229, rfl⟩
abbrev main_v87 : Ref sig .tc := ⟨.hbm, 230, rfl⟩
abbrev main_c_34 : Ref sig .tc := ⟨.hbm, 231, rfl⟩
abbrev main_v88 : Ref sig .tc := ⟨.hbm, 232, rfl⟩
abbrev main_v89 : Ref sig .tc := ⟨.hbm, 233, rfl⟩
abbrev main_c_35 : Ref sig .tc := ⟨.hbm, 234, rfl⟩
abbrev main_v90 : Ref sig .tc := ⟨.hbm, 235, rfl⟩
abbrev main_v91 : Ref sig .tc := ⟨.hbm, 236, rfl⟩
abbrev main_v92 : Ref sig .tc := ⟨.hbm, 237, rfl⟩
abbrev main_c_36 : Ref sig .tc := ⟨.hbm, 238, rfl⟩
abbrev main_c_37 : Ref sig .tc := ⟨.hbm, 239, rfl⟩
abbrev main_v93 : Ref sig .tc := ⟨.hbm, 240, rfl⟩
abbrev main_c_38 : Ref sig .tc := ⟨.hbm, 241, rfl⟩
abbrev main_c_39 : Ref sig .tc := ⟨.hbm, 242, rfl⟩
abbrev main_v94 : Ref sig .tc := ⟨.hbm, 243, rfl⟩
abbrev main_c_40 : Ref sig .tc := ⟨.hbm, 244, rfl⟩
abbrev main_v95 : Ref sig .tc := ⟨.hbm, 245, rfl⟩
abbrev main_v96 : Ref sig .tc := ⟨.hbm, 246, rfl⟩
abbrev main_v97 : Ref sig .tc := ⟨.hbm, 247, rfl⟩
abbrev main_v98 : Ref sig .tc := ⟨.hbm, 248, rfl⟩
abbrev main_v99 : Ref sig .tc := ⟨.hbm, 249, rfl⟩
abbrev main_v100 : Ref sig .tc := ⟨.hbm, 250, rfl⟩
abbrev main_v101 : Ref sig .tc := ⟨.hbm, 251, rfl⟩
abbrev main_c_41 : Ref sig .tc := ⟨.hbm, 252, rfl⟩
abbrev main_v102 : Ref sig .tc := ⟨.hbm, 253, rfl⟩
abbrev main_v103 : Ref sig .tc := ⟨.hbm, 254, rfl⟩
abbrev main_v104 : Ref sig .tc := ⟨.hbm, 255, rfl⟩
abbrev main_call9_v0 : Ref sig .tc := ⟨.hbm, 256, rfl⟩
abbrev main_v105 : Ref sig .tc := ⟨.hbm, 257, rfl⟩
abbrev main_v106 : Ref sig .tc := ⟨.hbm, 258, rfl⟩
abbrev main_call10_v0 : Ref sig .tc := ⟨.hbm, 259, rfl⟩
abbrev main_v107 : Ref sig .tc := ⟨.hbm, 260, rfl⟩
abbrev main_cst_42 : Ref sig .tc := ⟨.hbm, 261, rfl⟩
abbrev main_v108 : Ref sig .tc := ⟨.hbm, 262, rfl⟩

abbrev nD : Nat := 1
abbrev τ : Topo := Topo.v7x

variable {F : FTy → Type} [FloatOps F]
-- ==== Proof.Gather.lean ====
/-
  The second kernel's body as a short program. A tile cuts two patches, one after the other; the printed body has both
  written out, and here the cutting of one patch is written once.
-/
module

public import proofs.«01_k».proof.Proof.Gen.KernelIdeal

@[expose] public section

noncomputable section

namespace Cert.Proof.Gather

open Cert.KernelIdeal Cert.KernelIdeal.Gen
open Idealize.ShloMosaic Idealize.SL.Sem

variable {F : FTy → Type} [FloatOps F]

/-- The number of patch `j` (0 or 1) of tile `i`, as the kernel computes it. -/
def num (i : grid1.Coords) (j : BitVec 32) : BitVec 32 :=
  Scalar.addi (Scalar.muli (Scalar.addi (Scalar.muli (BitVec.ofNat 32 (i 1).val) 2#32) (BitVec.ofNat 32 (i 0).val)) 2#32) j

/-- The quotient by a positive word, rounded down, as the kernel computes it. -/
def quo (x n : BitVec 32) : BitVec 32 :=
  Scalar.select
    (Scalar.andi
      (Scalar.cmpi .ne (Scalar.subi (Scalar.extui (Scalar.cmpi .sgt x 0#32)) (Scalar.extui (Scalar.cmpi .slt x 0#32)))
        (Scalar.subi (Scalar.extui (Scalar.cmpi .sgt n 0#32)) (Scalar.extui (Scalar.cmpi .slt n 0#32))))
      (Scalar.cmpi .ne (Scalar.remsi x n) 0#32))
    (Scalar.subi (Scalar.divsi x n) 1#32) (Scalar.divsi x n)

/-- Where patch `j`'s parameters lie in the table; -/
def offP (i : grid1.Coords) (j : BitVec 32) : Fin 2 → Nat := ![(Scalar.indexCast (num i j)).toNat, 0]
/-- where its window lies in the picture; -/
def offW (i : grid1.Coords) (j ya xw : BitVec 32) : Fin 4 → Nat := ![(quo (num i j) 16#32).toNat, 0, ya.toNat, xw.toNat]
/-- where it lies in the result. -/
def offO (i : grid1.Coords) (j : BitVec 32) : Fin 4 → Nat := ![(num i j).toNat, 0, 0, 0]

/-- Trip `t`'s plane and line. -/
def plane (t : Fin k1_t1_loop.trips) : BitVec 32 := quo (Scf.iv 0#32 1#32 t) 64#32
def line (t : Fin k1_t1_loop.trips) : BitVec 32 := Scalar.subi (Scf.iv 0#32 1#32 t) (Scalar.muli (plane t) 64#32)
/-- Where trip `t` stores its lanes from column `c` on. -/
def offS (t : Fin k1_t1_loop.trips) (c : Nat) : Fin 3 → Nat := ![(Scalar.indexCast (plane t)).toNat, (Scalar.indexCast (line t)).toNat, c]

/-- The window lies inside the picture, whichever picture it is cut from. -/
def chkW (i : grid1.Coords) (j ya xw sel : BitVec 32) : Prop :=
  (∀ (_ : k1_cond1 sel = 1#1), ∀ a, (offW i j ya xw) a + S1x3x72x256.size a ≤ S4x3x512x512.size a) ∧
  (∀ (_ : ¬(k1_cond1 sel = 1#1)), ∀ a, (offW i j ya xw) a + S1x3x72x256.size a ≤ S4x3x512x512.size a)
instance chkW.dec (i : grid1.Coords) (j ya xw sel : BitVec 32) : Decidable (chkW i j ya xw sel) := decidable_of_iff' _ (Iff.of_eq (chkW.eq_1 i j ya xw sel))

section Body

variable (i : grid1.Coords)
variable (a2 : Memref sig .scVector .hbm S64x16 .i32) (a3 a4 : Memref sig .scVector .hbm S4x3x512x512 .f32) (a5 : Memref sig .scVector .hbm S64x3x64x64 .f32)
variable (a6 : Memref sig .scVector .vmem S64x16 .i32) (a7 : Memref sig .scVector .vmem S3x72x256 .f32) (a8 : Memref sig .scVector .vmem S3x64x64 .f32)
variable (h2 : a2.IsWhole) (h3 : a3.IsWhole) (h4 : a4.IsWhole) (h5 : a5.IsWhole) (h6 : a6.IsWhole) (h7 : a7.IsWhole) (h8 : a8.IsWhole)

/-- The word in column `n` of a row of parameters. -/
def word (v : Vec F S1x16 .i32) (n : Nat) (hn : S16.Slices ![n] S1) : BitVec 32 :=
  extractAt ![0] (extractStridedSlice S1 ![n] (shapeCast S16 v shapeCasts_S1x16_S16) hn) inpos_S1_p0

/-- Sixteen lanes from column `c` of a patch whose columns start at `dx` in the window. -/
def cols (dx c : BitVec 32) : IVec S16 32 := addi (broadcast S16 (Scalar.addi dx c)) (iota .scVector S16 32 [0] iota_S16_d0_w32_scVector)

/-- Sixteen lanes of a line, from the window to the patch. -/
def chunk (t : Fin k1_t1_loop.trips) (dy dx c : BitVec 32) (n : Nat) (hn : ∀ a, (offS t n) a + S1x1x16.size a ≤ S3x64x64.size a) :
    Prog (TpuEff nD τ sig (Elt F) Λ₀ (.scVector ((i 0).castLE hcore1) ((i 1).castLE hsub1))) PUnit := do
  have hw : k1_chk4 (broadcast S16 (plane t)) (broadcast S16 (Scalar.addi dy (line t))) (cols dx c) :=
    (← Prog.lift (TpuEff.assume (k1_chk4 (broadcast S16 (plane t)) (broadcast S16 (Scalar.addi dy (line t))) (cols dx c)) (k1_chk4.dec _ _ _))).down
  let v : Vec F S16 .f32 ← SparseCore.vectorLoadIdx a7 ![broadcast S16 (plane t), broadcast S16 (Scalar.addi dy (line t)), cols dx c] (k1_idx1_inb _ _ _ hw) (View.loads_vmem h_S3x72x256)
  let _ : Vec F S1x1x16 .f32 ← Prog.lift (.load a8 (Rect.unit (s := S3x64x64) (offS t n) S1x1x16.size hn).toLoadRect (View.loadsAt_vmem h_S1x1x16))
  Prog.lift (.store a8 (Rect.unit (s := S3x64x64) (offS t n) S1x1x16.size hn) (shapeCast S1x1x16 v shapeCasts_S16_S1x1x16) Finset.univ (View.stores_vmem_bits_univ h_S1x1x16 rfl) (.inl rfl))

/-- A trip of the loop over a patch's 192 lines. -/
def trip (dy dx : BitVec 32) (t : Fin k1_t1_loop.trips) :
    Prog (TpuEff nD τ sig (Elt F) Λ₀ (.scVector ((i 0).castLE hcore1) ((i 1).castLE hsub1))) (BitVec 32) := do
  chunk i a7 a8 t dy dx 0#32 0 (k1_off4_inb t)
  chunk i a7 a8 t dy dx 16#32 16 (k1_off5_inb t)
  chunk i a7 a8 t dy dx 32#32 32 (k1_off6_inb t)
  chunk i a7 a8 t dy dx 48#32 48 (k1_off7_inb t)
  pure 0#32

/-- The picture's window, as the copy addresses it. -/
def win (a : Memref sig .scVector .hbm S4x3x512x512 .f32) (off : Fin 4 → Nat) (h : ∀ a, off a + S1x3x72x256.size a ≤ S4x3x512x512.size a) :
    Memref sig .scVector .hbm S3x72x256 .f32 :=
  (a.slice (Rect.unit (s := S4x3x512x512) off S1x3x72x256.size h) (fun _ => rfl)).squeeze S3x72x256 squeezes_S1x3x72x256_S3x72x256
/-- A patch's place in the result, as the copy addresses it. -/
def dest (j : BitVec 32) (h : ∀ a, (offO i j) a + S1x3x64x64.size a ≤ S64x3x64x64.size a) : Memref sig .scVector .hbm S3x64x64 .f32 :=
  (a5.slice (Rect.unit (s := S64x3x64x64) (offO i j) S1x3x64x64.size h) (fun _ => rfl)).squeeze S3x64x64 squeezes_S1x3x64x64_S3x64x64

/-- A patch's lines, then the copy out. -/
def finish (j dy dx : BitVec 32) (hO : ∀ a, (offO i j) a + S1x3x64x64.size a ≤ S64x3x64x64.size a) (so : DmaSems sig S_) :
    Prog (TpuEff nD τ sig (Elt F) Λ₀ (.scVector ((i 0).castLE hcore1) ((i 1).castLE hsub1))) PUnit := do
  let _ : BitVec 32 ← Scf.Loop.for k1_t1_loop k1_t1_ok 0#32 fun t _ => trip i a7 a8 dy dx t
  Prog.lift (.enqueueDma a8 (.here (dest i a5 j hO)) (.dma so.sem) h8.wordExact ((View.wordExact_bits rfl).reshape _ _) ⟨Or.inl rfl, trivial⟩)
  Prog.lift (.waitDma2 so.sem a8 (dest i a5 j hO) h8.wordExact ((View.wordExact_bits rfl).reshape _ _))

/-- A patch from its five parameters: the window from the picture `sel` names, then the lines. -/
def cut (j ya dy xw dx sel : BitVec 32) (hO : ∀ a, (offO i j) a + S1x3x64x64.size a ≤ S64x3x64x64.size a) (s1 s0 so : DmaSems sig S_) :
    Prog (TpuEff nD τ sig (Elt F) Λ₀ (.scVector ((i 0).castLE hcore1) ((i 1).castLE hsub1))) PUnit := do
  have _ : k1_chk1 ya := (← Prog.lift (TpuEff.assume (k1_chk1 ya) (k1_chk1.dec _))).down
  have _ : k1_chk2 xw := (← Prog.lift (TpuEff.assume (k1_chk2 xw) (k1_chk2.dec _))).down
  have hw : chkW i j ya xw sel := (← Prog.lift (TpuEff.assume (chkW i j ya xw sel) (chkW.dec _ _ _ _ _))).down
  if h : k1_cond1 sel = 1#1 then do
    Prog.lift (.enqueueDma (win a4 (offW i j ya xw) (hw.1 h)) (.here a7) (.dma s1.sem) ((View.wordExact_bits rfl).reshape _ _) h7.wordExact ⟨Or.inl rfl, trivial⟩)
    Prog.lift (.waitDma2 s1.sem (win a4 (offW i j ya xw) (hw.1 h)) a7 ((View.wordExact_bits rfl).reshape _ _) h7.wordExact)
    pure ⟨⟩
  else do
    Prog.lift (.enqueueDma (win a3 (offW i j ya xw) (hw.2 h)) (.here a7) (.dma s0.sem) ((View.wordExact_bits rfl).reshape _ _) h7.wordExact ⟨Or.inl rfl, trivial⟩)
    Prog.lift (.waitDma2 s0.sem (win a3 (offW i j ya xw) (hw.2 h)) a7 ((View.wordExact_bits rfl).reshape _ _) h7.wordExact)
    pure ⟨⟩
  finish i a5 a7 a8 h8 j dy dx hO so

/-- One patch: its parameters read, the patch cut. -/
def patch (j : BitVec 32) (hP : ∀ a, (offP i j) a + S1x16.size a ≤ S64x16.size a) (hO : ∀ a, (offO i j) a + S1x3x64x64.size a ≤ S64x3x64x64.size a)
    (s1 s0 so : DmaSems sig S_) :
    Prog (TpuEff nD τ sig (Elt F) Λ₀ (.scVector ((i 0).castLE hcore1) ((i 1).castLE hsub1))) PUnit := do
  let v : Vec F S1x16 .i32 ← Prog.lift (.load a6 (Rect.unit (s := S64x16) (offP i j) S1x16.size hP).toLoadRect (View.loadsAt_vmem h_S1x16))
  cut i a3 a4 a5 a7 a8 h7 h8 j (word v 0 slices_S16_o0_S1) (word v 1 slices_S16_o1_S1) (word v 2 slices_S16_o2_S1) (word v 3 slices_S16_o3_S1)
    (word v 4 slices_S16_o4_S1) hO s1 s0 so

/-- The body: the table of parameters fetched, then the two patches. -/
def body (r0 r1 r2 r3 r4 r5 r6 : DmaSems sig S_) :
    Prog (TpuEff nD τ sig (Elt F) Λ₀ (.scVector ((i 0).castLE hcore1) ((i 1).castLE hsub1))) PUnit := do
  Prog.lift (.enqueueDma a2 (.here a6) (.dma r0.sem) h2.wordExact h6.wordExact ⟨Or.inl rfl, trivial⟩)
  Prog.lift (.waitDma2 r0.sem a2 a6 h2.wordExact h6.wordExact)
  patch i a3 a4 a5 a6 a7 a8 h7 h8 0#32 (k1_off1_inb i) (k1_off8_inb i) r1 r2 r3
  patch i a3 a4 a5 a6 a7 a8 h7 h8 1#32 (k1_off9_inb i) (k1_off16_inb i) r4 r5 r6

set_option maxRecDepth 65536 in
set_option maxHeartbeats 0 in
/-- The printed body is this one. -/
theorem body_eq (r0 r1 r2 r3 r4 r5 r6 : DmaSems sig S_) :
    cc1__gather_body (F := F) i a2 h2 a3 h3 a4 h4 a5 h5 a6 h6 a7 h7 a8 h8 r0 r1 r2 r3 r4 r5 r6
      = body i a2 a3 a4 a5 a6 a7 a8 h2 h6 h7 h8 r0 r1 r2 r3 r4 r5 r6 := rfl

end Body

end Cert.Proof.Gather

end
-- ==== Proof.Setup.lean ====
/-
  The program as the launch theorem sees it, and the arithmetic the tiles' words come to.
-/
module

public import proofs.«01_k».proof.Defs
public import proofs.«01_k».proof.Proof.Gather
public import proofs.«01_k».proof.Proof.Gen.KernelIdeal.Launch
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.Regions
public import Idealize.ShloMosaic.Lib.ShareLeaves
public import Idealize.ShloMosaic.Lib.Pointwise.Index
public import Idealize.ShloMosaic.Lib.Writes
public import Idealize.ShloMosaic.Lib.Tactic

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! The resource algebra: the handshakes' rounds, the pipeline's, the transfers' counters. -/

abbrev UH : Type := URounds (GSem nD τ sig) ℕ
abbrev UP : Type := UR sig nD τ
abbrev UU : Type := (UH × UP) × Counters
/-- The assertions' resources. -/
abbrev Res (F : FTy → Type) : Type := MT nD τ sig (HIx 1) (Elt F) ℕ UU ℕ

def EH : Emb UH (Res F) := (Emb.inl : Emb UH (UH × UP)).trans (embL : Emb (UH × UP) (Res F))
def EP : Emb UP (Res F) := (Emb.inr : Emb UP (UH × UP)).trans (embL : Emb (UH × UP) (Res F))
instance EH_landsIn : (EH : Emb UH (Res F)).LandsIn (upEmb : UEmb _ (Res F)) := by unfold EH; infer_instance
instance EP_landsIn : (EP : Emb UP (Res F)).LandsIn (upEmb : UEmb _ (Res F)) := by unfold EP; infer_instance

/-! The tiles' words. -/

namespace Gather

theorem bit_and (p q : Bool) : IntOp.andi (BitVec.ofBool p) (BitVec.ofBool q) = BitVec.ofBool (p && q) := by
  cases p <;> cases q <;> decide

theorem num_toNat (i : grid1.Coords) {j : BitVec 32} (hj : j.toNat < 2) : (num i j).toNat = ((i 1).val * 2 + (i 0).val) * 2 + j.toNat := by
  have h0 : (i 0).val < 2 := (i 0).isLt
  have h1 : (i 1).val < 16 := (i 1).isLt
  simp only [num, Scalar.addi, Scalar.muli, IntOp.addi, IntOp.muli, BitVec.toNat_add, BitVec.toNat_mul, BitVec.toNat_ofNat]
  omega

theorem num_lt (i : grid1.Coords) {j : BitVec 32} (hj : j.toNat < 2) : (num i j).toNat < 64 := by
  have h0 : (i 0).val < 2 := (i 0).isLt
  have h1 : (i 1).val < 16 := (i 1).isLt
  rw [num_toNat i hj]; omega

theorem quo16 : ∀ n : Fin 64, (quo (BitVec.ofNat 32 n.val) 16#32).toNat = n.val / 16 := by decide +kernel

theorem quo16_num (i : grid1.Coords) {j : BitVec 32} (hj : j.toNat < 2) : (quo (num i j) 16#32).toNat = (num i j).toNat / 16 := by
  have h := quo16 ⟨(num i j).toNat, num_lt i hj⟩
  rwa [show BitVec.ofNat 32 (num i j).toNat = num i j from BitVec.eq_of_toNat_eq (by simp)] at h

theorem plane_toNat : ∀ t : Fin k1_t1_loop.trips, (plane t).toNat = t.val / 64 := by decide +kernel
theorem line_toNat : ∀ t : Fin k1_t1_loop.trips, (line t).toNat = t.val % 64 := by decide +kernel
theorem trips_eq : k1_t1_loop.trips = 192 := by decide +kernel

end Gather

end Cert.Proof

end
-- ==== Proof.Tile.lean ====
/-
  A tile's task: from the table of parameters and the two pictures it leaves its two patches in the result.
-/
module

public import proofs.«01_k».proof.Proof.Setup
public import Idealize.ShloMosaic.Lib.Pipeline.Value
public import Idealize.ShloMosaic.Lib.Pointwise.Reshape

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

/-! ## What a patch is -/

/-- Five words name a window inside the picture, and a patch inside the window. -/
structure Fits (ya dy xw dx : BitVec 32) : Prop where
  ya8 : 8 ∣ ya.toNat
  yaLe : ya.toNat ≤ 440
  dyLe : dy.toNat ≤ 8
  xw128 : 128 ∣ xw.toNat
  xwLe : xw.toNat ≤ 256
  dxLe : dx.toNat ≤ 192

/-- Every row of the table does. -/
def TabFits (t : S64x16.Idx → BitVec 32) : Prop :=
  ∀ r : Fin 64, Fits (t (ix2 r (0 : Fin 16))) (t (ix2 r (1 : Fin 16))) (t (ix2 r (2 : Fin 16))) (t (ix2 r (3 : Fin 16)))

/-- A picture's element, from numbers. -/
def pix (b c y x : ℕ) : S4x3x512x512.Idx :=
  ix4 (⟨b % 4, Nat.mod_lt _ (by decide)⟩ : Fin 4) (⟨c % 3, Nat.mod_lt _ (by decide)⟩ : Fin 3) (⟨y % 512, Nat.mod_lt _ (by decide)⟩ : Fin 512)
    (⟨x % 512, Nat.mod_lt _ (by decide)⟩ : Fin 512)

/-- The 64 patches: patch `r` is of batch `r / 16`, from the picture its row of the table names, with its corner where the row says. -/
def patches (t : S64x16.Idx → BitVec 32) (p0 p1 : S4x3x512x512.Idx → Elt F .f32) : S64x3x64x64.Idx → Elt F .f32 := fun z =>
  (if t (ix2 (z 0 : Fin 64) (4 : Fin 16)) = 1#32 then p1 else p0)
    (pix ((z 0).val / 16) (z 1).val
      ((t (ix2 (z 0 : Fin 64) (0 : Fin 16))).toNat + (t (ix2 (z 0 : Fin 64) (1 : Fin 16))).toNat + (z 2).val)
      ((t (ix2 (z 0 : Fin 64) (2 : Fin 16))).toNat + (t (ix2 (z 0 : Fin 64) (3 : Fin 16))).toNat + (z 3).val))

/-! ## The tile's buffers -/

section Tile

variable (d : Dev nD) (i : grid1.Coords)

abbrev cV (i : grid1.Coords) : Fin τ.nSC := (i 0).castLE hcore1
abbrev jV (i : grid1.Coords) : Fin τ.nSub := (i 1).castLE hsub1
/-- The tile's thread. -/
abbrev thr : Thread nD τ := V d (cV i) (jV i)

local notation "mP" => (Memref.whole Cert.KernelIdeal.main_v5_1_scv : Memref Cert.KernelIdeal.sig Kind.scVector Space.hbm Cert.KernelIdeal.S64x16 EltTy.i32)
local notation "m0" => (Memref.whole Cert.KernelIdeal.main_v6_scv : Memref Cert.KernelIdeal.sig Kind.scVector Space.hbm Cert.KernelIdeal.S4x3x512x512 EltTy.f32)
local notation "m1" => (Memref.whole Cert.KernelIdeal.main_v7_scv : Memref Cert.KernelIdeal.sig Kind.scVector Space.hbm Cert.KernelIdeal.S4x3x512x512 EltTy.f32)
local notation "mO" => (Memref.whole Cert.KernelIdeal.main_v8_scv : Memref Cert.KernelIdeal.sig Kind.scVector Space.hbm Cert.KernelIdeal.S64x3x64x64 EltTy.f32)
local notation "bP" => (Memref.whole Cert.KernelIdeal.cc1_scratch0 : Memref Cert.KernelIdeal.sig Kind.scVector Space.vmem Cert.KernelIdeal.S64x16 EltTy.i32)
local notation "bW" => (Memref.whole Cert.KernelIdeal.cc1_scratch1 : Memref Cert.KernelIdeal.sig Kind.scVector Space.vmem Cert.KernelIdeal.S3x72x256 EltTy.f32)
local notation "bS" => (Memref.whole Cert.KernelIdeal.cc1_scratch2 : Memref Cert.KernelIdeal.sig Kind.scVector Space.vmem Cert.KernelIdeal.S3x64x64 EltTy.f32)

/-- The window cut from picture `p`: planes, rows from `ya`, columns from `xw`, of batch `b`. -/
def window (p : S4x3x512x512.Idx → Elt F .f32) (b ya xw : ℕ) : S3x72x256.Idx → Elt F .f32 := fun z => p (pix b (z 0).val (ya + (z 1).val) (xw + (z 2).val))
/-- The patch cut from a window. -/
def inner (w : S3x72x256.Idx → Elt F .f32) (dy dx : ℕ) : S3x64x64.Idx → Elt F .f32 := fun z =>
  w (ix3 (z 0 : Fin 3) (⟨(dy + (z 1).val) % 72, Nat.mod_lt _ (by decide)⟩ : Fin 72) (⟨(dx + (z 2).val) % 256, Nat.mod_lt _ (by decide)⟩ : Fin 256))

theorem read_win (m : Memref sig .scVector .hbm S4x3x512x512 .f32) (j ya xw : BitVec 32) (hj : j.toNat < 2) (p : m.view.ty.Contents (Elt F))
    (h : ∀ a, offW i j ya xw a + S1x3x72x256.size a ≤ S4x3x512x512.size a) :
    (win m (offW i j ya xw) h).view.read (Elt F) p = window (m.view.read (Elt F) p) ((num i j).toNat / 16) ya.toNat xw.toNat := by
  funext z
  have h1 : (win m (offW i j ya xw) h).view.read (Elt F) p z
      = m.view.read (Elt F) p ((Rect.unit (s := S4x3x512x512) (offW i j ya xw) S1x3x72x256.size h).emb
          (Shape.reshapeEquiv squeezes_S1x3x72x256_S3x72x256.numel_eq z)) := rfl
  have e : Shape.reshapeEquiv squeezes_S1x3x72x256_S3x72x256.numel_eq z = (Fin.cons ⟨0, Nat.one_pos⟩ z : S1x3x72x256.Idx) :=
    Shape.reshapeEquiv_cons_one _ _
  rw [h1, e]
  unfold window
  congr 1
  have hb := quo16_num i hj
  have hlt := num_lt i hj
  have h2 := h 2; have h3 := h 3
  have hz0 : (z 0).val < 3 := (z 0).isLt
  have hz1 : (z 1).val < 72 := (z 1).isLt
  have hz2 : (z 2).val < 256 := (z 2).isLt
  have h2' : ya.toNat + 72 ≤ 512 := h2
  have h3' : xw.toNat + 256 ≤ 512 := h3
  funext a
  apply Fin.ext
  rw [Rect.emb_apply]
  match a with
  | ⟨0, _⟩ => show (quo (num i j) 16#32).toNat + 1 * 0 = (num i j).toNat / 16 % 4; omega
  | ⟨1, _⟩ => show 0 + 1 * (z 0).val = (z 0).val % 3; omega
  | ⟨2, _⟩ => show ya.toNat + 1 * (z 1).val = (ya.toNat + (z 1).val) % 512; omega
  | ⟨3, _⟩ => show xw.toNat + 1 * (z 2).val = (xw.toNat + (z 2).val) % 512; omega

/-! ## A line -/

/-- The lanes' columns. -/
theorem cols_toNat (dx : BitVec 32) (n : ℕ) (hdx : dx.toNat ≤ 192) (hn : n ≤ 48) (x : S16.Idx) :
    (cols dx (BitVec.ofNat 32 n) x).toNat = dx.toNat + n + (x 0).val := by
  have hx : (x 0).val < 16 := (x 0).isLt
  have e : cols dx (BitVec.ofNat 32 n) x = dx + BitVec.ofNat 32 n + BitVec.ofNat 32 (x 0).val :=
    congrArg (dx + BitVec.ofNat 32 n + ·) (iota_single_apply _ _ _ _ _ x)
  rw [e]
  simp only [BitVec.toNat_add, BitVec.toNat_ofNat]
  omega

theorem chk_lanes (t : Fin k1_t1_loop.trips) (dy dx : BitVec 32) (n : ℕ) (hdy : dy.toNat ≤ 8) (hdx : dx.toNat ≤ 192) (hn : n ≤ 48) :
    k1_chk4 (broadcast S16 (plane t)) (broadcast S16 (Scalar.addi dy (line t))) (cols dx (BitVec.ofNat 32 n)) := by
  have ht : t.val < 192 := lt_of_lt_of_eq t.isLt trips_eq
  have hp := plane_toNat t; have hl := line_toNat t
  intro a x
  have hx : (x 0).val < 16 := (x 0).isLt
  match a with
  | ⟨0, _⟩ => show (plane t).toNat < 3; omega
  | ⟨1, _⟩ => show (dy + line t).toNat < 72; rw [BitVec.toNat_add]; omega
  | ⟨2, _⟩ => show (cols dx (BitVec.ofNat 32 n) x).toNat < 256; rw [cols_toNat dx n hdx hn]; omega

/-- The patch's elements before number `n`, in row-major order, are in place. -/
def Upto (w : S3x72x256.Idx → Elt F .f32) (dy dx n : ℕ) (f : S3x64x64.Idx → Elt F .f32) : Prop :=
  ∀ z : S3x64x64.Idx, ((z 0).val * 64 + (z 1).val) * 64 + (z 2).val < n → f z = inner w dy dx z

/-- What one store of sixteen lanes adds. -/
theorem upto_store (t : Fin k1_t1_loop.trips) (dy dx : BitVec 32) (n : ℕ) (hdy : dy.toNat ≤ 8) (hdx : dx.toNat ≤ 192) (hn : n ≤ 48)
    (h : ∀ a, (offS t n) a + S1x1x16.size a ≤ S3x64x64.size a)
    (w : S3x72x256.Idx → Elt F .f32) (f : S3x64x64.Idx → Elt F .f32) (hf : Upto w dy.toNat dx.toNat (t.val * 64 + n) f)
    (hc : k1_chk4 (broadcast S16 (plane t)) (broadcast S16 (Scalar.addi dy (line t))) (cols dx (BitVec.ofNat 32 n))) :
    Upto w dy.toNat dx.toNat (t.val * 64 + n + 16)
      ((bS).view.writes (Elt F) f [⟨Rect.unit (s := S3x64x64) (offS t n) S1x1x16.size h,
        shapeCast S1x1x16 (loadIdx (F := F) (e := .f32) (View.readAt (Elt F) (bW).view (LoadRect.whole S3x72x256) w)
          ![broadcast S16 (plane t), broadcast S16 (Scalar.addi dy (line t)), cols dx (BitVec.ofNat 32 n)] (k1_idx1_inb _ _ _ hc))
          shapeCasts_S16_S1x1x16⟩]) := by
  have ht : t.val < 192 := lt_of_lt_of_eq t.isLt trips_eq
  have hp := plane_toNat t; have hl := line_toNat t
  intro z hz
  have hz0 : (z 0).val < 3 := (z 0).isLt
  have hz1 : (z 1).val < 64 := (z 1).isLt
  have hz2 : (z 2).val < 64 := (z 2).isLt
  by_cases hlt : ((z 0).val * 64 + (z 1).val) * 64 + (z 2).val < t.val * 64 + n
  · refine Eq.trans ?_ (hf z hlt)
    refine (congrFun (View.read_whole cc1_scratch2 _) z).symm.trans ((View.read_writes_cons_miss (bS).view f _ [] z ?_).trans (congrFun (View.read_whole cc1_scratch2 f) z))
    by_cases e : ((z 0).val * 64 + (z 1).val) = t.val
    · refine Rect.not_mem_set_of_axis _ z 2 n 16 rfl rfl rfl (Or.inl ?_)
      omega
    · by_cases e0 : (z 0).val = t.val / 64
      · refine Rect.not_mem_set_of_axis _ z 1 (line t).toNat 1 rfl rfl rfl ?_
        omega
      · refine Rect.not_mem_set_of_axis _ z 0 (plane t).toNat 1 rfl rfl rfl ?_
        omega
  · have e : (z 0).val * 64 + (z 1).val = t.val ∧ n ≤ (z 2).val ∧ (z 2).val < n + 16 := by omega
    obtain ⟨e, e1, e2⟩ := e
    have hk : (z 2).val - n < 16 := by omega
    refine (congrFun (View.read_whole cc1_scratch2 _) z).symm.trans ((View.read_writes_cons_hit_of_coords (bS).view f _ _ []
      (ix3 (0 : Fin 1) (0 : Fin 1) (⟨(z 2).val - n, hk⟩ : Fin 16) : S1x1x16.Idx) z ?_).trans ?_)
    · intro a
      match a with
      | ⟨0, _⟩ => show (z 0).val = (plane t).toNat + 1 * 0; omega
      | ⟨1, _⟩ => show (z 1).val = (line t).toNat + 1 * 0; omega
      | ⟨2, _⟩ => show (z 2).val = n + 1 * ((z 2).val - n); omega
    · have hr : Shape.reshapeEquiv shapeCasts_S16_S1x1x16 (ix3 (0 : Fin 1) (0 : Fin 1) (⟨(z 2).val - n, hk⟩ : Fin 16) : S1x1x16.Idx)
          = (ix1 (⟨(z 2).val - n, hk⟩ : Fin 16) : S16.Idx) :=
        Shape.reshapeEquiv_eq_of_vals _ _ _ ((z 2).val - n) (0 * 16 + 0 * 16 + ((z 2).val - n)) (rowMajor_val1 _) (rowMajor_val3 _ 16 16 rfl rfl) (by omega)
      show loadIdx (F := F) (e := .f32) (View.readAt (Elt F) (bW).view (LoadRect.whole S3x72x256) w) _ _ (Shape.reshapeEquiv shapeCasts_S16_S1x1x16 _) = _
      have hw : View.readAt (Elt F) (bW).view (LoadRect.whole S3x72x256) w = w := Memref.readAt_whole (Elt F) cc1_scratch1 w
      rw [hr, hw]
      unfold loadIdx inner
      congr 1
      funext a
      apply Fin.ext
      match a with
      | ⟨0, _⟩ => show (plane t).toNat = (z 0).val; omega
      | ⟨1, _⟩ => show (dy + line t).toNat = (dy.toNat + (z 1).val) % 72; rw [BitVec.toNat_add]; omega
      | ⟨2, _⟩ =>
        show (cols dx (BitVec.ofNat 32 n) (ix1 (⟨(z 2).val - n, hk⟩ : Fin 16) : S16.Idx)).toNat = (dx.toNat + (z 2).val) % 256
        rw [cols_toNat dx n hdx hn]
        show dx.toNat + n + ((z 2).val - n) = _
        omega

theorem chunk_run (t : Fin k1_t1_loop.trips) (dy dx : BitVec 32) (n : ℕ) (hdy : dy.toNat ≤ 8) (hdx : dx.toNat ≤ 192) (hn : n ≤ 48)
    (h : ∀ a, (offS t n) a + S1x1x16.size a ≤ S3x64x64.size a)
    (w : S3x72x256.Idx → Elt F .f32) (f : S3x64x64.Idx → Elt F .f32) (hf : Upto w dy.toNat dx.toNat (t.val * 64 + n) f) :
    iprop(((bW).view.loc (thr d i) ↦{fullShare} w) ∗ ((bS).view.loc (thr d i) ↦{fullShare} f))
      ⊢ (wp frame (wpE (defs₀ (F := F)) 𝒱₀ (thr d i) none) Set.univ (chunk i bW bS t dy dx (BitVec.ofNat 32 n) n h)
          fun _ => iprop(((bW).view.loc (thr d i) ↦{fullShare} w)
            ∗ ∃ f' : S3x64x64.Idx → Elt F .f32, ⌜Upto w dy.toNat dx.toNat (t.val * 64 + n + 16) f'⌝ ∗ ((bS).view.loc (thr d i) ↦{fullShare} f')) : sProp (Res F)) := by
  have hchk := chk_lanes t dy dx n hdy hdx hn
  iintro ⟨HW, HS⟩
  unfold chunk SparseCore.vectorLoadIdx
  sl_exec
  sl_step
  isplitl [HW]; · iexact HW
  iexists _; isplitr
  rotate_left
  · iexact HS
  · ipureintro
    exact upto_store t dy dx n hdy hdx hn h w f hf hchk

end Tile

end Cert.Proof.Gather

end
-- ==== Proof.Patch.lean ====
/-
  A patch cut, and the tile's whole task.
-/
module

public import proofs.«01_k».proof.Proof.Tile

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

variable (d : Dev nD) (i : grid1.Coords)

local notation "mP" => (Memref.whole Cert.KernelIdeal.main_v5_1_scv : Memref Cert.KernelIdeal.sig Kind.scVector Space.hbm Cert.KernelIdeal.S64x16 EltTy.i32)
local notation "m0" => (Memref.whole Cert.KernelIdeal.main_v6_scv : Memref Cert.KernelIdeal.sig Kind.scVector Space.hbm Cert.KernelIdeal.S4x3x512x512 EltTy.f32)
local notation "m1" => (Memref.whole Cert.KernelIdeal.main_v7_scv : Memref Cert.KernelIdeal.sig Kind.scVector Space.hbm Cert.KernelIdeal.S4x3x512x512 EltTy.f32)
local notation "mO" => (Memref.whole Cert.KernelIdeal.main_v8_scv : Memref Cert.KernelIdeal.sig Kind.scVector Space.hbm Cert.KernelIdeal.S64x3x64x64 EltTy.f32)
local notation "bP" => (Memref.whole Cert.KernelIdeal.cc1_scratch0 : Memref Cert.KernelIdeal.sig Kind.scVector Space.vmem Cert.KernelIdeal.S64x16 EltTy.i32)
local notation "bW" => (Memref.whole Cert.KernelIdeal.cc1_scratch1 : Memref Cert.KernelIdeal.sig Kind.scVector Space.vmem Cert.KernelIdeal.S3x72x256 EltTy.f32)
local notation "bS" => (Memref.whole Cert.KernelIdeal.cc1_scratch2 : Memref Cert.KernelIdeal.sig Kind.scVector Space.vmem Cert.KernelIdeal.S3x64x64 EltTy.f32)

/-! ## The lines of a patch -/

/-- The window, and the patch filled up to element `n`. -/
def Filled (w : S3x72x256.Idx → Elt F .f32) (dy dx n : ℕ) : sProp (Res F) :=
  iprop(((bW).view.loc (thr d i) ↦{fullShare} w) ∗ ∃ f : S3x64x64.Idx → Elt F .f32, ⌜Upto w dy dx n f⌝ ∗ ((bS).view.loc (thr d i) ↦{fullShare} f))

theorem chunk_step (t : Fin k1_t1_loop.trips) (dy dx : BitVec 32) (n : ℕ) (hdy : dy.toNat ≤ 8) (hdx : dx.toNat ≤ 192) (hn : n ≤ 48)
    (h : ∀ a, (offS t n) a + S1x1x16.size a ≤ S3x64x64.size a) (w : S3x72x256.Idx → Elt F .f32) :
    Filled d i w dy.toNat dx.toNat (t.val * 64 + n)
      ⊢ wp frame (wpE (defs₀ (F := F)) 𝒱₀ (thr d i) none) Set.univ (chunk i bW bS t dy dx (BitVec.ofNat 32 n) n h)
          fun _ => Filled d i w dy.toNat dx.toNat (t.val * 64 + n + 16) := by
  unfold Filled
  iintro ⟨HW, %f, %hf, HS⟩
  iapply (chunk_run d i t dy dx n hdy hdx hn h w f hf)
  isplitl [HW] <;> iassumption

theorem trip_step (t : Fin k1_t1_loop.trips) (dy dx : BitVec 32) (hdy : dy.toNat ≤ 8) (hdx : dx.toNat ≤ 192) (w : S3x72x256.Idx → Elt F .f32) :
    Filled d i w dy.toNat dx.toNat (t.val * 64)
      ⊢ wp frame (wpE (defs₀ (F := F)) 𝒱₀ (thr d i) none) Set.univ (trip i bW bS dy dx t)
          fun _ => Filled d i w dy.toNat dx.toNat ((t.val + 1) * 64) := by
  unfold trip
  simp only [wp_bind, wp_pure]
  refine (chunk_step d i t dy dx 0 hdy hdx (by decide) (k1_off4_inb t) w).trans (wp_mono _ _ _ fun _ => ?_)
  refine (chunk_step d i t dy dx 16 hdy hdx (by decide) (k1_off5_inb t) w).trans (wp_mono _ _ _ fun _ => ?_)
  refine (chunk_step d i t dy dx 32 hdy hdx (by decide) (k1_off6_inb t) w).trans (wp_mono _ _ _ fun _ => ?_)
  refine (chunk_step d i t dy dx 48 hdy hdx (by decide) (k1_off7_inb t) w).trans (wp_mono _ _ _ fun _ => ?_)
  rw [show t.val * 64 + 48 + 16 = (t.val + 1) * 64 by omega]
  iintro H
  imodintro
  iexact H

theorem full_eq {w : S3x72x256.Idx → Elt F .f32} {dy dx n : ℕ} {f : S3x64x64.Idx → Elt F .f32} (h : Upto w dy dx n f) (hn : 192 * 64 ≤ n) :
    f = inner w dy dx := by
  funext z
  have hz0 : (z 0).val < 3 := (z 0).isLt
  have hz1 : (z 1).val < 64 := (z 1).isLt
  have hz2 : (z 2).val < 64 := (z 2).isLt
  exact h z (by omega)

/-- What the tile may record of its waits. -/
def Waited (O : CellTallies nD τ sig (HIx 1)) (W : Waits sig (HIx 1)) : sProp (Res F) :=
  iprop(∃ W', ⌜∀ p ∈ W', p ∈ W ∨ p.2 = none⌝ ∗ owes (thr d i) O W')

theorem finish_run (j dy dx : BitVec 32) (hdy : dy.toNat ≤ 8) (hdx : dx.toNat ≤ 192)
    (hO : ∀ a, (offO i j) a + S1x3x64x64.size a ≤ S64x3x64x64.size a) (so : DmaSems sig S_)
    (O : CellTallies nD τ sig (HIx 1)) (W : Waits sig (HIx 1))
    (w : S3x72x256.Idx → Elt F .f32) (f : S3x64x64.Idx → Elt F .f32) (g : S64x3x64x64.Idx → Elt F .f32) :
    iprop(Transfers.MayWaits (thr d i) (none : HIx 1) O ∗ ((bW).view.loc (thr d i) ↦{fullShare} w) ∗ ((bS).view.loc (thr d i) ↦{fullShare} f)
        ∗ ((dest i mO j hO).view.loc (thr d i) ↦[(dest i mO j hO).view.set]{fullShare} g)
        ∗ semVal (thr d i, SemLoc.dma so.sem) 0 ∗ Waited d i O W)
      ⊢ (wp frame (wpE (defs₀ (F := F)) 𝒱₀ (thr d i) none) Set.univ (finish i mO bW bS (Memref.isWhole_whole _) j dy dx hO so)
          fun _ => iprop(((bW).view.loc (thr d i) ↦{fullShare} w) ∗ (∃ f : S3x64x64.Idx → Elt F .f32, ((bS).view.loc (thr d i) ↦{fullShare} f))
            ∗ (∃ g' : S64x3x64x64.Idx → Elt F .f32, ⌜(dest i mO j hO).view.read (Elt F) g' = inner w dy.toNat dx.toNat⌝
                ∗ ((dest i mO j hO).view.loc (thr d i) ↦[(dest i mO j hO).view.set]{fullShare} g'))
            ∗ semVal (thr d i, SemLoc.dma so.sem) 0 ∗ Waited d i O W) : sProp (Res F)) := by
  unfold Waited
  iintro ⟨Hmw, HW, HS, HD, Hsem, %W', %hW', HO⟩
  unfold finish
  sl_for (fun n _ => Filled d i w dy.toNat dx.toNat (n * 64)) $$ [HW HS]
  case region =>
    intro t _
    iintro H
    iapply (trip_step d i t dy dx hdy hdx w)
    iexact H
  · unfold Filled
    isplitl [HW]; · iexact HW
    iexists f; isplitr
    · ipureintro; intro z hz; omega
    · iexact HS
  iintro %_ HI
  unfold Filled
  icases HI with ⟨HW, %f', %hf', HS⟩
  sl_exec
  sl_step
  isplitl [HW]; · iexact HW
  isplitl [HS]; · iexists f'; iexact HS
  isplitl [HD]
  · iexists _; isplitr
    rotate_left
    · iexact HD
    · ipureintro
      rw [← full_eq hf' (Nat.mul_le_mul_right 64 (le_of_eq trips_eq.symm))]
      funext z
      refine (View.read_writes_cons_hit_of_coords (dest i mO j hO).view g (Rect.whole S3x64x64) _ [] z z fun a => ?_).trans ?_
      · show (z a).val = 0 + 1 * (z a).val
        omega
      · rfl
  isplitl [Hsem]; · iexact Hsem
  iexists (insert (SemLoc.dma so.sem, (default : HIx 1)) W'); isplitr
  · ipureintro; intro p hp
    rcases Finset.mem_insert.mp hp with hp | hp
    · exact .inr (hp ▸ rfl)
    · exact hW' p hp
  · iexact HO

theorem cond_iff (s : BitVec 32) : k1_cond1 s = 1#1 ↔ s = 1#32 := by
  by_cases h : s = 1#32
  · subst h; exact ⟨fun _ => rfl, fun _ => by decide⟩
  · have e : (s == 1#32) = false := by simpa using h
    refine ⟨fun hc => ?_, fun hc => absurd hc h⟩
    unfold k1_cond1 at hc
    simp only [Scalar.cmpi, IntOp.cmpi, Scalar.extui, e] at hc
    exact absurd hc (by decide)

/-- A patch's five words pass the checks. -/
theorem chk_fits {j ya dy xw dx : BitVec 32} (hj : j.toNat < 2) (h : Fits ya dy xw dx) (sel : BitVec 32) :
    k1_chk1 ya ∧ k1_chk2 xw ∧ chkW i j ya xw sel := by
  have hb := quo16_num i hj
  have hlt := num_lt i hj
  have h1 := h.yaLe; have h2 := h.xwLe
  have key : ∀ a, (offW i j ya xw) a + S1x3x72x256.size a ≤ S4x3x512x512.size a := by
    intro a
    match a with
    | ⟨0, _⟩ => show (quo (num i j) 16#32).toNat + 1 ≤ 4; omega
    | ⟨1, _⟩ => show 0 + 3 ≤ 3; omega
    | ⟨2, _⟩ => show ya.toNat + 72 ≤ 512; omega
    | ⟨3, _⟩ => show xw.toNat + 256 ≤ 512; omega
  exact ⟨h.ya8, h.xw128, fun _ => key, fun _ => key⟩

theorem cut_run (j ya dy xw dx sel : BitVec 32) (hj : j.toNat < 2) (hfit : Fits ya dy xw dx)
    (hO : ∀ a, (offO i j) a + S1x3x64x64.size a ≤ S64x3x64x64.size a) (s1 s0 so : DmaSems sig S_)
    (O : CellTallies nD τ sig (HIx 1)) (W : Waits sig (HIx 1)) (q0 q1 : PosShare TreeShare) (p0 p1 : S4x3x512x512.Idx → Elt F .f32)
    (w : S3x72x256.Idx → Elt F .f32) (f : S3x64x64.Idx → Elt F .f32) (g : S64x3x64x64.Idx → Elt F .f32) :
    iprop(Transfers.MayWaits (thr d i) (none : HIx 1) O ∗ ((m0).view.loc (thr d i) ↦{q0} p0) ∗ ((m1).view.loc (thr d i) ↦{q1} p1)
        ∗ ((bW).view.loc (thr d i) ↦{fullShare} w) ∗ ((bS).view.loc (thr d i) ↦{fullShare} f)
        ∗ ((dest i mO j hO).view.loc (thr d i) ↦[(dest i mO j hO).view.set]{fullShare} g)
        ∗ semVal (thr d i, SemLoc.dma s1.sem) 0 ∗ semVal (thr d i, SemLoc.dma s0.sem) 0 ∗ semVal (thr d i, SemLoc.dma so.sem) 0 ∗ Waited d i O W)
      ⊢ (wp frame (wpE (defs₀ (F := F)) 𝒱₀ (thr d i) none) Set.univ
          (cut i m0 m1 mO bW bS (Memref.isWhole_whole _) (Memref.isWhole_whole _) j ya dy xw dx sel hO s1 s0 so)
          fun _ => iprop(((m0).view.loc (thr d i) ↦{q0} p0) ∗ ((m1).view.loc (thr d i) ↦{q1} p1)
            ∗ (∃ w : S3x72x256.Idx → Elt F .f32, ((bW).view.loc (thr d i) ↦{fullShare} w)) ∗ (∃ f : S3x64x64.Idx → Elt F .f32, ((bS).view.loc (thr d i) ↦{fullShare} f))
            ∗ (∃ g' : S64x3x64x64.Idx → Elt F .f32, ⌜(dest i mO j hO).view.read (Elt F) g'
                  = inner (window (if sel = 1#32 then p1 else p0) ((num i j).toNat / 16) ya.toNat xw.toNat) dy.toNat dx.toNat⌝
                ∗ ((dest i mO j hO).view.loc (thr d i) ↦[(dest i mO j hO).view.set]{fullShare} g'))
            ∗ semVal (thr d i, SemLoc.dma s1.sem) 0 ∗ semVal (thr d i, SemLoc.dma s0.sem) 0 ∗ semVal (thr d i, SemLoc.dma so.sem) 0 ∗ Waited d i O W) : sProp (Res F)) := by
  obtain ⟨hc1, hc2, hc3⟩ := chk_fits i hj hfit sel
  by_cases hsel : k1_cond1 sel = 1#1
  · rw [if_pos ((cond_iff sel).mp hsel)]
    unfold Waited
    iintro ⟨#Hmw, H0, H1, HW, HS, HD, Hs1, Hs0, Hso, %W', %hW', HO⟩
    unfold cut
    sl_exec
    have hw : View.write (Elt F) (bW).view w ((win m1 (offW i j ya xw) (hc3.1 hsel)).view.read (Elt F) p1) Finset.univ
        = window p1 ((num i j).toNat / 16) ya.toNat xw.toNat :=
      (View.write_whole_univ _ _ _).trans (read_win i m1 j ya xw hj p1 (hc3.1 hsel))
    have key := finish_run d i j dy dx hfit.dyLe hfit.dxLe hO so O W (window p1 ((num i j).toNat / 16) ya.toNat xw.toNat) f g
    unfold finish at key
    iapply (wp_wand_r frame _ _)
    isplitl [HW HS HD Hso HO]
    · iapply key
      isplitr; · iexact Hmw
      isplitl [HW]; · rw [← hw]; iexact HW
      isplitl [HS]; · iexact HS
      isplitl [HD]; · iexact HD
      isplitl [Hso]; · iexact Hso
      unfold Waited
      iexists (insert (SemLoc.dma s1.sem, (default : HIx 1)) W'); isplitr
      · ipureintro; intro p hp
        rcases Finset.mem_insert.mp hp with hp | hp
        · exact .inr (hp ▸ rfl)
        · exact hW' p hp
      · iexact HO
    iintro %_ ⟨HW, HS, HD, Hso, HO⟩
    unfold Waited
    isplitl [H0]; · iexact H0
    isplitl [H1]; · iexact H1
    isplitl [HW]; · iexists _; iexact HW
    isplitl [HS]; · iexact HS
    isplitl [HD]; · iexact HD
    isplitl [Hs1]; · iexact Hs1
    isplitl [Hs0]; · iexact Hs0
    isplitl [Hso]; · iexact Hso
    iexact HO
  · rw [if_neg (fun h => hsel ((cond_iff sel).mpr h))]
    unfold Waited
    iintro ⟨#Hmw, H0, H1, HW, HS, HD, Hs1, Hs0, Hso, %W', %hW', HO⟩
    unfold cut
    sl_exec
    have hw : View.write (Elt F) (bW).view w ((win m0 (offW i j ya xw) (hc3.2 hsel)).view.read (Elt F) p0) Finset.univ
        = window p0 ((num i j).toNat / 16) ya.toNat xw.toNat :=
      (View.write_whole_univ _ _ _).trans (read_win i m0 j ya xw hj p0 (hc3.2 hsel))
    have key := finish_run d i j dy dx hfit.dyLe hfit.dxLe hO so O W (window p0 ((num i j).toNat / 16) ya.toNat xw.toNat) f g
    unfold finish at key
    iapply (wp_wand_r frame _ _)
    isplitl [HW HS HD Hso HO]
    · iapply key
      isplitr; · iexact Hmw
      isplitl [HW]; · rw [← hw]; iexact HW
      isplitl [HS]; · iexact HS
      isplitl [HD]; · iexact HD
      isplitl [Hso]; · iexact Hso
      unfold Waited
      iexists (insert (SemLoc.dma s0.sem, (default : HIx 1)) W'); isplitr
      · ipureintro; intro p hp
        rcases Finset.mem_insert.mp hp with hp | hp
        · exact .inr (hp ▸ rfl)
        · exact hW' p hp
      · iexact HO
    iintro %_ ⟨HW, HS, HD, Hso, HO⟩
    unfold Waited
    isplitl [H0]; · iexact H0
    isplitl [H1]; · iexact H1
    isplitl [HW]; · iexists _; iexact HW
    isplitl [HS]; · iexact HS
    isplitl [HD]; · iexact HD
    isplitl [Hs1]; · iexact Hs1
    isplitl [Hs0]; · iexact Hs0
    isplitl [Hso]; · iexact Hso
    iexact HO

/-! ## A patch's place -/

/-- The elements of patch `r` in the result. -/
def rowSet (r : Fin 64) : Finset S64x3x64x64.Idx := Finset.univ.filter fun z => (z 0).val = r.val

/-- The result. -/
abbrev oLoc (d : Dev nD) : Loc nD τ sig := (SparseCore.T d).loc main_v8

/-- The number of patch `j` of the tile. -/
def rowOf (j : BitVec 32) (hj : j.toNat < 2) : Fin 64 := ⟨(num i j).toNat, num_lt i hj⟩

theorem dest_emb (j : BitVec 32) (hj : j.toNat < 2) (hO : ∀ a, (offO i j) a + S1x3x64x64.size a ≤ S64x3x64x64.size a) (z : S3x64x64.Idx) :
    (dest i mO j hO).view.emb z = (ix4 (rowOf i j hj) (z 0 : Fin 3) (z 1 : Fin 64) (z 2 : Fin 64) : S64x3x64x64.Idx) := by
  have h1 : (dest i mO j hO).view.emb z = (Rect.unit (s := S64x3x64x64) (offO i j) S1x3x64x64.size hO).emb
      (Shape.reshapeEquiv squeezes_S1x3x64x64_S3x64x64.numel_eq z) := rfl
  have e : Shape.reshapeEquiv squeezes_S1x3x64x64_S3x64x64.numel_eq z = (Fin.cons ⟨0, Nat.one_pos⟩ z : S1x3x64x64.Idx) :=
    Shape.reshapeEquiv_cons_one _ _
  rw [h1, e]
  funext a
  apply Fin.ext
  rw [Rect.emb_apply]
  match a with
  | ⟨0, _⟩ => show (num i j).toNat + 1 * 0 = (num i j).toNat; omega
  | ⟨1, _⟩ => show 0 + 1 * (z 0).val = (z 0).val; omega
  | ⟨2, _⟩ => show 0 + 1 * (z 1).val = (z 1).val; omega
  | ⟨3, _⟩ => show 0 + 1 * (z 2).val = (z 2).val; omega

theorem dest_set (j : BitVec 32) (hj : j.toNat < 2) (hO : ∀ a, (offO i j) a + S1x3x64x64.size a ≤ S64x3x64x64.size a) :
    (dest i mO j hO).view.set = rowSet (rowOf i j hj) := by
  refine Finset.ext fun (y : S64x3x64x64.Idx) => ?_
  refine Iff.trans Finset.mem_map (Iff.trans ?_ (Finset.mem_filter (s := Finset.univ) (p := fun z : S64x3x64x64.Idx => (z 0).val = (rowOf i j hj).val)).symm)
  simp only [Finset.mem_univ, true_and]
  constructor
  · rintro ⟨x, rfl⟩
    exact congrArg (fun y : S64x3x64x64.Idx => (y 0).val) (dest_emb i j hj hO x)
  · intro h
    refine ⟨(ix3 (y 1 : Fin 3) (y 2 : Fin 64) (y 3 : Fin 64) : S3x64x64.Idx), (dest_emb i j hj hO _).trans ?_⟩
    funext a
    match a with
    | ⟨0, _⟩ => exact Fin.ext h.symm
    | ⟨1, _⟩ => rfl
    | ⟨2, _⟩ => rfl
    | ⟨3, _⟩ => rfl

/-- The word in column `n` of the row loaded. -/
theorem word_row (j : BitVec 32) (hj : j.toNat < 2) (hP : ∀ a, (offP i j) a + S1x16.size a ≤ S64x16.size a) (t : S64x16.Idx → BitVec 32)
    (n : ℕ) (hn : S16.Slices ![n] S1) (hlt : n < 16) :
    word (F := F) (View.readAt (Elt F) (bP).view (Rect.unit (s := S64x16) (offP i j) S1x16.size hP).toLoadRect t) n hn
      = t (ix2 (rowOf i j hj) (⟨n, hlt⟩ : Fin 16)) := by
  unfold word
  show View.readAt (Elt F) (bP).view (Rect.unit (s := S64x16) (offP i j) S1x16.size hP).toLoadRect t (Shape.reshapeEquiv shapeCasts_S1x16_S16 _) = _
  rw [show Shape.reshapeEquiv shapeCasts_S1x16_S16 _ = (Fin.cons ⟨0, Nat.one_pos⟩ _ : S1x16.Idx) from Shape.reshapeEquiv_cons_one _ _]
  rw [View.readAt_apply]
  refine (congrFun (View.read_whole (Val := Elt F) cc1_scratch0 t) _).trans (congrArg t ?_)
  funext a
  apply Fin.ext
  match a with
  | ⟨0, _⟩ => show (num i j).toNat + 1 * 0 = (num i j).toNat; omega
  | ⟨1, _⟩ => show 0 + 1 * (n + _) = n; simp

/-- What the copy out leaves in patch `r`'s place is the patch. -/
theorem patch_read (t : S64x16.Idx → BitVec 32) (ht : TabFits t) (p0 p1 : S4x3x512x512.Idx → Elt F .f32) (r : Fin 64) (z : S3x64x64.Idx) :
    inner (window (if t (ix2 r (4 : Fin 16)) = 1#32 then p1 else p0) (r.val / 16) (t (ix2 r (0 : Fin 16))).toNat (t (ix2 r (2 : Fin 16))).toNat)
        (t (ix2 r (1 : Fin 16))).toNat (t (ix2 r (3 : Fin 16))).toNat z
      = patches t p0 p1 (ix4 r (z 0 : Fin 3) (z 1 : Fin 64) (z 2 : Fin 64) : S64x3x64x64.Idx) := by
  have h := ht r
  have h1 := h.dyLe; have h2 := h.dxLe
  have hz1 : (z 1).val < 64 := (z 1).isLt
  have hz2 : (z 2).val < 64 := (z 2).isLt
  unfold inner window patches
  show (if t (ix2 r (4 : Fin 16)) = 1#32 then p1 else p0) (pix (r.val / 16) (z 0).val ((t (ix2 r (0 : Fin 16))).toNat + ((t (ix2 r (1 : Fin 16))).toNat + (z 1).val) % 72)
      ((t (ix2 r (2 : Fin 16))).toNat + ((t (ix2 r (3 : Fin 16))).toNat + (z 2).val) % 256))
    = (if t (ix2 r (4 : Fin 16)) = 1#32 then p1 else p0) (pix (r.val / 16) (z 0).val ((t (ix2 r (0 : Fin 16))).toNat + (t (ix2 r (1 : Fin 16))).toNat + (z 1).val)
      ((t (ix2 r (2 : Fin 16))).toNat + (t (ix2 r (3 : Fin 16))).toNat + (z 2).val))
  rw [Nat.mod_eq_of_lt (show (t (ix2 r (1 : Fin 16))).toNat + (z 1).val < 72 by omega),
    Nat.mod_eq_of_lt (show (t (ix2 r (3 : Fin 16))).toNat + (z 2).val < 256 by omega), Nat.add_assoc, Nat.add_assoc]

/-- The two pictures the tile reads and its scratch. -/
def Tools (q0 q1 : PosShare TreeShare) (t : S64x16.Idx → BitVec 32) (p0 p1 : S4x3x512x512.Idx → Elt F .f32) : sProp (Res F) :=
  iprop(((m0).view.loc (thr d i) ↦{q0} p0) ∗ ((m1).view.loc (thr d i) ↦{q1} p1) ∗ ((bP).view.loc (thr d i) ↦{fullShare} t)
    ∗ (∃ w : S3x72x256.Idx → Elt F .f32, ((bW).view.loc (thr d i) ↦{fullShare} w)) ∗ (∃ f : S3x64x64.Idx → Elt F .f32, ((bS).view.loc (thr d i) ↦{fullShare} f)))

/-- The row of parameters loaded, whatever follows. -/
theorem load_row (r : Rect S64x16) (hl : (bP).view.LoadsAt r.toLoadRect) (t : S64x16.Idx → BitVec 32)
    (k : Vec F r.shape .i32 → Prog (TpuEff nD τ sig (Elt F) Λ₀ (.scVector ((i 0).castLE hcore1) ((i 1).castLE hsub1))) PUnit) (Q : PUnit → sProp (Res F)) :
    iprop(((bP).view.loc (thr d i) ↦{fullShare} t) ∗ (((bP).view.loc (thr d i) ↦{fullShare} t)
        -∗ wp frame (wpE (defs₀ (F := F)) 𝒱₀ (thr d i) none) Set.univ (k (View.readAt (Elt F) (bP).view r.toLoadRect t)) Q))
      ⊢ wp frame (wpE (defs₀ (F := F)) 𝒱₀ (thr d i) none) Set.univ (Prog.lift (.load bP r.toLoadRect hl) >>= k) Q := by
  iintro ⟨HP, Hk⟩
  sl_exec
  iapply Hk
  iexact HP

theorem patch_run (j : BitVec 32) (hj : j.toNat < 2) (hP : ∀ a, (offP i j) a + S1x16.size a ≤ S64x16.size a)
    (hO : ∀ a, (offO i j) a + S1x3x64x64.size a ≤ S64x3x64x64.size a) (s1 s0 so : DmaSems sig S_)
    (O : CellTallies nD τ sig (HIx 1)) (W : Waits sig (HIx 1)) (q0 q1 : PosShare TreeShare)
    (t : S64x16.Idx → BitVec 32) (ht : TabFits t) (p0 p1 : S4x3x512x512.Idx → Elt F .f32) (g : S64x3x64x64.Idx → Elt F .f32) :
    iprop(Transfers.MayWaits (thr d i) (none : HIx 1) O ∗ Tools d i q0 q1 t p0 p1
        ∗ (oLoc d ↦[rowSet (rowOf i j hj)]{fullShare} g)
        ∗ semVal (thr d i, SemLoc.dma s1.sem) 0 ∗ semVal (thr d i, SemLoc.dma s0.sem) 0 ∗ semVal (thr d i, SemLoc.dma so.sem) 0 ∗ Waited d i O W)
      ⊢ (wp frame (wpE (defs₀ (F := F)) 𝒱₀ (thr d i) none) Set.univ
          (patch i m0 m1 mO bP bW bS (Memref.isWhole_whole _) (Memref.isWhole_whole _) j hP hO s1 s0 so)
          fun _ => iprop(Tools d i q0 q1 t p0 p1
            ∗ (oLoc d ↦[rowSet (rowOf i j hj)]{fullShare} patches t p0 p1)
            ∗ semVal (thr d i, SemLoc.dma s1.sem) 0 ∗ semVal (thr d i, SemLoc.dma s0.sem) 0 ∗ semVal (thr d i, SemLoc.dma so.sem) 0 ∗ Waited d i O W) : sProp (Res F)) := by
  unfold Tools
  iintro ⟨#Hmw, ⟨H0, H1, HP, ⟨%w, HW⟩, ⟨%f, HS⟩⟩, HD, Hs1, Hs0, Hso, HO⟩
  unfold patch
  iapply (load_row d i)
  isplitl [HP]; · iexact HP
  iintro HP
  have e0 := word_row (F := F) i j hj hP t 0 slices_S16_o0_S1 (by decide)
  have e1 := word_row (F := F) i j hj hP t 1 slices_S16_o1_S1 (by decide)
  have e2 := word_row (F := F) i j hj hP t 2 slices_S16_o2_S1 (by decide)
  have e3 := word_row (F := F) i j hj hP t 3 slices_S16_o3_S1 (by decide)
  have e4 := word_row (F := F) i j hj hP t 4 slices_S16_o4_S1 (by decide)
  rw [e0, e1, e2, e3, e4]
  iapply (wp_wand_r frame _ _)
  isplitl [H0 H1 HW HS HD Hs1 Hs0 Hso HO]
  · iapply (cut_run (F := F) d i j _ _ _ _ (t (ix2 (rowOf i j hj) (4 : Fin 16))) hj (ht (rowOf i j hj)) hO s1 s0 so O W q0 q1 p0 p1 w f g)
    rw [dest_set i j hj hO]
    isplitr; · iexact Hmw
    isplitl [H0]; · iexact H0
    isplitl [H1]; · iexact H1
    isplitl [HW]; · iexact HW
    isplitl [HS]; · iexact HS
    isplitl [HD]; · iexact HD
    isplitl [Hs1]; · iexact Hs1
    isplitl [Hs0]; · iexact Hs0
    isplitl [Hso]; · iexact Hso
    iexact HO
  iintro %_ ⟨H0, H1, HW, HS, ⟨%g', %hg, HD⟩, Hs1, Hs0, Hso, HO⟩
  isplitl [H0 H1 HP HW HS]
  · isplitl [H0]; · iexact H0
    isplitl [H1]; · iexact H1
    isplitl [HP]; · iexact HP
    isplitl [HW]; · iexact HW
    iexact HS
  isplitl [HD]
  · have hc : ∀ y ∈ rowSet (rowOf i j hj), g' y = patches t p0 p1 y := by
      intro y hy
      have hr := congrFun hg (ix3 (y 1 : Fin 3) (y 2 : Fin 64) (y 3 : Fin 64) : S3x64x64.Idx)
      have hy' : (y 0).val = (rowOf i j hj).val := (Finset.mem_filter.mp hy).2
      have e : (dest i mO j hO).view.emb (ix3 (y 1 : Fin 3) (y 2 : Fin 64) (y 3 : Fin 64) : S3x64x64.Idx) = y := by
        refine (dest_emb i j hj hO _).trans ?_
        funext a
        match a with
        | ⟨0, _⟩ => exact Fin.ext hy'.symm
        | ⟨1, _⟩ => rfl
        | ⟨2, _⟩ => rfl
        | ⟨3, _⟩ => rfl
      have hr1 : g' ((dest i mO j hO).view.emb (ix3 (y 1 : Fin 3) (y 2 : Fin 64) (y 3 : Fin 64) : S3x64x64.Idx)) = _ := hr
      rw [e] at hr1
      rw [hr1]
      refine (patch_read t ht p0 p1 (rowOf i j hj) _).trans (congrArg (patches t p0 p1) ?_)
      exact (dest_emb i j hj hO _).symm.trans e
    iapply (Entails.of_eq (pointsTo_congr (ℓ := oLoc d) (q := fullShare) hc))
    iapply (Entails.of_eq (congrArg (fun s => (oLoc d ↦[s]{fullShare} g' : sProp (Res F))) (dest_set i j hj hO)))
    iexact HD
  isplitl [Hs1]; · iexact Hs1
  isplitl [Hs0]; · iexact Hs0
  isplitl [Hso]; · iexact Hso
  iexact HO

end Cert.Proof.Gather

end
-- ==== Proof.Task.lean ====
/-
  A tile's whole task, over what its thread owns.
-/
module

public import proofs.«01_k».proof.Proof.Patch

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

variable (d : Dev nD) (i : grid1.Coords)

local notation "mP" => (Memref.whole Cert.KernelIdeal.main_v5_1_scv : Memref Cert.KernelIdeal.sig Kind.scVector Space.hbm Cert.KernelIdeal.S64x16 EltTy.i32)
local notation "m0" => (Memref.whole Cert.KernelIdeal.main_v6_scv : Memref Cert.KernelIdeal.sig Kind.scVector Space.hbm Cert.KernelIdeal.S4x3x512x512 EltTy.f32)
local notation "m1" => (Memref.whole Cert.KernelIdeal.main_v7_scv : Memref Cert.KernelIdeal.sig Kind.scVector Space.hbm Cert.KernelIdeal.S4x3x512x512 EltTy.f32)
local notation "mO" => (Memref.whole Cert.KernelIdeal.main_v8_scv : Memref Cert.KernelIdeal.sig Kind.scVector Space.hbm Cert.KernelIdeal.S64x3x64x64 EltTy.f32)
local notation "bP" => (Memref.whole Cert.KernelIdeal.cc1_scratch0 : Memref Cert.KernelIdeal.sig Kind.scVector Space.vmem Cert.KernelIdeal.S64x16 EltTy.i32)
local notation "bW" => (Memref.whole Cert.KernelIdeal.cc1_scratch1 : Memref Cert.KernelIdeal.sig Kind.scVector Space.vmem Cert.KernelIdeal.S3x72x256 EltTy.f32)
local notation "bS" => (Memref.whole Cert.KernelIdeal.cc1_scratch2 : Memref Cert.KernelIdeal.sig Kind.scVector Space.vmem Cert.KernelIdeal.S3x64x64 EltTy.f32)

/-! ## What the thread owns -/

abbrev pLoc (d : Dev nD) : Loc nD τ sig := (SparseCore.T d).loc main_v5_1
abbrev aLoc (d : Dev nD) : Loc nD τ sig := (SparseCore.T d).loc main_v6
abbrev bLoc (d : Dev nD) : Loc nD τ sig := (SparseCore.T d).loc main_v7

/-- A semaphore of the tile. -/
abbrev cell (r : DmaSems sig S_) : GSem nD τ sig := (thr d i, SemLoc.dma r.sem)

theorem cell_ne {r s : DmaSems sig S_} (h : (SemLoc.dma r.sem : SemLoc sig) ≠ SemLoc.dma s.sem) : cell d i r ≠ cell d i s :=
  fun e => h (Prod.mk.inj e).2
theorem cell_mem (r : DmaSems sig S_) (h : (SemLoc.dma r.sem : SemLoc sig).isScoped .scVector = true) : cell d i r ∈ ownCells (thr d i) :=
  (mem_ownCells (g := cell d i r)).mpr ⟨rfl, h⟩

theorem ownSems0_tile :
    (ownSems0 (thr d i) : sProp (Res F))
      = iprop(semVal (cell d i cc1_scoped0) 0 ∗ semVal (cell d i cc1_scoped1) 0 ∗ semVal (cell d i cc1_scoped2) 0 ∗ semVal (cell d i cc1_scoped3) 0 ∗ semVal (cell d i cc1_scoped4) 0 ∗ semVal (cell d i cc1_scoped5) 0 ∗ semVal (cell d i cc1_scoped6) 0
          ∗ bigSep ((((((((ownCells (thr d i)).erase (cell d i cc1_scoped0)).erase (cell d i cc1_scoped1)).erase (cell d i cc1_scoped2)).erase (cell d i cc1_scoped3)).erase (cell d i cc1_scoped4)).erase (cell d i cc1_scoped5)).erase (cell d i cc1_scoped6)) fun g => semVal g 0) := by
  unfold SparseCore.Cfg.ownSems0
  rw [SparseCore.bigSep_erase' (i := cell d i cc1_scoped0) (cell_mem d i _ (by decide)),
    SparseCore.bigSep_erase' (i := cell d i cc1_scoped1) (s := (ownCells (thr d i)).erase (cell d i cc1_scoped0)) (by
      simp only [Finset.mem_erase]
      exact ⟨cell_ne d i (by decide), cell_mem d i _ (by decide)⟩),
    SparseCore.bigSep_erase' (i := cell d i cc1_scoped2) (s := ((ownCells (thr d i)).erase (cell d i cc1_scoped0)).erase (cell d i cc1_scoped1)) (by
      simp only [Finset.mem_erase]
      exact ⟨cell_ne d i (by decide), cell_ne d i (by decide), cell_mem d i _ (by decide)⟩),
    SparseCore.bigSep_erase' (i := cell d i cc1_scoped3) (s := (((ownCells (thr d i)).erase (cell d i cc1_scoped0)).erase (cell d i cc1_scoped1)).erase (cell d i cc1_scoped2)) (by
      simp only [Finset.mem_erase]
      exact ⟨cell_ne d i (by decide), cell_ne d i (by decide), cell_ne d i (by decide), cell_mem d i _ (by decide)⟩),
    SparseCore.bigSep_erase' (i := cell d i cc1_scoped4) (s := ((((ownCells (thr d i)).erase (cell d i cc1_scoped0)).erase (cell d i cc1_scoped1)).erase (cell d i cc1_scoped2)).erase (cell d i cc1_scoped3)) (by
      simp only [Finset.mem_erase]
      exact ⟨cell_ne d i (by decide), cell_ne d i (by decide), cell_ne d i (by decide), cell_ne d i (by decide), cell_mem d i _ (by decide)⟩),
    SparseCore.bigSep_erase' (i := cell d i cc1_scoped5) (s := (((((ownCells (thr d i)).erase (cell d i cc1_scoped0)).erase (cell d i cc1_scoped1)).erase (cell d i cc1_scoped2)).erase (cell d i cc1_scoped3)).erase (cell d i cc1_scoped4)) (by
      simp only [Finset.mem_erase]
      exact ⟨cell_ne d i (by decide), cell_ne d i (by decide), cell_ne d i (by decide), cell_ne d i (by decide), cell_ne d i (by decide), cell_mem d i _ (by decide)⟩),
    SparseCore.bigSep_erase' (i := cell d i cc1_scoped6) (s := ((((((ownCells (thr d i)).erase (cell d i cc1_scoped0)).erase (cell d i cc1_scoped1)).erase (cell d i cc1_scoped2)).erase (cell d i cc1_scoped3)).erase (cell d i cc1_scoped4)).erase (cell d i cc1_scoped5)) (by
      simp only [Finset.mem_erase]
      exact ⟨cell_ne d i (by decide), cell_ne d i (by decide), cell_ne d i (by decide), cell_ne d i (by decide), cell_ne d i (by decide), cell_ne d i (by decide), cell_mem d i _ (by decide)⟩)]

theorem ownBufs_tile :
    (ownBufs (thr d i) : sProp (Res F))
      = iprop((∃ f, (thr d i).loc cc1_scratch0 ↦{fullShare} f) ∗ (∃ f, (thr d i).loc cc1_scratch1 ↦{fullShare} f)
          ∗ (∃ f, (thr d i).loc cc1_scratch2 ↦{fullShare} f)
          ∗ bigSep ((((ownRefs (τ := τ) (.scVector (cV i) (jV i))).erase ((Proc.scVector (cV i) (jV i)).devRef cc1_scratch0)).erase
              ((Proc.scVector (cV i) (jV i)).devRef cc1_scratch1)).erase ((Proc.scVector (cV i) (jV i)).devRef cc1_scratch2))
              fun b => iprop(∃ f, ((d, b) : Loc nD τ sig) ↦{fullShare} f)) := by
  have hm (b : Ref sig .scVector) (h) := SparseCore.Cfg.mem_ownRefs_of_owner (p := Proc.scVector (cV i) (jV i)) (b := (Proc.scVector (cV i) (jV i)).devRef b) h
  have hn {a b : Ref sig .scVector} (h : a ≠ b) : (Proc.scVector (cV i) (jV i)).devRef a ≠ (Proc.scVector (cV i) (jV i)).devRef b :=
    fun e => h (Proc.devRef_injective _ e)
  unfold SparseCore.Cfg.ownBufs
  refine (SparseCore.bigSep_erase' (hm cc1_scratch0 rfl)).trans ?_
  rw [SparseCore.bigSep_erase' (Finset.mem_erase.mpr ⟨hn (show (cc1_scratch1 : Ref sig .scVector) ≠ cc1_scratch0 by decide), hm cc1_scratch1 rfl⟩),
    SparseCore.bigSep_erase' (Finset.mem_erase.mpr ⟨hn (show (cc1_scratch2 : Ref sig .scVector) ≠ cc1_scratch1 by decide),
      Finset.mem_erase.mpr ⟨hn (show (cc1_scratch2 : Ref sig .scVector) ≠ cc1_scratch0 by decide), hm cc1_scratch2 rfl⟩⟩)]

/-! ## The task -/

/-- What the tile is handed: read shares of the table and of the pictures, and its two patches' places at contents `g`. -/
def Hand (q : PosShare TreeShare) (t : S64x16.Idx → BitVec 32) (p0 p1 : S4x3x512x512.Idx → Elt F .f32) (g : S64x3x64x64.Idx → Elt F .f32) : sProp (Res F) :=
  iprop((pLoc d ↦{q} t) ∗ (aLoc d ↦{q} p0) ∗ (bLoc d ↦{q} p1)
    ∗ (oLoc d ↦[rowSet (rowOf i 0#32 (by decide))]{fullShare} g) ∗ (oLoc d ↦[rowSet (rowOf i 1#32 (by decide))]{fullShare} g))

/-- The table fetched, whatever follows. -/
theorem fetch_run (r : DmaSems sig S_) (q : PosShare TreeShare) (t : S64x16.Idx → BitVec 32) (u : S64x16.Idx → BitVec 32)
    (O : CellTallies nD τ sig (HIx 1)) (W : Waits sig (HIx 1))
    (k : Prog (TpuEff nD τ sig (Elt F) Λ₀ (.scVector ((i 0).castLE hcore1) ((i 1).castLE hsub1))) PUnit) (Q : PUnit → sProp (Res F)) :
    iprop(Transfers.MayWaits (thr d i) (none : HIx 1) O ∗ ((mP).view.loc (thr d i) ↦{q} t) ∗ ((bP).view.loc (thr d i) ↦{fullShare} u)
        ∗ semVal (thr d i, SemLoc.dma r.sem) 0 ∗ Waited d i O W
        ∗ ((((mP).view.loc (thr d i) ↦{q} t) ∗ ((bP).view.loc (thr d i) ↦{fullShare} t) ∗ semVal (thr d i, SemLoc.dma r.sem) 0 ∗ Waited d i O W)
          -∗ wp frame (wpE (defs₀ (F := F)) 𝒱₀ (thr d i) none) Set.univ k Q))
      ⊢ wp frame (wpE (defs₀ (F := F)) 𝒱₀ (thr d i) none) Set.univ (do
          Prog.lift (.enqueueDma mP (.here bP) (.dma r.sem) (Memref.isWhole_whole _).wordExact (Memref.isWhole_whole _).wordExact ⟨Or.inl rfl, trivial⟩)
          Prog.lift (.waitDma2 r.sem mP bP (Memref.isWhole_whole _).wordExact (Memref.isWhole_whole _).wordExact)
          k) Q := by
  unfold Waited
  iintro ⟨#Hmw, HT, HP, Hs, ⟨%W', %hW', HO⟩, Hk⟩
  sl_exec
  iapply Hk
  isplitl [HT]; · iexact HT
  isplitl [HP]
  · have e : View.write (Elt F) (bP).view u ((mP).view.read (Elt F) t) Finset.univ = t := View.write_whole_univ _ _ _
    have e' := congrArg (fun x => ((bP).view.loc (thr d i) ↦{fullShare} x : sProp (Res F))) e
    iapply (Entails.of_eq e')
    iexact HP
  isplitl [Hs]; · iexact Hs
  iexists (insert (SemLoc.dma r.sem, (default : HIx 1)) W'); isplitr
  · ipureintro; intro p hp
    rcases Finset.mem_insert.mp hp with hp | hp
    · exact .inr (hp ▸ rfl)
    · exact hW' p hp
  · iexact HO

/-- The body of the kernel at a tile. -/
theorem tile_body (O : CellTallies nD τ sig (HIx 1)) (W : Waits sig (HIx 1)) (hO : ∀ g, O g none = 0) (q : PosShare TreeShare)
    (t : S64x16.Idx → BitVec 32) (ht : TabFits t) (p0 p1 : S4x3x512x512.Idx → Elt F .f32) (g : S64x3x64x64.Idx → Elt F .f32) :
    iprop(levAts (K (F := F)).L (K (F := F)).lev ∗ emp ∗ Hand d i q t p0 p1 g
        ∗ scopedBufs (thr d i) ∗ scopedSems0 (thr d i) ∗ owes (thr d i) O W)
      ⊢ (wp frame (wpE (defs₀ (F := F)) 𝒱₀ (thr d i) none) Set.univ
          (cc1__gather_body (F := F) i mP (Memref.isWhole_whole _) m0 (Memref.isWhole_whole _) m1 (Memref.isWhole_whole _) mO (Memref.isWhole_whole _)
            bP (Memref.isWhole_whole _) bW (Memref.isWhole_whole _) bS (Memref.isWhole_whole _)
            cc1_scoped0 cc1_scoped1 cc1_scoped2 cc1_scoped3 cc1_scoped4 cc1_scoped5 cc1_scoped6)
          fun _ => iprop(Hand d i q t p0 p1 (patches t p0 p1) ∗ scopedBufs (thr d i) ∗ scopedSems0 (thr d i)
            ∗ ∃ W', ⌜∀ p ∈ W', p ∈ W ∨ p.2 = none⌝ ∗ owes (thr d i) O W') : sProp (Res F)) := by
  rw [body_eq, (K (F := F)).scopedBufs_V facts d (cV i) (jV i), SparseCore.Cfg.scopedSems0_V (Val := Elt F) d (cV i) (jV i), ownSems0_tile, ownBufs_tile]
  unfold Hand
  iintro ⟨#Hlv, -, ⟨HT, H0, H1, HD0, HD1⟩, ⟨⟨%u, HP⟩, ⟨%w, HW⟩, ⟨%f, HS⟩, Hbufs⟩, ⟨Hr0, Hr1, Hr2, Hr3, Hr4, Hr5, Hr6, Hsems⟩, HO⟩
  ihave Hmw := ((K (F := F)).mayWaits_none (thr := thr d i) hO) $$ Hlv
  icases Hmw with #Hmw
  unfold body
  iapply (fetch_run d i cc1_scoped0 q t u O W)
  isplitr; · iexact Hmw
  isplitl [HT]; · iexact HT
  isplitl [HP]; · iexact HP
  isplitl [Hr0]; · iexact Hr0
  isplitl [HO]
  · unfold Waited
    iexists W; isplitr
    · ipureintro; exact fun p hp => .inl hp
    · iexact HO
  iintro ⟨HT, HP, Hr0, HO⟩
  rw [wp_bind]
  iapply (wp_wand_r frame _ _)
  isplitl [H0 H1 HP HW HS HD0 Hr1 Hr2 Hr3 HO]
  · iapply (patch_run (F := F) d i 0#32 (by decide) (k1_off1_inb i) (k1_off8_inb i) cc1_scoped1 cc1_scoped2 cc1_scoped3 O W q q t ht p0 p1 g)
    isplitr; · iexact Hmw
    isplitl [H0 H1 HP HW HS]
    · unfold Tools
      isplitl [H0]; · iexact H0
      isplitl [H1]; · iexact H1
      isplitl [HP]; · iexact HP
      isplitl [HW]; · iexists w; iexact HW
      iexists f; iexact HS
    isplitl [HD0]; · iexact HD0
    isplitl [Hr1]; · iexact Hr1
    isplitl [Hr2]; · iexact Hr2
    isplitl [Hr3]; · iexact Hr3
    iexact HO
  iintro %_ ⟨HTo, HD0, Hr1, Hr2, Hr3, HO⟩
  iapply (wp_wand_r frame _ _)
  isplitl [HTo HD1 Hr4 Hr5 Hr6 HO]
  · iapply (patch_run (F := F) d i 1#32 (by decide) (k1_off9_inb i) (k1_off16_inb i) cc1_scoped4 cc1_scoped5 cc1_scoped6 O W q q t ht p0 p1 g)
    isplitr; · iexact Hmw
    isplitl [HTo]; · iexact HTo
    isplitl [HD1]; · iexact HD1
    isplitl [Hr4]; · iexact Hr4
    isplitl [Hr5]; · iexact Hr5
    isplitl [Hr6]; · iexact Hr6
    iexact HO
  unfold Tools
  iintro %_ ⟨⟨H0, H1, HP, ⟨%w', HW⟩, ⟨%f', HS⟩⟩, HD1, Hr4, Hr5, Hr6, HO⟩
  isplitl [HT H0 H1 HD0 HD1]
  · isplitl [HT]; · iexact HT
    isplitl [H0]; · iexact H0
    isplitl [H1]; · iexact H1
    isplitl [HD0]; · iexact HD0
    iexact HD1
  isplitl [HP HW HS Hbufs]
  · isplitl [HP]; · iexists t; iexact HP
    isplitl [HW]; · iexists w'; iexact HW
    isplitl [HS]; · iexists f'; iexact HS
    iexact Hbufs
  isplitl [Hr0 Hr1 Hr2 Hr3 Hr4 Hr5 Hr6 Hsems]
  · isplitl [Hr0]; · iexact Hr0
    isplitl [Hr1]; · iexact Hr1
    isplitl [Hr2]; · iexact Hr2
    isplitl [Hr3]; · iexact Hr3
    isplitl [Hr4]; · iexact Hr4
    isplitl [Hr5]; · iexact Hr5
    isplitl [Hr6]; · iexact Hr6
    iexact Hsems
  unfold Waited
  iexact HO

end Cert.Proof.Gather

end
-- ==== Proof.Deal.lean ====
/-
  What the second call hands its tiles and takes back: read shares of the table and of the pictures, and each tile's own
  patches of the result.
-/
module

public import proofs.«01_k».proof.Proof.Task

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay)
open Idealize.ShloMosaic.Transfers (shareTok shareDrop pointsTo_toks_split pointsTo_toks_join)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "mP" => (Memref.whole Cert.KernelIdeal.main_v5_1_scv : Memref Cert.KernelIdeal.sig Kind.scVector Space.hbm Cert.KernelIdeal.S64x16 EltTy.i32)
local notation "m0" => (Memref.whole Cert.KernelIdeal.main_v6_scv : Memref Cert.KernelIdeal.sig Kind.scVector Space.hbm Cert.KernelIdeal.S4x3x512x512 EltTy.f32)
local notation "m1" => (Memref.whole Cert.KernelIdeal.main_v7_scv : Memref Cert.KernelIdeal.sig Kind.scVector Space.hbm Cert.KernelIdeal.S4x3x512x512 EltTy.f32)
local notation "mO" => (Memref.whole Cert.KernelIdeal.main_v8_scv : Memref Cert.KernelIdeal.sig Kind.scVector Space.hbm Cert.KernelIdeal.S64x3x64x64 EltTy.f32)
local notation "bP" => (Memref.whole Cert.KernelIdeal.cc1_scratch0 : Memref Cert.KernelIdeal.sig Kind.scVector Space.vmem Cert.KernelIdeal.S64x16 EltTy.i32)
local notation "bW" => (Memref.whole Cert.KernelIdeal.cc1_scratch1 : Memref Cert.KernelIdeal.sig Kind.scVector Space.vmem Cert.KernelIdeal.S3x72x256 EltTy.f32)
local notation "bS" => (Memref.whole Cert.KernelIdeal.cc1_scratch2 : Memref Cert.KernelIdeal.sig Kind.scVector Space.vmem Cert.KernelIdeal.S3x64x64 EltTy.f32)

/-! ## The result's patches, by SparseCore and by tile -/

def coordsV (c : Fin (grid1.bound 0)) (s : Fin (grid1.bound 1)) : grid1.Coords :=
  fun | 0 => c | 1 => s | ⟨_ + 2, h⟩ => absurd h (Nat.not_lt.2 (Nat.le_add_left _ _))

/-- The same over plain numbers. -/
def spot (c : Fin 2) (s : Fin 16) : grid1.Coords := coordsV c s

/-- The patches of SparseCore `c`. -/
def coreSet (c : Fin 2) : Finset S64x3x64x64.Idx := Finset.univ.filter fun z => (z 0).val / 2 % 2 = c.val
/-- The patches of tile `s` of SparseCore `c`. -/
def tileSet (c : Fin 2) (s : Fin 16) : Finset S64x3x64x64.Idx := Finset.univ.filter fun z => (z 0).val / 2 = s.val * 2 + c.val

theorem mem_coreSet (c : Fin 2) (z : S64x3x64x64.Idx) : z ∈ coreSet c ↔ (z 0).val / 2 % 2 = c.val := by
  unfold coreSet; exact (Finset.mem_filter (p := fun z : S64x3x64x64.Idx => (z 0).val / 2 % 2 = c.val)).trans (and_iff_right (Finset.mem_univ z))
theorem mem_tileSet (c : Fin 2) (s : Fin 16) (z : S64x3x64x64.Idx) : z ∈ tileSet c s ↔ (z 0).val / 2 = s.val * 2 + c.val := by
  unfold tileSet; exact (Finset.mem_filter (p := fun z : S64x3x64x64.Idx => (z 0).val / 2 = s.val * 2 + c.val)).trans (and_iff_right (Finset.mem_univ z))
theorem mem_rowSet (r : Fin 64) (z : S64x3x64x64.Idx) : z ∈ rowSet r ↔ (z 0).val = r.val := by
  unfold rowSet; exact (Finset.mem_filter (p := fun z : S64x3x64x64.Idx => (z 0).val = r.val)).trans (and_iff_right (Finset.mem_univ z))

theorem patch_lt (z : S64x3x64x64.Idx) : (z 0).val < 64 := (z 0).isLt

theorem cores_disjoint : ∀ a ∈ (Finset.univ : Finset (Fin 2)), ∀ b ∈ (Finset.univ : Finset (Fin 2)), a ≠ b → Disjoint (coreSet a) (coreSet b) :=
  fun a _ b _ h => Finset.disjoint_left.mpr fun z ha hb => h (Fin.ext (((mem_coreSet a z).mp ha).symm.trans ((mem_coreSet b z).mp hb)))
theorem cores_cover : (Finset.univ : Finset (Fin 2)).biUnion coreSet = Finset.univ :=
  Finset.ext fun z => ⟨fun _ => Finset.mem_univ z, fun _ => Finset.mem_biUnion.mpr
    ⟨⟨(z 0).val / 2 % 2, Nat.mod_lt _ (by decide)⟩, Finset.mem_univ _, (mem_coreSet _ z).mpr rfl⟩⟩
theorem tiles_disjoint (c : Fin 2) : ∀ a ∈ (Finset.univ : Finset (Fin 16)), ∀ b ∈ (Finset.univ : Finset (Fin 16)), a ≠ b → Disjoint (tileSet c a) (tileSet c b) :=
  fun a _ b _ h => Finset.disjoint_left.mpr fun z ha hb => h (Fin.ext (by
    have e := ((mem_tileSet c a z).mp ha).symm.trans ((mem_tileSet c b z).mp hb); omega))
theorem tiles_cover (c : Fin 2) : (Finset.univ : Finset (Fin 16)).biUnion (tileSet c) = coreSet c :=
  Finset.ext fun z => by
    have hc := c.isLt
    have hz := patch_lt z
    constructor
    · intro h
      obtain ⟨s, -, h⟩ := Finset.mem_biUnion.mp h
      have := (mem_tileSet c s z).mp h
      exact (mem_coreSet c z).mpr (by omega)
    · intro h
      have := (mem_coreSet c z).mp h
      exact Finset.mem_biUnion.mpr ⟨⟨(z 0).val / 4, by omega⟩, Finset.mem_univ _, (mem_tileSet c _ z).mpr (by show (z 0).val / 2 = (z 0).val / 4 * 2 + c.val; omega)⟩

theorem rows_disjoint (i : grid1.Coords) : Disjoint (rowSet (rowOf i 0#32 (by decide))) (rowSet (rowOf i 1#32 (by decide))) :=
  Finset.disjoint_left.mpr fun z ha hb => by
    have h0 : (z 0).val = (num i 0#32).toNat := (mem_rowSet _ z).mp ha
    have h1 : (z 0).val = (num i 1#32).toNat := (mem_rowSet _ z).mp hb
    rw [num_toNat i (by decide)] at h0 h1
    have e0 : (0#32 : BitVec 32).toNat = 0 := rfl
    have e1 : (1#32 : BitVec 32).toNat = 1 := rfl
    omega
theorem rows_cover (c : Fin 2) (s : Fin 16) :
    rowSet (rowOf (spot c s) 0#32 (by decide)) ∪ rowSet (rowOf (spot c s) 1#32 (by decide)) = tileSet c s :=
  Finset.ext fun z => by
    have a0 : (rowOf (spot c s) 0#32 (by decide)).val = (s.val * 2 + c.val) * 2 + 0 := num_toNat (spot c s) (j := 0#32) (by decide)
    have a1 : (rowOf (spot c s) 1#32 (by decide)).val = (s.val * 2 + c.val) * 2 + 1 := num_toNat (spot c s) (j := 1#32) (by decide)
    rw [Finset.mem_union, mem_rowSet, mem_rowSet, mem_tileSet, a0, a1]
    omega

theorem out_cores (d : Dev nD) (g : S64x3x64x64.Idx → Elt F .f32) :
    (oLoc d ↦{fullShare} g : sProp (Res F)) = bigSep Finset.univ fun c : Fin 2 => oLoc d ↦[coreSet c]{fullShare} g := by
  rw [← pointsTo_biUnion Finset.univ (ℓ := oLoc d) coreSet cores_disjoint, cores_cover]
theorem out_tiles (d : Dev nD) (c : Fin 2) (g : S64x3x64x64.Idx → Elt F .f32) :
    (oLoc d ↦[coreSet c]{fullShare} g : sProp (Res F)) = bigSep Finset.univ fun s : Fin 16 => oLoc d ↦[tileSet c s]{fullShare} g := by
  rw [← pointsTo_biUnion Finset.univ (ℓ := oLoc d) (tileSet c) (tiles_disjoint c), tiles_cover]
theorem out_rows (d : Dev nD) (c : Fin 2) (s : Fin 16) (g : S64x3x64x64.Idx → Elt F .f32) :
    (oLoc d ↦[tileSet c s]{fullShare} g : sProp (Res F))
      ⊣⊢ iprop((oLoc d ↦[rowSet (rowOf (spot c s) 0#32 (by decide))]{fullShare} g)
          ∗ (oLoc d ↦[rowSet (rowOf (spot c s) 1#32 (by decide))]{fullShare} g)) := by
  rw [← rows_cover c s]
  exact pointsTo_union (rows_disjoint (spot c s))

/-! ## What goes to a SparseCore and to a tile -/

variable (t : Dev nD → S64x16.Idx → BitVec 32) (p0 p1 : Dev nD → S4x3x512x512.Idx → Elt F .f32) (g : Dev nD → S64x3x64x64.Idx → Elt F .f32)

/-- What is handed out: read shares of the table and of the pictures, and the elements `A` of the result. -/
def Deal (d : Dev nD) (q : PosShare TreeShare) (A : Finset S64x3x64x64.Idx) (u : S64x16.Idx → BitVec 32)
    (x y : S4x3x512x512.Idx → Elt F .f32) (f : S64x3x64x64.Idx → Elt F .f32) : sProp (Res F) :=
  iprop((pLoc d ↦{q} u) ∗ (aLoc d ↦{q} x) ∗ (bLoc d ↦{q} y) ∗ oLoc d ↦[A]{fullShare} f)

/-- What of the shares stays behind when `n` are handed on. -/
def Rest (d : Dev nD) (q : PosShare TreeShare) (n : ℕ) (u : S64x16.Idx → BitVec 32) (x y : S4x3x512x512.Idx → Elt F .f32) : sProp (Res F) :=
  iprop((pLoc d ↦{shareDrop q n} u) ∗ (aLoc d ↦{shareDrop q n} x) ∗ (bLoc d ↦{shareDrop q n} y))

theorem deal_hand (d : Dev nD) (c : Fin 2) (s : Fin 16) (q : PosShare TreeShare) (u : S64x16.Idx → BitVec 32)
    (x y : S4x3x512x512.Idx → Elt F .f32) (f : S64x3x64x64.Idx → Elt F .f32) :
    Deal d q (tileSet c s) u x y f ⊢ Hand d (spot c s) q u x y f := by
  unfold Deal Hand
  iintro ⟨H0, H1, H2, H3⟩
  isplitl [H0]; · iexact H0
  isplitl [H1]; · iexact H1
  isplitl [H2]; · iexact H2
  iapply (out_rows d c s f).1; iexact H3
theorem hand_deal (d : Dev nD) (c : Fin 2) (s : Fin 16) (q : PosShare TreeShare) (u : S64x16.Idx → BitVec 32)
    (x y : S4x3x512x512.Idx → Elt F .f32) (f : S64x3x64x64.Idx → Elt F .f32) :
    Hand d (spot c s) q u x y f ⊢ Deal d q (tileSet c s) u x y f := by
  unfold Deal Hand
  iintro ⟨H0, H1, H2, H3, H4⟩
  isplitl [H0]; · iexact H0
  isplitl [H1]; · iexact H1
  isplitl [H2]; · iexact H2
  iapply (out_rows d c s f).2
  isplitl [H3]; · iexact H3
  iexact H4

/-- A set's share dealt out in `n` parts, the result's elements by `A`. -/
theorem deal_split (d : Dev nD) (q : PosShare TreeShare) (n : ℕ) (B : Finset S64x3x64x64.Idx) (A : Fin n → Finset S64x3x64x64.Idx)
    (h : ∀ f : S64x3x64x64.Idx → Elt F .f32, (oLoc d ↦[B]{fullShare} f : sProp (Res F)) = bigSep Finset.univ fun c : Fin n => oLoc d ↦[A c]{fullShare} f)
    (u : S64x16.Idx → BitVec 32) (x y : S4x3x512x512.Idx → Elt F .f32) (f : S64x3x64x64.Idx → Elt F .f32) :
    Deal d q B u x y f ⊢ iprop(Rest d q n u x y ∗ bigSep Finset.univ fun c : Fin n => Deal d (shareTok q n c) (A c) u x y f) := by
  unfold Deal Rest
  rw [h, bigSep_sep', bigSep_sep', bigSep_sep']
  iintro ⟨H0, H1, H2, H3⟩
  ihave H0 := (pointsTo_toks_split q n) $$ H0
  ihave H1 := (pointsTo_toks_split q n) $$ H1
  ihave H2 := (pointsTo_toks_split q n) $$ H2
  icases H0 with ⟨R0, H0⟩
  icases H1 with ⟨R1, H1⟩
  icases H2 with ⟨R2, H2⟩
  isplitl [R0 R1 R2]
  · isplitl [R0]; · iexact R0
    isplitl [R1]; · iexact R1
    iexact R2
  isplitl [H0]; · iexact H0
  isplitl [H1]; · iexact H1
  isplitl [H2]; · iexact H2
  iexact H3
theorem deal_join (d : Dev nD) (q : PosShare TreeShare) (n : ℕ) (B : Finset S64x3x64x64.Idx) (A : Fin n → Finset S64x3x64x64.Idx)
    (h : ∀ f : S64x3x64x64.Idx → Elt F .f32, (oLoc d ↦[B]{fullShare} f : sProp (Res F)) = bigSep Finset.univ fun c : Fin n => oLoc d ↦[A c]{fullShare} f)
    (u : S64x16.Idx → BitVec 32) (x y : S4x3x512x512.Idx → Elt F .f32) (f : S64x3x64x64.Idx → Elt F .f32) :
    iprop(Rest d q n u x y ∗ bigSep Finset.univ fun c : Fin n => Deal d (shareTok q n c) (A c) u x y f) ⊢ Deal d q B u x y f := by
  unfold Deal Rest
  rw [h, bigSep_sep', bigSep_sep', bigSep_sep']
  iintro ⟨⟨R0, R1, R2⟩, H0, H1, H2, H3⟩
  isplitl [R0 H0]
  · iapply (pointsTo_toks_join q n); isplitl [R0]; · iexact R0
    iexact H0
  isplitl [R1 H1]
  · iapply (pointsTo_toks_join q n); isplitl [R1]; · iexact R1
    iexact H1
  isplitl [R2 H2]
  · iapply (pointsTo_toks_join q n); isplitl [R2]; · iexact R2
    iexact H2
  iexact H3

theorem nCore_zero : (K (F := F)).nCore 0 = 2 := rfl
theorem nSub_zero : (K (F := F)).nSub 0 = 16 := rfl
def coreOf (c : Fin ((K (F := F)).nCore 0)) : Fin 2 := Fin.cast nCore_zero c
def subOf (i : Fin ((K (F := F)).nSub 0)) : Fin 16 := Fin.cast nSub_zero i

abbrev coreTok (c : Fin 2) : PosShare TreeShare := shareTok fullShare 2 c
abbrev tileTok (c : Fin 2) (s : Fin 16) : PosShare TreeShare := shareTok (coreTok c) 16 s

/-- The handshakes' payloads. -/
def P : (K (F := F)).Pay (nD := nD) (Val := Elt F) (Name := ℕ) (U := UU) where
  st := fun q d c => match q with
    | 0 => Deal d (coreTok (coreOf c)) (coreSet (coreOf c)) (t d) (p0 d) (p1 d) (g d)
  dn := fun q d c => match q with
    | 0 => Deal d (coreTok (coreOf c)) (coreSet (coreOf c)) (t d) (p0 d) (p1 d) (patches (t d) (p0 d) (p1 d))
  go := fun q d c i => match q with
    | 0 => Hand d (spot (coreOf c) (subOf i)) (tileTok (coreOf c) (subOf i)) (t d) (p0 d) (p1 d) (g d)
  td := fun q d c i => match q with
    | 0 => Hand d (spot (coreOf c) (subOf i)) (tileTok (coreOf c) (subOf i)) (t d) (p0 d) (p1 d) (patches (t d) (p0 d) (p1 d))
  x := fun _ _ => iprop(emp)

instance deal_storable (d : Dev nD) (q : PosShare TreeShare) (A : Finset S64x3x64x64.Idx) (u : S64x16.Idx → BitVec 32)
    (x y : S4x3x512x512.Idx → Elt F .f32) (f : S64x3x64x64.Idx → Elt F .f32) : BI.Storable (upEmb : UEmb _ (Res F)) (Deal d q A u x y f) := by
  unfold Deal; infer_instance
instance hand_storable (d : Dev nD) (i : grid1.Coords) (q : PosShare TreeShare) (u : S64x16.Idx → BitVec 32)
    (x y : S4x3x512x512.Idx → Elt F .f32) (f : S64x3x64x64.Idx → Elt F .f32) : BI.Storable (upEmb : UEmb _ (Res F)) (Hand d i q u x y f) := by
  unfold Hand; infer_instance

instance P_storable : (P t p0 p1 g).IsStorable where
  st q d c := match q with
    | 0 => deal_storable d _ _ _ _ _ _
  dn q d c := match q with
    | 0 => deal_storable d _ _ _ _ _ _
  go q d c i := match q with
    | 0 => hand_storable d _ _ _ _ _ _
  td q d c i := match q with
    | 0 => hand_storable d _ _ _ _ _ _

/-! ## The launch theorem's obligations -/

theorem bigSep_tasks (Φ : Fin 16 → sProp (Res F)) :
    (bigSep Finset.univ fun i : Fin ((K (F := F)).nSub 0) => Φ (subOf i)) = bigSep Finset.univ Φ :=
  bigSep_congr fun _ _ => congrArg Φ (Fin.ext rfl)

theorem bigSep_cores (Φ : Fin 2 → sProp (Res F)) :
    (bigSep Finset.univ fun c : Fin ((K (F := F)).nCore 0) => Φ (coreOf c)) = bigSep Finset.univ Φ :=
  bigSep_congr fun _ _ => congrArg Φ (Fin.ext rfl)

theorem deals_hands (d : Dev nD) (e : Fin 2) (f : S64x3x64x64.Idx → Elt F .f32) :
    (bigSep Finset.univ fun s : Fin 16 => Deal d (tileTok e s) (tileSet e s) (t d) (p0 d) (p1 d) f)
      ⊢ bigSep Finset.univ fun s : Fin 16 => Hand d (spot e s) (tileTok e s) (t d) (p0 d) (p1 d) f :=
  bigSep_mono fun s _ => deal_hand d e s (tileTok e s) (t d) (p0 d) (p1 d) f
theorem hands_deals (d : Dev nD) (e : Fin 2) (f : S64x3x64x64.Idx → Elt F .f32) :
    (bigSep Finset.univ fun s : Fin 16 => Hand d (spot e s) (tileTok e s) (t d) (p0 d) (p1 d) f)
      ⊢ bigSep Finset.univ fun s : Fin 16 => Deal d (tileTok e s) (tileSet e s) (t d) (p0 d) (p1 d) f :=
  bigSep_mono fun s _ => hand_deal d e s (tileTok e s) (t d) (p0 d) (p1 d) f

theorem vecSplit : (K (F := F)).VecSplit' (P t p0 p1 g) 0 := by
  intro d c
  show Deal d (coreTok (coreOf c)) (coreSet (coreOf c)) (t d) (p0 d) (p1 d) (g d) ⊢ |={Set.univ}=> iprop(
      (bigSep Finset.univ fun i : Fin ((K (F := F)).nSub 0) =>
        Hand d (spot (coreOf c) (subOf i)) (tileTok (coreOf c) (subOf i)) (t d) (p0 d) (p1 d) (g d))
      ∗ ((bigSep Finset.univ fun i : Fin ((K (F := F)).nSub 0) =>
          Hand d (spot (coreOf c) (subOf i)) (tileTok (coreOf c) (subOf i)) (t d) (p0 d) (p1 d) (patches (t d) (p0 d) (p1 d)))
          -∗ Deal d (coreTok (coreOf c)) (coreSet (coreOf c)) (t d) (p0 d) (p1 d) (patches (t d) (p0 d) (p1 d))))
  generalize coreOf c = e
  rw [bigSep_tasks (F := F) (fun s => Hand d (spot e s) (tileTok e s) (t d) (p0 d) (p1 d) (g d)),
    bigSep_tasks (F := F) (fun s => Hand d (spot e s) (tileTok e s) (t d) (p0 d) (p1 d) (patches (t d) (p0 d) (p1 d)))]
  iintro H
  ihave H := (deal_split d (coreTok e) 16 (coreSet e) (tileSet e) (out_tiles d e) (t d) (p0 d) (p1 d) (g d)) $$ H
  icases H with ⟨HR, H⟩
  imodintro
  isplitl [H]
  · iapply (deals_hands t p0 p1 d e (g d)); iexact H
  iintro H
  iapply (deal_join d (coreTok e) 16 (coreSet e) (tileSet e) (out_tiles d e) (t d) (p0 d) (p1 d) (patches (t d) (p0 d) (p1 d)))
  isplitl [HR]; · iexact HR
  iapply (hands_deals t p0 p1 d e (patches (t d) (p0 d) (p1 d))); iexact H

theorem defs₀_vector (c : Fin τ.nSC) (s : Fin τ.nSub) :
    defs₀ (F := F) (.scVector c s) 1 ()
      = SparseCore.onTile hcore1 hsub1 (fun c s => cc1__gather_body (F := F) (coordsV c s)
          mP (Memref.isWhole_whole _) m0 (Memref.isWhole_whole _) m1 (Memref.isWhole_whole _) mO (Memref.isWhole_whole _)
          bP (Memref.isWhole_whole _) bW (Memref.isWhole_whole _) bS (Memref.isWhole_whole _)
          cc1_scoped0 cc1_scoped1 cc1_scoped2 cc1_scoped3 cc1_scoped4 cc1_scoped5 cc1_scoped6) ⟨⟩ c s := rfl

theorem obl_post {thr : Thread nD τ} {A B C : sProp (Res F)} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (ht : ∀ d, TabFits (t d)) : (K (F := F)).TileObl (D (F := F)) 𝒱 (P t p0 p1 g) v₀ 0 := by
  intro d c i O W hO _ _
  simp only [show (P t p0 p1 g).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  exact (tile_body d (coordsV ⟨_, hc.1⟩ ⟨_, hc.2⟩) O W hO _ (t d) (ht d) (p0 d) (p1 d) (g d)).trans (wp_mono frame _ _ fun _ => obl_post)

/-! ## The whole, dealt to the two SparseCores -/

theorem st_eq (d : Dev nD) : (bigSep Finset.univ fun c : Fin ((K (F := F)).nCore 0) => (P t p0 p1 g).st 0 d c)
    = bigSep Finset.univ fun c : Fin 2 => Deal d (coreTok c) (coreSet c) (t d) (p0 d) (p1 d) (g d) :=
  bigSep_cores fun c => Deal d (coreTok c) (coreSet c) (t d) (p0 d) (p1 d) (g d)
theorem dn_eq (d : Dev nD) : (bigSep Finset.univ fun c : Fin ((K (F := F)).nCore 0) => (P t p0 p1 g).dn 0 d c)
    = bigSep Finset.univ fun c : Fin 2 => Deal d (coreTok c) (coreSet c) (t d) (p0 d) (p1 d) (patches (t d) (p0 d) (p1 d)) :=
  bigSep_cores fun c => Deal d (coreTok c) (coreSet c) (t d) (p0 d) (p1 d) (patches (t d) (p0 d) (p1 d))

theorem deal_out (d : Dev nD) : Deal d fullShare Finset.univ (t d) (p0 d) (p1 d) (g d)
    ⊢ iprop(Rest d fullShare 2 (t d) (p0 d) (p1 d) ∗ bigSep Finset.univ fun c : Fin ((K (F := F)).nCore 0) => (P t p0 p1 g).st 0 d c) := by
  rw [st_eq]; exact deal_split d fullShare 2 Finset.univ coreSet (out_cores d) (t d) (p0 d) (p1 d) (g d)
theorem deal_back (d : Dev nD) :
    iprop(Rest d fullShare 2 (t d) (p0 d) (p1 d) ∗ bigSep Finset.univ fun c : Fin ((K (F := F)).nCore 0) => (P t p0 p1 g).dn 0 d c)
      ⊢ Deal d fullShare Finset.univ (t d) (p0 d) (p1 d) (patches (t d) (p0 d) (p1 d)) := by
  rw [dn_eq]; exact deal_join d fullShare 2 Finset.univ coreSet (out_cores d) (t d) (p0 d) (p1 d) (patches (t d) (p0 d) (p1 d))

end Cert.Proof.Gather

end
-- ==== Proof.TopK.lean ====
/-
  The first kernel's body as a short program. The printed body has every round of its selection and every sample's
  parameters written out; here a round and a sample are each written once, and the body is a loop over them.
-/
module

public import proofs.«01_k».proof.Proof.Gen.KernelIdeal.Skeleton

@[expose] public section

noncomputable section

namespace Cert.Proof.TopK

open Cert.KernelIdeal Cert.KernelIdeal.Gen
open Idealize.ShloMosaic Idealize.SL.Sem

variable {F : FTy → Type} [FloatOps F]

/-! ## Reductions over all 32 × 128 lanes -/

/-- Seven rotations along the 128 lanes, each combined with what stood before. -/
def lanes {α : Type} (op : (S1x128.Idx → α) → (S1x128.Idx → α) → (S1x128.Idx → α)) (x : S1x128.Idx → α) : S1x128.Idx → α :=
  have r (n : BitVec 32) (y : S1x128.Idx → α) : S1x128.Idx → α := op y (dynamicRotate 1 n none y rotates_S1x128_d1)
  r 1#32 (r 2#32 (r 4#32 (r 8#32 (r 16#32 (r 32#32 (r 64#32 x))))))

/-- The sum of all lanes, in every lane. -/
def sumF (x : FVec F S32x128 .f32) : FVec F S1x128 .f32 :=
  lanes addf (shapeCast S1x128 (multiReduction .add [0] S128 x 0x00000000#32 reduces_S32x128_S128 (.inl rfl) rfl) shapeCasts_S128_S1x128)
/-- The greatest of all lanes, in every lane. -/
def maxF (x : FVec F S32x128 .f32) : FVec F S1x128 .f32 :=
  lanes maximumf (shapeCast S1x128 (multiReduction .maximumf [0] S128 x 0xFF800000#32 reduces_S32x128_S128 (.inl rfl) rfl) shapeCasts_S128_S1x128)
/-- The sum of all lanes of words, in every lane. -/
def sumI (x : IVec S32x128 32) : IVec S1x128 32 :=
  lanes addi (shapeCast S1x128 (multiReductionI .add [0] S128 x 0#32 reduces_S32x128_S128 rfl) shapeCasts_S128_S1x128)
/-- The least of all lanes of words, as signed integers, in every lane. -/
def minI (x : IVec S32x128 32) : IVec S1x128 32 :=
  lanes minsi (shapeCast S1x128 (multiReductionI .minsi [0] S128 x 2147483647#32 reduces_S32x128_S128 rfl) shapeCasts_S128_S1x128)

/-- Each lane's number, row by row. -/
def lin : IVec S32x128 32 :=
  addi (muli (iota .tc S32x128 32 [0] iota_S32x128_d0_w32) (broadcast S32x128 128#32)) (iota .tc S32x128 32 [1] iota_S32x128_d1_w32)
/-- A vector of 128 lanes in each of 32 rows. -/
def rows {α : Type} (x : S1x128.Idx → α) : S32x128.Idx → α := broadcastTo S32x128 x broadcasts_S1x128_S32x128

/-! ## The selection -/

/-- A block over its sum. -/
def probs (x : Vec F S1x32x128 .f32) : FVec F S32x128 .f32 :=
  divf (shapeCast S32x128 x shapeCasts_S1x32x128_S32x128) (rows (sumF (shapeCast S32x128 x shapeCasts_S1x32x128_S32x128)))
/-- The logarithm of `probs`, plus the noise. -/
def pert (x g : Vec F S1x32x128 .f32) : FVec F S32x128 .f32 :=
  addf (log (probs x)) (shapeCast S32x128 g shapeCasts_S1x32x128_S32x128)
/-- The lane a round picks: the least number among the lanes that hold the greatest value. -/
def pick (p : FVec F S32x128 .f32) : IVec S32x128 1 :=
  cmpi .eq lin (rows (minI (select (cmpf .oeq p (rows (maxF p))) lin (broadcast S32x128 4096#32))))
/-- The values after a round: −∞ in the lane it picked. -/
def strike (p : FVec F S32x128 .f32) : FVec F S32x128 .f32 :=
  select (pick p) (broadcast S32x128 (Scalar.ofBits .f32 0xFF800000#32)) p
/-- The values before round `k`. -/
def left (p : FVec F S32x128 .f32) : ℕ → FVec F S32x128 .f32
  | 0 => p
  | k + 1 => strike (left p k)
/-- Which of the first `k` rounds picked each lane last (all ones: none). -/
def order (p : FVec F S32x128 .f32) : ℕ → IVec S32x128 32
  | 0 => broadcast S32x128 4294967295#32
  | k + 1 => select (pick (left p k)) (broadcast S32x128 (BitVec.ofNat 32 k)) (order p k)

/-! ## One sample's parameters -/

/-- Floor division by a constant, as the program computes it. -/
def floorDiv (x : IVec S1x128 32) (n : BitVec 32) : IVec S1x128 32 :=
  select
    (andi
      (cmpi .ne
        (subi (extui 32 (cmpi .sgt x (broadcast S1x128 0#32)) natLt_1_32) (extui 32 (cmpi .slt x (broadcast S1x128 0#32)) natLt_1_32))
        (broadcast S1x128 (Scalar.subi (Scalar.extui (Scalar.cmpi .sgt n 0#32)) (Scalar.extui (Scalar.cmpi .slt n 0#32)))))
      (cmpi .ne (remsi x (broadcast S1x128 n)) (broadcast S1x128 0#32)))
    (subi (divsi x (broadcast S1x128 n)) (broadcast S1x128 1#32)) (divsi x (broadcast S1x128 n))
/-- A window's first row (or column): eight times the sample's, less the margin of the array read, kept within the array. -/
def corner (y : IVec S1x128 32) (one : IVec S1x128 1) : IVec S1x128 32 :=
  minsi (broadcast S1x128 448#32) (maxsi (broadcast S1x128 0#32)
    (select one (subi (muli (broadcast S1x128 8#32) y) (broadcast S1x128 24#32))
      (subi (muli (broadcast S1x128 8#32) y) (broadcast S1x128 28#32))))
/-- A sample's row (or column) in its own map: halved where the sample's map is the second. -/
def place (y : IVec S1x128 32) (one : IVec S1x128 1) : FVec F S1x128 .f32 :=
  select one (divf (sitofp .f32 y) (broadcast S1x128 (Scalar.ofBits .f32 0x40000000#32))) (sitofp .f32 y)
/-- Lane 0 in every lane. -/
def lane0 {α : Type} (x : S1x128.Idx → α) : S1x128.Idx → α :=
  broadcastTo S1x128 (shapeCast S1x1 (extractStridedSlice S1x1 ![0, 0] x slices_S1x128_o0_0_S1x1) shapeCasts_S1x1_S1x1) broadcasts_S1x1_S1x128
/-- The first sixteen lanes in each of sixteen rows. -/
def lanes16 (x : IVec S1x128 32) : IVec S16x16 32 :=
  broadcastTo S16x16 (shapeCast S1x16 (extractStridedSlice S1x16 ![0, 0] x slices_S1x128_o0_0_S1x16) shapeCasts_S1x16_S1x16) broadcasts_S1x16_S16x16

section Sample
variable (q : FVec F S32x128 .f32) (a ord : IVec S32x128 32) (k : BitVec 32)

def hit : IVec S32x128 1 := cmpi .eq ord (broadcast S32x128 k)
/-- Round `k`'s probability, map number, lane, row and column. -/
def sAtt : FVec F S1x128 .f32 := sumF (select (hit ord k) q (broadcast S32x128 (Scalar.ofBits .f32 0x00000000#32)))
def sSel : IVec S1x128 32 := sumI (select (hit ord k) a (broadcast S32x128 0#32))
def sLane : IVec S1x128 32 := minI (select (hit ord k) lin (broadcast S32x128 4096#32))
def sRow : IVec S1x128 32 := floorDiv (sLane ord k) 64#32
def sCol : IVec S1x128 32 := subi (sLane ord k) (muli (sRow ord k) (broadcast S1x128 64#32))
def sOne : IVec S1x128 1 := cmpi .eq (sSel a ord k) (broadcast S1x128 1#32)
/-- The window's first row, its multiple of eight, and the first column's block. -/
def sY0 : IVec S1x128 32 := corner (sRow ord k) (sOne a ord k)
def sX0 : IVec S1x128 32 := corner (sCol ord k) (sOne a ord k)
def sYa : IVec S1x128 32 := minsi (andi (sY0 a ord k) (broadcast S1x128 4294967288#32)) (broadcast S1x128 440#32)
def sXa : IVec S1x128 32 := minsi (muli (floorDiv (sX0 a ord k) 128#32) (broadcast S1x128 128#32)) (broadcast S1x128 256#32)

/-- The three lists of floats and the table of words, one sample further. -/
def addF (f : FVec F S1x128 .f32 × FVec F S1x128 .f32 × FVec F S1x128 .f32) : FVec F S1x128 .f32 × FVec F S1x128 .f32 × FVec F S1x128 .f32 :=
  have ck := cmpi .eq (iota .tc S1x128 32 [1] iota_S1x128_d1_w32) (broadcast S1x128 k)
  (select ck (lane0 (sAtt q ord k)) f.1, select ck (lane0 (place (sRow ord k) (sOne a ord k))) f.2.1,
    select ck (lane0 (place (sCol ord k) (sOne a ord k))) f.2.2)
def addI (t : IVec S16x16 32) : IVec S16x16 32 :=
  have on := cmpi .eq (iota .tc S16x16 32 [0] iota_S16x16_d0_w32) (broadcast S16x16 k)
  have put (c : BitVec 32) (x : IVec S1x128 32) (t : IVec S16x16 32) : IVec S16x16 32 :=
    select (andi on (cmpi .eq (iota .tc S16x16 32 [1] iota_S16x16_d1_w32) (broadcast S16x16 c))) (lanes16 x) t
  put 4#32 (sSel a ord k) (put 3#32 (subi (sX0 a ord k) (sXa a ord k)) (put 2#32 (sXa a ord k)
    (put 1#32 (subi (sY0 a ord k) (sYa a ord k)) (put 0#32 (sYa a ord k) t))))

end Sample

section Samples
variable (q : FVec F S32x128 .f32) (a ord : IVec S32x128 32)

def zeroF : FVec F S1x128 .f32 := broadcast S1x128 (Scalar.ofBits .f32 0x00000000#32)
def listF : ℕ → FVec F S1x128 .f32 × FVec F S1x128 .f32 × FVec F S1x128 .f32
  | 0 => (zeroF, zeroF, zeroF)
  | k + 1 => addF q a ord (BitVec.ofNat 32 k) (listF k)
def tabI : ℕ → IVec S16x16 32
  | 0 => broadcast S16x16 0#32
  | k + 1 => addI a ord (BitVec.ofNat 32 k) (tabI k)

/-- One batch's block of floats, from its three lists. -/
def blockF (f : FVec F S1x128 .f32 × FVec F S1x128 .f32 × FVec F S1x128 .f32) : FVec F S1x4x128 .f32 :=
  shapeCast S1x4x128 (concatenate S4x128 0 [⟨S1x128, f.1⟩, ⟨S1x128, f.2.1⟩, ⟨S1x128, f.2.2⟩, ⟨S1x128, zeroF⟩]
    concatenates_S1x128_S1x128_S1x128_S1x128_S4x128_d0) shapeCasts_S4x128_S1x4x128
end Samples

/-- One batch's two blocks, from the loads of its values and noise for the selection, and of its values and map numbers. -/
def outF (x g y : Vec F S1x32x128 .f32) (a : Vec F S1x32x128 .i32) : FVec F S1x4x128 .f32 :=
  blockF (listF (probs y) (shapeCast S32x128 a shapeCasts_S1x32x128_S32x128) (order (pert x g) 16) 16)
def outI (x g : Vec F S1x32x128 .f32) (a : Vec F S1x32x128 .i32) : IVec S16x16 32 :=
  tabI (shapeCast S32x128 a shapeCasts_S1x32x128_S32x128) (order (pert x g) 16) 16

/-! ## The body -/

section Body
variable (a0 : Memref sig .tc .vmem S4x32x128 .f32) (a1 : Memref sig .tc .vmem S4x32x128 .i32) (a2 : Memref sig .tc .vmem S4x32x128 .f32)
  (a3 : Memref sig .tc .vmem S4x4x128 .f32) (a4 : Memref sig .tc .vmem S64x16 .i32)

/-- A block of one of the operands, loaded. -/
def fetch {e : EltTy} (m : Memref sig .tc .vmem S4x32x128 e) (o : Fin 3 → ℕ) (h : ∀ a, o a + S1x32x128.size a ≤ S4x32x128.size a) :
    Prog (TpuEff nD τ sig (Elt F) Λ₀ .tc) (Vec F S1x32x128 e) :=
  Prog.lift (.load m (Rect.unit (s := S4x32x128) o S1x32x128.size h).toLoadRect (View.loadsAt_vmem h_S1x32x128))

/-- One batch's results: its values and map numbers loaded, its two blocks stored. -/
def emit (x g : Vec F S1x32x128 .f32) (o : Fin 3 → ℕ) (h : ∀ a, o a + S1x32x128.size a ≤ S4x32x128.size a)
    (h3 : ∀ a, o a + S1x4x128.size a ≤ S4x4x128.size a) (p : Fin 2 → ℕ) (h4 : ∀ a, p a + S16x16.size a ≤ S64x16.size a) :
    Prog (TpuEff nD τ sig (Elt F) Λ₀ .tc) PUnit := do
  let y : Vec F S1x32x128 .f32 ← fetch a0 o h
  let a : Vec F S1x32x128 .i32 ← fetch a1 o h
  let _ ← Prog.lift (.load a3 (Rect.unit (s := S4x4x128) o S1x4x128.size h3).toLoadRect (View.loadsAt_vmem h_S1x4x128))
  Prog.lift (.store a3 (Rect.unit (s := S4x4x128) o S1x4x128.size h3) (outF x g y a) Finset.univ (View.stores_vmem_bits_univ h_S1x4x128 rfl) (.inl rfl))
  let _ ← Prog.lift (.load a4 (Rect.unit (s := S64x16) p S16x16.size h4).toLoadRect (View.loadsAt_vmem h_S16x16))
  Prog.lift (.store a4 (Rect.unit (s := S64x16) p S16x16.size h4) (outI x g a) Finset.univ (View.stores_vmem_bits_univ h_S16x16 rfl) (.inl rfl))

/-- The body: four batches' values and noise loaded, then each batch's results. -/
def body : Prog (TpuEff nD τ sig (Elt F) Λ₀ .tc) PUnit := do
  let x0 : Vec F S1x32x128 .f32 ← fetch a0 ![0, 0, 0] inb_S4x32x128_S1x32x128_0_0_0
  let g0 : Vec F S1x32x128 .f32 ← fetch a2 ![0, 0, 0] inb_S4x32x128_S1x32x128_0_0_0
  let x1 : Vec F S1x32x128 .f32 ← fetch a0 ![1, 0, 0] inb_S4x32x128_S1x32x128_1_0_0
  let g1 : Vec F S1x32x128 .f32 ← fetch a2 ![1, 0, 0] inb_S4x32x128_S1x32x128_1_0_0
  let x2 : Vec F S1x32x128 .f32 ← fetch a0 ![2, 0, 0] inb_S4x32x128_S1x32x128_2_0_0
  let g2 : Vec F S1x32x128 .f32 ← fetch a2 ![2, 0, 0] inb_S4x32x128_S1x32x128_2_0_0
  let x3 : Vec F S1x32x128 .f32 ← fetch a0 ![3, 0, 0] inb_S4x32x128_S1x32x128_3_0_0
  let g3 : Vec F S1x32x128 .f32 ← fetch a2 ![3, 0, 0] inb_S4x32x128_S1x32x128_3_0_0
  emit a0 a1 a3 a4 x0 g0 ![0, 0, 0] inb_S4x32x128_S1x32x128_0_0_0 inb_S4x4x128_S1x4x128_0_0_0 ![0, 0] inb_S64x16_S16x16_0_0
  emit a0 a1 a3 a4 x1 g1 ![1, 0, 0] inb_S4x32x128_S1x32x128_1_0_0 inb_S4x4x128_S1x4x128_1_0_0 ![16, 0] inb_S64x16_S16x16_16_0
  emit a0 a1 a3 a4 x2 g2 ![2, 0, 0] inb_S4x32x128_S1x32x128_2_0_0 inb_S4x4x128_S1x4x128_2_0_0 ![32, 0] inb_S64x16_S16x16_32_0
  emit a0 a1 a3 a4 x3 g3 ![3, 0, 0] inb_S4x32x128_S1x32x128_3_0_0 inb_S4x4x128_S1x4x128_3_0_0 ![48, 0] inb_S64x16_S16x16_48_0

set_option maxRecDepth 65536 in
set_option maxHeartbeats 0 in
/-- The printed body is this one. -/
theorem body_eq (h0 : a0.IsWhole) (h1 : a1.IsWhole) (h2 : a2.IsWhole) (h3 : a3.IsWhole) (h4 : a4.IsWhole) :
    cc0__topk_body (F := F) a0 h0 a1 h1 a2 h2 a3 h3 a4 h4 = body a0 a1 a2 a3 a4 := rfl

end Body

end Cert.Proof.TopK

end
-- ==== Proof.Region.lean ====
/-
  The first kernel, run over its five staging buffers, and the region the program runs it in.
-/
module

public import proofs.«01_k».proof.Proof.Task
public import proofs.«01_k».proof.Proof.TopK
public import proofs.«01_k».proof.Proof.Gen.KernelIdeal.Points
public import Idealize.ShloMosaic.Lib.Pipeline.RegionsLoop
public import Idealize.ShloMosaic.Lib.Pipeline.ValueKit

@[expose] public section

noncomputable section

namespace Cert.Proof.TopK

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Pipeline (Dat Cfg Window BodyObligation)
open Cert.Proof.Gather (TabFits Fits)

variable {F : FTy → Type} [FloatOps F]

/-- The TensorCore's thread. -/
abbrev host (d : Dev nD) : Thread nD τ := SparseCore.T d

/-! ## What the kernel leaves -/

/-- Batch `b` of an operand. -/
def batch {α : Type} (x : S4x32x128.Idx → α) (b : Fin 4) : S1x32x128.Idx → α := fun z => x (ix3 b (z 1 : Fin 32) (z 2 : Fin 128))

/-- The floats: batch by batch. -/
def floats (x : S4x32x128.Idx → Elt F .f32) (a : S4x32x128.Idx → Elt F .i32) (g : S4x32x128.Idx → Elt F .f32) : S4x4x128.Idx → Elt F .f32 :=
  fun z => outF (F := F) (batch x (z 0)) (batch g (z 0)) (batch x (z 0)) (batch a (z 0)) (ix3 (0 : Fin 1) (z 1 : Fin 4) (z 2 : Fin 128))

/-- The words: row `r` is row `r % 16` of batch `r / 16`'s. -/
def words (x : S4x32x128.Idx → Elt F .f32) (a : S4x32x128.Idx → Elt F .i32) (g : S4x32x128.Idx → Elt F .f32) : S64x16.Idx → Elt F .i32 :=
  fun z =>
    have b : Fin 4 := ⟨(z 0).val / 16, Nat.div_lt_of_lt_mul (show (z 0).val < 16 * 4 from (z 0).isLt)⟩
    outI (F := F) (batch x b) (batch g b) (batch a b) (ix2 (⟨(z 0).val % 16, Nat.mod_lt _ (by decide)⟩ : Fin 16) (z 1 : Fin 16))

/-- A block of an operand, loaded, is the batch. -/
theorem batch_eq {α : Type} (x : S4x32x128.Idx → α) (n : ℕ) (b : Fin 4) (hb : b.val = n)
    (h : ∀ a, (![n, 0, 0] : Fin 3 → ℕ) a + S1x32x128.size a ≤ S4x32x128.size a) :
    (fun z => x ((Rect.unit (s := S4x32x128) ![n, 0, 0] S1x32x128.size h).emb z)) = batch x b := by
  funext (z : S1x32x128.Idx)
  unfold batch
  congr 1
  have h0 : (z 0).val < 1 := (z 0).isLt
  funext k
  apply Fin.ext
  rw [Rect.emb_apply]
  match k with
  | ⟨0, _⟩ => show n + 1 * (z 0).val = b.val; omega
  | ⟨1, _⟩ => show 0 + 1 * (z 1).val = (z 1).val; omega
  | ⟨2, _⟩ => show 0 + 1 * (z 2).val = (z 2).val; omega

/-- A block stored is `floats`' there. -/
theorem floats_block (x g : S4x32x128.Idx → Elt F .f32) (a : S4x32x128.Idx → Elt F .i32) (n : ℕ) (b : Fin 4) (hb : b.val = n)
    (h : ∀ k, (![n, 0, 0] : Fin 3 → ℕ) k + S1x4x128.size k ≤ S4x4x128.size k) (z : S1x4x128.Idx) :
    outF (F := F) (batch x b) (batch g b) (batch x b) (batch a b) z
      = floats x a g ((Rect.unit (s := S4x4x128) ![n, 0, 0] S1x4x128.size h).emb z) := by
  have h0 : (z 0).val < 1 := (z 0).isLt
  unfold floats
  have e0 : ((Rect.unit (s := S4x4x128) ![n, 0, 0] S1x4x128.size h).emb z 0 : Fin 4) = b := by
    apply Fin.ext; rw [Rect.emb_apply]; show n + 1 * (z 0).val = b.val; omega
  rw [e0]
  congr 1
  funext k
  apply Fin.ext
  match k with
  | ⟨0, _⟩ => show (z 0).val = 0; omega
  | ⟨1, _⟩ => show (z 1).val = ((Rect.unit (s := S4x4x128) ![n, 0, 0] S1x4x128.size h).emb z 1).val; rw [Rect.emb_apply]; show (z 1).val = 0 + 1 * (z 1).val; omega
  | ⟨2, _⟩ => show (z 2).val = ((Rect.unit (s := S4x4x128) ![n, 0, 0] S1x4x128.size h).emb z 2).val; rw [Rect.emb_apply]; show (z 2).val = 0 + 1 * (z 2).val; omega

/-- Rows stored are `words`' there. -/
theorem words_block (x g : S4x32x128.Idx → Elt F .f32) (a : S4x32x128.Idx → Elt F .i32) (n : ℕ) (b : Fin 4) (hb : 16 * b.val = n)
    (h : ∀ k, (![n, 0] : Fin 2 → ℕ) k + S16x16.size k ≤ S64x16.size k) (z : S16x16.Idx) :
    outI (F := F) (batch x b) (batch g b) (batch a b) z = words x a g ((Rect.unit (s := S64x16) ![n, 0] S16x16.size h).emb z) := by
  have h0 : (z 0).val < 16 := (z 0).isLt
  unfold words
  have e : ((Rect.unit (s := S64x16) ![n, 0] S16x16.size h).emb z 0).val = n + (z 0).val := by
    rw [Rect.emb_apply]; show n + 1 * (z 0).val = _; omega
  have e0 : (⟨((Rect.unit (s := S64x16) ![n, 0] S16x16.size h).emb z 0).val / 16,
      Nat.div_lt_of_lt_mul (show _ < 16 * 4 from ((Rect.unit (s := S64x16) ![n, 0] S16x16.size h).emb z 0).isLt)⟩ : Fin 4) = b := by
    apply Fin.ext; show _ / 16 = b.val; omega
  dsimp only
  rw [e0]
  congr 1
  funext k
  apply Fin.ext
  match k with
  | ⟨0, _⟩ => show (z 0).val = ((Rect.unit (s := S64x16) ![n, 0] S16x16.size h).emb z 0).val % 16; omega
  | ⟨1, _⟩ => show (z 1).val = ((Rect.unit (s := S64x16) ![n, 0] S16x16.size h).emb z 1).val; rw [Rect.emb_apply]; show (z 1).val = 0 + 1 * (z 1).val; omega

/-! ## The run -/

section Run
variable (d : Dev nD)

local notation "s0" => (Memref.whole Cert.KernelIdeal.cc0_stg0_0 : Memref Cert.KernelIdeal.sig Kind.tc Space.vmem Cert.KernelIdeal.S4x32x128 EltTy.f32)
local notation "s1" => (Memref.whole Cert.KernelIdeal.cc0_stg1_0 : Memref Cert.KernelIdeal.sig Kind.tc Space.vmem Cert.KernelIdeal.S4x32x128 EltTy.i32)
local notation "s2" => (Memref.whole Cert.KernelIdeal.cc0_stg2_0 : Memref Cert.KernelIdeal.sig Kind.tc Space.vmem Cert.KernelIdeal.S4x32x128 EltTy.f32)
local notation "s3" => (Memref.whole Cert.KernelIdeal.cc0_stg3_0 : Memref Cert.KernelIdeal.sig Kind.tc Space.vmem Cert.KernelIdeal.S4x4x128 EltTy.f32)
local notation "s4" => (Memref.whole Cert.KernelIdeal.cc0_stg4_0 : Memref Cert.KernelIdeal.sig Kind.tc Space.vmem Cert.KernelIdeal.S64x16 EltTy.i32)

attribute [local irreducible] outF outI

set_option maxHeartbeats 4000000 in
theorem run (x g : S4x32x128.Idx → Elt F .f32) (a : S4x32x128.Idx → Elt F .i32) (f : S4x4x128.Idx → Elt F .f32) (t : S64x16.Idx → Elt F .i32)
    (Q : PUnit → sProp (Res F)) :
    iprop(((s0).view.loc (host d) ↦{fullShare} x) ∗ ((s1).view.loc (host d) ↦{fullShare} a) ∗ ((s2).view.loc (host d) ↦{fullShare} g)
        ∗ ((s3).view.loc (host d) ↦{fullShare} f) ∗ ((s4).view.loc (host d) ↦{fullShare} t)
        ∗ (iprop(((s0).view.loc (host d) ↦{fullShare} x) ∗ ((s1).view.loc (host d) ↦{fullShare} a) ∗ ((s2).view.loc (host d) ↦{fullShare} g)
            ∗ ((s3).view.loc (host d) ↦{fullShare} floats x a g) ∗ ((s4).view.loc (host d) ↦{fullShare} words x a g)) -∗ Q ⟨⟩))
      ⊢ wp frame (wpE (defs₀ (F := F)) 𝒱₀ (host d) none) Set.univ (body (F := F) s0 s1 s2 s3 s4) Q := by
  iintro ⟨H0, H1, H2, H3, H4, Hk⟩
  unfold body emit fetch
  sl_exec
  sl_step
  iapply Hk
  have hb (n : ℕ) (b : Fin 4) (hb : b.val = n) (h) : View.readAt (Elt F) (s0).view (Rect.unit (s := S4x32x128) ![n, 0, 0] S1x32x128.size h).toLoadRect x = batch x b :=
    batch_eq x n b hb h
  have hg (n : ℕ) (b : Fin 4) (hb : b.val = n) (h) : View.readAt (Elt F) (s2).view (Rect.unit (s := S4x32x128) ![n, 0, 0] S1x32x128.size h).toLoadRect g = batch g b :=
    batch_eq g n b hb h
  have ha (n : ℕ) (b : Fin 4) (hb : b.val = n) (h) : View.readAt (Elt F) (s1).view (Rect.unit (s := S4x32x128) ![n, 0, 0] S1x32x128.size h).toLoadRect a = batch a b :=
    batch_eq a n b hb h
  rw [hb 0 0 rfl, hb 1 1 rfl, hb 2 2 rfl, hb 3 3 rfl, hg 0 0 rfl, hg 1 1 rfl, hg 2 2 rfl, hg 3 3 rfl, ha 0 0 rfl, ha 1 1 rfl, ha 2 2 rfl, ha 3 3 rfl]
  isplitl [H0]; · iexact H0
  isplitl [H1]; · iexact H1
  isplitl [H2]; · iexact H2
  isplitl [H3]
  · refine Entails.of_eq (congrArg _ ?_)
    funext (z : S4x4x128.Idx)
    refine (congrFun (View.read_whole cc0_stg3_0 _) z).symm.trans (View.read_writes_apply_of_pieces (Val := Elt F) (s3).view f (floats x a g) _ ?_ z
      (View.cover_of_tiled (Val := Elt F) _ ![1, 4, 128] rfl z))
    intro p hp
    simp only [List.mem_cons, List.not_mem_nil, _root_.or_false] at hp
    rcases hp with rfl | rfl | rfl | rfl
    · exact floats_block x g a 3 3 rfl inb_S4x4x128_S1x4x128_3_0_0
    · exact floats_block x g a 2 2 rfl inb_S4x4x128_S1x4x128_2_0_0
    · exact floats_block x g a 1 1 rfl inb_S4x4x128_S1x4x128_1_0_0
    · exact floats_block x g a 0 0 rfl inb_S4x4x128_S1x4x128_0_0_0
  · refine Entails.of_eq (congrArg _ ?_)
    funext (z : S64x16.Idx)
    refine (congrFun (View.read_whole cc0_stg4_0 _) z).symm.trans (View.read_writes_apply_of_pieces (Val := Elt F) (s4).view t (words x a g) _ ?_ z
      (View.cover_of_tiled (Val := Elt F) _ ![16, 16] rfl z))
    intro p hp
    simp only [List.mem_cons, List.not_mem_nil, _root_.or_false] at hp
    rcases hp with rfl | rfl | rfl | rfl
    · exact words_block x g a 48 3 rfl inb_S64x16_S16x16_48_0
    · exact words_block x g a 32 2 rfl inb_S64x16_S16x16_32_0
    · exact words_block x g a 16 1 rfl inb_S64x16_S16x16_16_0
    · exact words_block x g a 0 0 rfl inb_S64x16_S16x16_0_0

end Run

/-! ## The region -/

section Region

variable (V : (c : Dev nD) → (b : Ref sig .tc) → Buf (Elt F) ((c.tc : Thread nD τ).loc b))

/-- The waits recorded so far, by level. -/
def low (c : Dev nD) : Set (SemLoc sig × HIx 1) := fun p => (K (F := F)).lev (host c, p.1) p.2 ≤ 0

/-- The region's data: the operands as they stand, the two results as the kernel leaves them. -/
def dat (c : Dev nD) : Dat τ (Elt F) (HIx 1) ℕ UU ℕ cfg0 c where
  A w := V c (Pipeline.arrRef spec0 w)
  after w _ := match w with
    | ⟨0, _⟩ => V c main_v2
    | ⟨1, _⟩ => V c main_v3
    | ⟨2, _⟩ => V c main_v4
    | ⟨3, _⟩ => floats (F := F) (V c main_v2) (V c main_v3) (V c main_v4)
    | ⟨4, _⟩ => words (F := F) (V c main_v2) (V c main_v3) (V c main_v4)
  Φ _ := BI.emp
  q _ := fullShare
  owed _ := (K (F := F)).Otc c 0
  recorded _ := low (F := F) c

abbrev pdats : (p : Fin 1) → (c : Dev nD) → Dat τ (Elt F) (HIx 1) ℕ UU ℕ (Pipeline.pin (pcfgs (F := F)) (fun p => (cfgs p).toPCfg_adm) p) c :=
  fun _ c => dat V c

theorem before0 (c : Dev nD) (e : (cfg0.win 0).block.Idx → Elt F (cfg0.win 0).elt) : (dat V c).before 0 t0_0 e = V c main_v2 := by
  unfold Dat.before; rw [if_pos (by decide)]; exact funext fun j => by
    show V c main_v2 _ = _
    refine congrArg (V c main_v2) (funext fun a => Fin.ext ?_)
    blk_simp
    rw [show win0_0.index t0_0 a = 0 from rfl, Nat.zero_mul, Nat.zero_add]

theorem before1 (c : Dev nD) (e : (cfg0.win 1).block.Idx → Elt F (cfg0.win 1).elt) : (dat V c).before 1 t0_0 e = V c main_v3 := by
  unfold Dat.before; rw [if_pos (by decide)]; exact funext fun j => by
    show V c main_v3 _ = _
    refine congrArg (V c main_v3) (funext fun a => Fin.ext ?_)
    blk_simp
    rw [show win0_1.index t0_0 a = 0 from rfl, Nat.zero_mul, Nat.zero_add]

theorem before2 (c : Dev nD) (e : (cfg0.win 2).block.Idx → Elt F (cfg0.win 2).elt) : (dat V c).before 2 t0_0 e = V c main_v4 := by
  unfold Dat.before; rw [if_pos (by decide)]; exact funext fun j => by
    show V c main_v4 _ = _
    refine congrArg (V c main_v4) (funext fun a => Fin.ext ?_)
    blk_simp
    rw [show win0_2.index t0_0 a = 0 from rfl, Nat.zero_mul, Nat.zero_add]

theorem after3 (c : Dev nD) : (dat V c).arrAt 3 cfg0.N = floats (F := F) (V c main_v2) (V c main_v3) (V c main_v4) := by
  refine (dat V c).arrAt_eq_of_after_last 3 t0_0 (by decide +kernel) _ fun j => ?_
  blk_simp
  rfl
theorem after4 (c : Dev nD) : (dat V c).arrAt 4 cfg0.N = words (F := F) (V c main_v2) (V c main_v3) (V c main_v4) := by
  refine (dat V c).arrAt_eq_of_after_last 4 t0_0 (by decide +kernel) _ fun j => ?_
  blk_simp
  rfl

theorem body_obligation (c : Dev nD) : BodyObligation (dat V c) (defs₀ (F := F)) 𝒱₀ none Set.univ := fun t => by
  obtain rfl := fin_N0 t
  rw [bigSep_W0, bigSep_W0]
  simp only [owns_whole_eq]
  rw [show (dat V c).Φ t0_0.castSucc = BI.emp from rfl, show (dat V c).Φ t0_0.succ = BI.emp from rfl,
    show (dat V c).owesAt none t0_0.succ = (dat V c).owesAt none t0_0.castSucc from rfl]
  iintro ⟨-, Howes, ⟨%d0, %f0, %hf0, H0⟩, ⟨%d1, %f1, %hf1, H1⟩, ⟨%d2, %f2, %hf2, H2⟩, ⟨%d3, %f3, -, H3⟩, ⟨%d4, %f4, -, H4⟩⟩
  rw [before0] at hf0
  rw [before1] at hf1
  rw [before2] at hf2
  subst hf0 hf1 hf2
  have hrun := run (F := F) c (V c main_v2) (V c main_v4) (V c main_v3) f3 f4
  rw [show defs₀ (F := F) Proc.tc 0 (t0_0, cfg0.slots t0_0) = body (Memref.whole Cert.KernelIdeal.cc0_stg0_0) (Memref.whole Cert.KernelIdeal.cc0_stg1_0)
    (Memref.whole Cert.KernelIdeal.cc0_stg2_0) (Memref.whole Cert.KernelIdeal.cc0_stg3_0) (Memref.whole Cert.KernelIdeal.cc0_stg4_0) from body_eq _ _ _ _ _ _ _ _ _ _]
  iapply (hrun _)
  isplitl [H0]; · iexact H0
  isplitl [H1]; · iexact H1
  isplitl [H2]; · iexact H2
  isplitl [H3]; · iexact H3
  isplitl [H4]; · iexact H4
  iintro ⟨H0, H1, H2, H3, H4⟩
  isplitr; · iempintro
  isplitl [Howes]; · iexact Howes
  isplitl [H0]; · iexists _; isplitr; swap; (· iexact H0); ipureintro; dsimp only [dat]
  isplitl [H1]; · iexists _; isplitr; swap; (· iexact H1); ipureintro; dsimp only [dat]
  isplitl [H2]; · iexists _; isplitr; swap; (· iexact H2); ipureintro; dsimp only [dat]
  isplitl [H3]; · iexists _; isplitr; swap; (· iexact H3); ipureintro; dsimp only [dat]
  iexists _; isplitr; swap; (· iexact H4); ipureintro; dsimp only [dat]

theorem Otc_none (c : Dev nD) (g : GSem nD τ sig) : (K (F := F)).Otc (N := 1) c 0 g none = 0 := by
  by_contra h
  have := SparseCore.Cfg.lev_of_Otc_pos (K := K (F := F)) (Nat.pos_of_ne_zero h)
  rw [SparseCore.Cfg.lev_none] at this; omega

theorem waits (c : Dev nD) : (levAts (K (F := F)).L (K (F := F)).lev : sProp (Res F))
    ⊢ Pipeline.cellsWaits (Pipeline.pin (pcfgs (F := F)) (fun p => (cfgs p).toPCfg_adm)) (pdats V) none 0 c :=
  Pipeline.cellsWaits_intro _ _ _ _ _ fun w s t => (K (F := F)).mayWait_none _ (Otc_none c)

/-- What the TensorCore owes at this point, its recorded waits low. -/
def debt (c : Dev nD) : sProp (Res F) := iprop(∃ W, ⌜(K (F := F)).WBelow (host c) W 0⌝ ∗ owes (host c) ((K (F := F)).Otc c 0) W)

-- the contents after the region: any that have the two results and agree elsewhere
variable (V' : (c : Dev nD) → (b : Ref sig .tc) → Buf (Elt F) ((c.tc : Thread nD τ).loc b))

set_option backward.isDefEq.respectTransparency.types false in
def reg (hF : ∀ c, V' c main_v5_0 = floats (F := F) (V c main_v2) (V c main_v3) (V c main_v4))
    (hI : ∀ c, V' c main_v5_1 = words (F := F) (V c main_v2) (V c main_v3) (V c main_v4))
    (hne : ∀ c (b : Ref sig .tc), b ≠ main_v5_0 → b ≠ main_v5_1 → V' c b = V c b) :
    Pipeline.RegionSeg (pcfgs (F := F)) (fun p => (cfgs p).toPCfg_adm) (pdats V) none defs₀ 𝒱₀ (K (F := F)).L (K (F := F)).lev 0 where
  win := (launch0).win.to₀
  block_pos := (launch0).block_pos
  stage_whole := (launch0).stage_whole
  K := PEmpty
  osem k := k.elim
  ho := Pipeline.OwnSemFacts.none _
  hbody c := (body_obligation V c).loose
  hwaits := waits V
  pre c := iprop(unscopedBufs c (V c) ∗ debt c)
  post c := iprop(unscopedBufs c (V' c) ∗ debt c)
  X _ := BI.emp
  Y _ := BI.emp
  Z c := Pipeline.unscopedRest (Ix := HIx 1) (Name := ℕ) (U := UU) (Lvl := ℕ) spec0 c (V c)
  hentry c := by
    rw [Pipeline.ownSems0_none]
    have hsplit := Pipeline.arrays_of_unscopedBufs (p := 0) (pcfgs (F := F)) (fun p => (cfgs p).toPCfg_adm) (pdats V) (launch0).win (launch0).arr_whole c
      ((pdats V 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin debt
      icases HO with ⟨%W, %hW, HO⟩; iexists W; isplitr; · ipureintro; exact fun p hp => Or.inl (hW p hp)
      iexact HO
    isplitr; · iempintro
    iexact Hrest
  hin c := by
    rw [show (pdats V 0 c).Φ 0 = BI.emp from rfl]
    iintro ⟨-, -, -⟩; iempintro
  hout c := by
    rw [Pipeline.ownSems0_none, show (pdats V 0 c).Φ (Fin.last _) = BI.emp from rfl]
    iintro -
    isplitr; · iempintro
    isplitr; · iempintro
    rw [show (Pipeline.scopedRest (Pipeline.pin (pcfgs (F := F)) (fun p => (cfgs p).toPCfg_adm) 0).spec c : sProp (Res F)) = BI.emp from scopedRest0_eq c]
    iempintro
  hexit c := by
    have hjoin := Pipeline.unscopedBufs_of_arrays (p := 0) (pcfgs (F := F)) (fun p => (cfgs p).toPCfg_adm) (Ix := HIx 1) (Name := ℕ) (U := UU) (Lvl := ℕ) (launch0).win (launch0).arr_whole c
      (pdats V) ((pdats V 0 c).share_full fun _ => rfl) (V c) (V' c) ((pdats V 0 c).arrAt · cfg0.N)
      (fun w => by
        fin_cases w
        · exact ((pdats V 0 c).arrAt_in 0 rfl _).trans (hne c main_v2 (by decide) (by decide)).symm
        · exact ((pdats V 0 c).arrAt_in 1 rfl _).trans (hne c main_v3 (by decide) (by decide)).symm
        · exact ((pdats V 0 c).arrAt_in 2 rfl _).trans (hne c main_v4 (by decide) (by decide)).symm
        · exact (after3 V c).trans (hF c).symm
        · exact (after4 V c).trans (hI c).symm)
      (fun b hb => hne c b (fun h => hb (h ▸ Finset.mem_image.mpr ⟨3, Finset.mem_univ _, rfl⟩)) (fun h => hb (h ▸ Finset.mem_image.mpr ⟨4, Finset.mem_univ _, rfl⟩)))
    iintro ⟨Ha, HO, -, Hrest⟩
    imodintro
    isplitl [Ha Hrest]
    · iapply hjoin; isplitl [Ha] <;> iassumption
    unfold Pipeline.Dat.owesAt Pipeline.owesWithin debt
    icases HO with ⟨%W, %hW, HO⟩; iexists W; isplitr
    · ipureintro
      intro p hp
      rcases hW hp with h | ⟨w, k, h⟩
      · exact h
      · rw [h]; exact le_rfl
    iexact HO

end Region

end Cert.Proof.TopK

end
-- ==== Proof.Table.lean ====
/-
  The tables the first kernel writes, entry by entry: sample `k`'s row holds its window's corner, the patch's place in the
  window and the map's number; its column of the floats holds its probability and its place. Every row names a window
  inside the picture.
-/
module

public import proofs.«01_k».proof.Proof.Region
public import Idealize.ShloMosaic.Lib.WordCmp

@[expose] public section

noncomputable section

namespace Cert.Proof.TopK

open Cert.KernelIdeal Cert.KernelIdeal.Gen
open Idealize.ShloMosaic Idealize.SL.Sem
open Cert.Proof.Gather (TabFits Fits)
open Idealize.ShloMosaic.WordCmp

variable {F : FTy → Type} [FloatOps F]

/-! ## Words -/

/-- Floor division of words. -/
def fdiv (x n : BitVec 32) : BitVec 32 :=
  Scalar.select
    (IntOp.andi
      (IntOp.cmpi .ne
        (IntOp.subi (BitVec.setWidth 32 (IntOp.cmpi .sgt x 0#32)) (BitVec.setWidth 32 (IntOp.cmpi .slt x 0#32)))
        (Scalar.subi (Scalar.extui (Scalar.cmpi .sgt n 0#32)) (Scalar.extui (Scalar.cmpi .slt n 0#32))))
      (IntOp.cmpi .ne (IntOp.remsi .vector x n) 0#32))
    (IntOp.subi (IntOp.divsi .vector x n) 1#32) (IntOp.divsi .vector x n)

theorem floorDiv_apply (x : IVec S1x128 32) (n : BitVec 32) (z : S1x128.Idx) : floorDiv x n z = fdiv (x z) n := rfl

/-- The window's first row's multiple of eight, and its first column's block. -/
def ya (y : BitVec 32) : BitVec 32 := IntOp.minsi (IntOp.andi y 4294967288#32) 440#32
def xa (x : BitVec 32) : BitVec 32 := IntOp.minsi (IntOp.muli (fdiv x 128#32) 128#32) 256#32

/-- A corner within the picture gives a window within it. -/
theorem corner_fits : ∀ m : Fin 449, (8 ∣ (ya (BitVec.ofNat 32 m)).toNat ∧ (ya (BitVec.ofNat 32 m)).toNat ≤ 440
      ∧ (IntOp.subi (BitVec.ofNat 32 m) (ya (BitVec.ofNat 32 m))).toNat ≤ 8)
    ∧ 128 ∣ (xa (BitVec.ofNat 32 m)).toNat ∧ (xa (BitVec.ofNat 32 m)).toNat ≤ 256
      ∧ (IntOp.subi (BitVec.ofNat 32 m) (xa (BitVec.ofNat 32 m))).toNat ≤ 192 := by
  decide +kernel

/-- The corner as words: clipped to the picture. -/
def clip (v : BitVec 32) : BitVec 32 := IntOp.minsi 448#32 (IntOp.maxsi 0#32 v)

theorem clip_small (v : BitVec 32) : ∃ m : Fin 449, clip v = BitVec.ofNat 32 m := by
  have h : (clip v).toNat ≤ 448 := by
    unfold clip IntOp.minsi IntOp.maxsi
    simp only [BitVec.slt_eq_decide, decide_eq_true_eq]
    have h0 : (0#32).toInt = 0 := by decide
    have h1 : (448#32).toInt = 448 := by decide
    by_cases ha : v.toInt < (0#32).toInt
    · rw [if_pos ha, if_neg (by decide)]; decide
    · rw [if_neg ha]
      by_cases hb : (448#32).toInt < v.toInt
      · rw [if_pos hb]; decide
      · rw [if_neg hb]
        rw [h0] at ha; rw [h1] at hb
        rw [BitVec.toInt_eq_toNat_cond] at ha hb
        split at ha <;> omega
  exact ⟨⟨(clip v).toNat, by omega⟩, by simp⟩

theorem corner_apply (y : IVec S1x128 32) (one : IVec S1x128 1) (z : S1x128.Idx) :
    corner y one z = clip (Scalar.select (one z) (IntOp.subi (IntOp.muli 8#32 (y z)) 24#32) (IntOp.subi (IntOp.muli 8#32 (y z)) 28#32)) := rfl

/-! ## The table of words -/

/-- Sample `k`'s vector for column `c`. -/
def col (a ord : IVec S32x128 32) (k : BitVec 32) : ℕ → IVec S1x128 32
  | 0 => sYa a ord k
  | 1 => subi (sY0 a ord k) (sYa a ord k)
  | 2 => sXa a ord k
  | 3 => subi (sX0 a ord k) (sXa a ord k)
  | _ => sSel a ord k

theorem lanes16_apply (x : IVec S1x128 32) (i j : Fin 16) :
    lanes16 x (ix2 i j) = x (ix2 (0 : Fin 1) (⟨j.val, by omega⟩ : Fin 128)) := by
  unfold lanes16
  refine (broadcastTo_apply _ _ _ (ix2 (0 : Fin 1) (⟨j.val, by omega⟩ : Fin 16)) fun a => ?_).trans ?_
  · fin_cases a <;> rfl
  rw [shapeCast_self]
  exact extractStridedSlice_apply _ _ _ _ _ fun a => by fin_cases a <;> exact (Nat.zero_add _).symm

theorem ofNat_eq_iff {m n : ℕ} (hm : m < 2 ^ 32) (hn : n < 2 ^ 32) : BitVec.ofNat 32 m = BitVec.ofNat 32 n ↔ m = n := by
  rw [← BitVec.toNat_inj, BitVec.toNat_ofNat, BitVec.toNat_ofNat, Nat.mod_eq_of_lt hm, Nat.mod_eq_of_lt hn]

/-- Five selections by column number pick the column's. -/
theorem pick5 (j : ℕ) (hj : j < 5) (v : ℕ → BitVec 32) (t : BitVec 32) :
    (have p (c : BitVec 32) (x y : BitVec 32) := Scalar.select (IntOp.andi (BitVec.ofBool true) (BitVec.ofBool (decide (BitVec.ofNat 32 j = c)))) x y;
      p 4#32 (v 4) (p 3#32 (v 3) (p 2#32 (v 2) (p 1#32 (v 1) (p 0#32 (v 0) t))))) = v j := by
  interval_cases j <;> rfl

/-- One sample further, at an entry. -/
theorem addI_apply (a ord : IVec S32x128 32) (k : ℕ) (hk : k < 16) (t : IVec S16x16 32) (i j : Fin 16) (hj : j.val < 5) :
    addI a ord (BitVec.ofNat 32 k) t (ix2 i j)
      = if i.val = k then col a ord (BitVec.ofNat 32 k) j.val (ix2 (0 : Fin 1) (⟨j.val, by omega⟩ : Fin 128)) else t (ix2 i j) := by
  have hi : (BitVec.ofNat 32 i.val = BitVec.ofNat 32 k) ↔ i.val = k := ofNat_eq_iff (by omega) (by omega)
  unfold addI
  simp only [iota_single_apply, lanes16_apply, select_at, andi_at, cmpi_at, broadcast_at, cmpi_eq_eq]
  by_cases h : i.val = k
  · rw [if_pos h]
    have e : iota .tc S16x16 32 [0] iota_S16x16_d0_w32 (ix2 i j) = BitVec.ofNat 32 k := (iota_single_apply _ _ _ _ _ _).trans (hi.2 h)
    have e' : iota .tc S16x16 32 [1] iota_S16x16_d1_w32 (ix2 i j) = BitVec.ofNat 32 j.val := iota_single_apply _ _ _ _ _ _
    rw [e, e', decide_eq_true (rfl : BitVec.ofNat 32 k = BitVec.ofNat 32 k)]
    exact pick5 j.val hj (fun n => col a ord (BitVec.ofNat 32 k) n (ix2 (0 : Fin 1) (⟨j.val, by omega⟩ : Fin 128))) _
  · rw [if_neg h]
    have e : iota .tc S16x16 32 [0] iota_S16x16_d0_w32 (ix2 i j) ≠ BitVec.ofNat 32 k := fun e =>
      h (hi.1 ((iota_single_apply _ _ _ _ _ _).symm.trans e))
    have no (c : BitVec 1) (x y : BitVec 32) : Scalar.select (IntOp.andi (BitVec.ofBool false) c) x y = y := by
      have : IntOp.andi (BitVec.ofBool false) c = 0#1 := by unfold IntOp.andi; exact BitVec.zero_and
      rw [this]; rfl
    rw [decide_eq_false e]
    simp only [no]

theorem tabI_apply (a ord : IVec S32x128 32) (n : ℕ) (hn : n ≤ 16) (i j : Fin 16) (hj : j.val < 5) :
    tabI a ord n (ix2 i j)
      = if i.val < n then col a ord (BitVec.ofNat 32 i.val) j.val (ix2 (0 : Fin 1) (⟨j.val, by omega⟩ : Fin 128)) else 0#32 := by
  induction n with
  | zero => rw [if_neg (by omega)]; rfl
  | succ n ih =>
    rw [tabI, addI_apply a ord n (by omega) _ i j hj, ih (by omega)]
    by_cases h : i.val = n
    · subst h; rw [if_pos rfl, if_pos (by omega)]
    · rw [if_neg h]; by_cases h' : i.val < n
      · rw [if_pos h', if_pos (by omega)]
      · rw [if_neg h', if_neg (by omega)]

/-- A sample's window's corner, from its row (or column) and map. -/
def at0 (y : BitVec 32) (one : BitVec 1) : BitVec 32 :=
  clip (Scalar.select one (IntOp.subi (IntOp.muli 8#32 y) 24#32) (IntOp.subi (IntOp.muli 8#32 y) 28#32))

variable (a ord : IVec S32x128 32) (k : BitVec 32) (z : S1x128.Idx)

theorem col0 : col a ord k 0 z = ya (at0 (sRow ord k z) (sOne a ord k z)) := rfl
theorem col1 : col a ord k 1 z = IntOp.subi (at0 (sRow ord k z) (sOne a ord k z)) (ya (at0 (sRow ord k z) (sOne a ord k z))) := rfl
theorem col2 : col a ord k 2 z = xa (at0 (sCol ord k z) (sOne a ord k z)) := rfl
theorem col3 : col a ord k 3 z = IntOp.subi (at0 (sCol ord k z) (sOne a ord k z)) (xa (at0 (sCol ord k z) (sOne a ord k z))) := rfl

theorem at0_fits (y : BitVec 32) (one : BitVec 1) : (8 ∣ (ya (at0 y one)).toNat ∧ (ya (at0 y one)).toNat ≤ 440
      ∧ (IntOp.subi (at0 y one) (ya (at0 y one))).toNat ≤ 8)
    ∧ 128 ∣ (xa (at0 y one)).toNat ∧ (xa (at0 y one)).toNat ≤ 256 ∧ (IntOp.subi (at0 y one) (xa (at0 y one))).toNat ≤ 192 := by
  obtain ⟨m, h⟩ := clip_small (Scalar.select one (IntOp.subi (IntOp.muli 8#32 y) 24#32) (IntOp.subi (IntOp.muli 8#32 y) 28#32))
  unfold at0
  rw [h]
  exact corner_fits m

attribute [local irreducible] tabI order pert at0 ya xa sRow sCol sOne

/-- Lane `c` of a row of 128. -/
abbrev lane (c : Fin 128) : S1x128.Idx := ix2 (0 : Fin 1) c

theorem tab0 (i : Fin 16) : tabI a ord 16 (ix2 i (0 : Fin 16))
    = ya (at0 (sRow ord (BitVec.ofNat 32 i.val) (lane 0)) (sOne a ord (BitVec.ofNat 32 i.val) (lane 0))) :=
  (tabI_apply a ord 16 le_rfl i 0 (by decide)).trans ((if_pos i.isLt).trans (col0 a ord _ _))
theorem tab1 (i : Fin 16) : tabI a ord 16 (ix2 i (1 : Fin 16))
    = IntOp.subi (at0 (sRow ord (BitVec.ofNat 32 i.val) (lane 1)) (sOne a ord (BitVec.ofNat 32 i.val) (lane 1)))
        (ya (at0 (sRow ord (BitVec.ofNat 32 i.val) (lane 1)) (sOne a ord (BitVec.ofNat 32 i.val) (lane 1)))) :=
  (tabI_apply a ord 16 le_rfl i 1 (by decide)).trans ((if_pos i.isLt).trans (col1 a ord _ _))
theorem tab2 (i : Fin 16) : tabI a ord 16 (ix2 i (2 : Fin 16))
    = xa (at0 (sCol ord (BitVec.ofNat 32 i.val) (lane 2)) (sOne a ord (BitVec.ofNat 32 i.val) (lane 2))) :=
  (tabI_apply a ord 16 le_rfl i 2 (by decide)).trans ((if_pos i.isLt).trans (col2 a ord _ _))
theorem tab3 (i : Fin 16) : tabI a ord 16 (ix2 i (3 : Fin 16))
    = IntOp.subi (at0 (sCol ord (BitVec.ofNat 32 i.val) (lane 3)) (sOne a ord (BitVec.ofNat 32 i.val) (lane 3)))
        (xa (at0 (sCol ord (BitVec.ofNat 32 i.val) (lane 3)) (sOne a ord (BitVec.ofNat 32 i.val) (lane 3)))) :=
  (tabI_apply a ord 16 le_rfl i 3 (by decide)).trans ((if_pos i.isLt).trans (col3 a ord _ _))
theorem tab4 (i : Fin 16) : tabI a ord 16 (ix2 i (4 : Fin 16)) = sSel a ord (BitVec.ofNat 32 i.val) (lane 4) :=
  (tabI_apply a ord 16 le_rfl i 4 (by decide)).trans (if_pos i.isLt)

/-- Every row of one batch's table names a window within the picture. -/
theorem tab_fits (i : Fin 16) : Fits (tabI a ord 16 (ix2 i (0 : Fin 16))) (tabI a ord 16 (ix2 i (1 : Fin 16)))
    (tabI a ord 16 (ix2 i (2 : Fin 16))) (tabI a ord 16 (ix2 i (3 : Fin 16))) := by
  rw [tab0, tab1, tab2, tab3]
  exact ⟨(at0_fits _ _).1.1, (at0_fits _ _).1.2.1, (at0_fits _ _).1.2.2, (at0_fits _ _).2.1, (at0_fits _ _).2.2.1, (at0_fits _ _).2.2.2⟩

/-- The words at an entry: their batch's table. -/
theorem words_apply (x : S4x32x128.Idx → Elt F .f32) (a : S4x32x128.Idx → Elt F .i32) (g : S4x32x128.Idx → Elt F .f32) (r : Fin 64) (c : Fin 16) :
    words (F := F) x a g (ix2 r c)
      = tabI (shapeCast S32x128 (batch a (⟨r.val / 16, by omega⟩ : Fin 4)) shapeCasts_S1x32x128_S32x128)
          (order (pert (F := F) (batch x (⟨r.val / 16, by omega⟩ : Fin 4)) (batch g (⟨r.val / 16, by omega⟩ : Fin 4))) 16) 16
          (ix2 (⟨r.val % 16, by omega⟩ : Fin 16) c) := by
  unfold words outI
  rfl

/-- Row `r` of the words names a window within the picture. -/
theorem words_fits (x : S4x32x128.Idx → Elt F .f32) (a : S4x32x128.Idx → Elt F .i32) (g : S4x32x128.Idx → Elt F .f32) :
    TabFits (words (F := F) x a g) := fun r => by
  rw [words_apply, words_apply, words_apply, words_apply]
  exact tab_fits _ _ _

end Cert.Proof.TopK

end
-- ==== Proof.Launch.lean ====
/-
  The whole program: the host's operations, the TensorCore's kernel, the SparseCores' kernel, and the contents every array
  ends with.
-/
module

public import proofs.«01_k».proof.Proof.Deal
public import proofs.«01_k».proof.Proof.Table

@[expose] public section

noncomputable section

namespace Cert.Proof.Launch

open Cert.KernelIdeal Cert.KernelIdeal.Gen

open Idealize.ShloMosaic
open Idealize.ShloMosaic.SparseCore (S V T)
open Idealize.ShloMosaic.SparseCore.Cfg (HIx Pay)
open Idealize.ShloMosaic.StableHlo (held after seq seqK)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Rounds
open Cert.Proof.Gather
open Cert.Proof.TopK (host floats words debt reg words_fits)

variable {F : FTy → Type} [FloatOps F]

/-! ## The host's operations -/

/-- Before the first kernel: the two maps and the noise laid out in blocks. -/
def ops1 : List (HloOp τ sig (Elt F)) :=
  [StableHlo.reshape main_arg0 main_v0 (rfl : (.f32 : EltTy) = .f32) shapeCasts_S4x64x64_S4x4096,
   StableHlo.reshape main_arg1 main_v1 (rfl : (.i32 : EltTy) = .i32) shapeCasts_S4x64x64_S4x4096,
   StableHlo.reshape main_v0 main_v2 (rfl : (.f32 : EltTy) = .f32) shapeCasts_S4x4096_S4x32x128,
   StableHlo.reshape main_v1 main_v3 (rfl : (.i32 : EltTy) = .i32) shapeCasts_S4x4096_S4x32x128,
   StableHlo.reshape main_arg6 main_v4 (rfl : (.f32 : EltTy) = .f32) shapeCasts_S4x4096_S4x32x128]
/-- Between the kernels: the pictures' channels moved to the front. -/
def ops2 : List (HloOp τ sig (Elt F)) :=
  [StableHlo.unary main_arg4 main_v6 ((transpose S4x3x512x512 [0, 3, 1, 2] · transposes_S4x512x512x3_S4x3x512x512_0_3_1_2) : (⟨S4x512x512x3, .f32⟩ : BufTy).Contents (Elt F) → (⟨S4x3x512x512, .f32⟩ : BufTy).Contents (Elt F)),
   StableHlo.unary main_arg5 main_v7 ((transpose S4x3x512x512 [0, 3, 1, 2] · transposes_S4x512x512x3_S4x3x512x512_0_3_1_2) : (⟨S4x512x512x3, .f32⟩ : BufTy).Contents (Elt F) → (⟨S4x3x512x512, .f32⟩ : BufTy).Contents (Elt F))]
/-- After the second kernel: the results laid out. -/
def ops3 : List (HloOp τ sig (Elt F)) :=
  [StableHlo.reshape main_v8 main_v9 (rfl : (.f32 : EltTy) = .f32) shapeCasts_S64x3x64x64_S4x16x3x64x64,
   StableHlo.unary main_v9 main_v10 ((transpose S4x16x64x64x3 [0, 1, 3, 4, 2] · transposes_S4x16x3x64x64_S4x16x64x64x3_0_1_3_4_2) : (⟨S4x16x3x64x64, .f32⟩ : BufTy).Contents (Elt F) → (⟨S4x16x64x64x3, .f32⟩ : BufTy).Contents (Elt F)),
   StableHlo.unary main_v5_0 main_v11 ((extractStridedSlice S4x1x16 ![0, 0, 0] · slices_S4x4x128_S4x1x16_0_0_0) : (⟨S4x4x128, .f32⟩ : BufTy).Contents (Elt F) → (⟨S4x1x16, .f32⟩ : BufTy).Contents (Elt F)),
   StableHlo.reshape main_v11 main_v12 (rfl : (.f32 : EltTy) = .f32) shapeCasts_S4x1x16_S4x16,
   StableHlo.unary main_v5_0 main_v13 ((extractStridedSlice S4x1x16 ![0, 1, 0] · slices_S4x4x128_S4x1x16_0_1_0) : (⟨S4x4x128, .f32⟩ : BufTy).Contents (Elt F) → (⟨S4x1x16, .f32⟩ : BufTy).Contents (Elt F)),
   StableHlo.reshape main_v13 main_v14 (rfl : (.f32 : EltTy) = .f32) shapeCasts_S4x1x16_S4x16,
   StableHlo.unary main_v5_0 main_v15 ((extractStridedSlice S4x1x16 ![0, 2, 0] · slices_S4x4x128_S4x1x16_0_2_0) : (⟨S4x4x128, .f32⟩ : BufTy).Contents (Elt F) → (⟨S4x1x16, .f32⟩ : BufTy).Contents (Elt F)),
   StableHlo.reshape main_v15 main_v16 (rfl : (.f32 : EltTy) = .f32) shapeCasts_S4x1x16_S4x16,
   StableHlo.unary main_v14 main_v17 (broadcastInDim S4x16x1 ![0, 1] bcast_S4x16_S4x16x1_0_1 : (⟨S4x16, .f32⟩ : BufTy).Contents (Elt F) → (⟨S4x16x1, .f32⟩ : BufTy).Contents (Elt F)),
   StableHlo.unary main_v16 main_v18 (broadcastInDim S4x16x1 ![0, 1] bcast_S4x16_S4x16x1_0_1 : (⟨S4x16, .f32⟩ : BufTy).Contents (Elt F) → (⟨S4x16x1, .f32⟩ : BufTy).Contents (Elt F)),
   StableHlo.binary main_v17 main_v18 main_v19 ((fun a b => concatenate S4x16x2 2 [⟨S4x16x1, a⟩, ⟨S4x16x1, b⟩] concatenates_S4x16x1_S4x16x1_S4x16x2_d2) : (⟨S4x16x1, .f32⟩ : BufTy).Contents (Elt F) → (⟨S4x16x1, .f32⟩ : BufTy).Contents (Elt F) → (⟨S4x16x2, .f32⟩ : BufTy).Contents (Elt F)),
   StableHlo.nullary main_cst (constant S_ .f32 0x00000000#32),
   StableHlo.unary main_cst main_v20 (broadcastInDim S4x16x2 ![] bcast_S_S4x16x2 : (⟨S_, .f32⟩ : BufTy).Contents (Elt F) → (⟨S4x16x2, .f32⟩ : BufTy).Contents (Elt F))]

theorem main_eq (d : Dev nD) : main (F := F) d =
    (seq ops1 >>= fun _ => Prog.lift (.customCall (SparseCore.inner (Pipeline.entry 0)) ()) >>= fun _ =>
      seq ops2 >>= fun _ => sc.run d 0 >>= fun _ => seq ops3 >>= fun _ => pure ⟨⟩) := by
  rw [StableHlo.seq_bind_seqK, StableHlo.seq_bind_seqK, StableHlo.seq_bind_seqK]
  rfl

theorem sub1 : ∀ op ∈ (ops1 (F := F)), op.bufs ⊆ Pipeline.ucRefs τ sig := fun op h =>
  Pipeline.sub_ucRefs op ((List.forall_iff_forall_mem.mp (show (ops1 (F := F)).Forall fun op => op.bufs ⊆ StableHlo.tcRefs τ sig by
    simp [ops1])) op h)
theorem sub2 : ∀ op ∈ (ops2 (F := F)), op.bufs ⊆ Pipeline.ucRefs τ sig := fun op h =>
  Pipeline.sub_ucRefs op ((List.forall_iff_forall_mem.mp (show (ops2 (F := F)).Forall fun op => op.bufs ⊆ StableHlo.tcRefs τ sig by
    simp [ops2])) op h)
theorem sub3 : ∀ op ∈ (ops3 (F := F)), op.bufs ⊆ Pipeline.ucRefs τ sig := fun op h =>
  Pipeline.sub_ucRefs op ((List.forall_iff_forall_mem.mp (show (ops3 (F := F)).Forall fun op => op.bufs ⊆ StableHlo.tcRefs τ sig by
    simp [ops3])) op h)
theorem fresh1 : ∀ op ∈ (ops1 (F := F)), op.fresh = ∅ := by
  refine List.forall_iff_forall_mem.mp ?_
  refine ⟨rfl, rfl, rfl, rfl, rfl⟩
theorem fresh2 : ∀ op ∈ (ops2 (F := F)), op.fresh = ∅ := by
  refine List.forall_iff_forall_mem.mp ?_
  refine ⟨rfl, rfl⟩
theorem fresh3 : ∀ op ∈ (ops3 (F := F)), op.fresh = ∅ := by
  refine List.forall_iff_forall_mem.mp ?_
  refine ⟨rfl, rfl, rfl, rfl, rfl, rfl, rfl, rfl, rfl, rfl, rfl, rfl, rfl⟩

/-! ## The contents of every array, step by step -/

/-- A buffer of the TensorCore as one of its device's. -/
abbrev buf (b : Ref sig .tc) : DevRef τ sig := Proc.devRef .tc b

variable (m : (ℓ : Loc nD τ sig) → Buf (Elt F) ℓ)

def W0 (d : Dev nD) : Valuation τ sig (Elt F) := fun b => m (d, b)
def W1 (d : Dev nD) : Valuation τ sig (Elt F) := after ops1 (W0 m d)
def floatsOf (d : Dev nD) : S4x4x128.Idx → Elt F .f32 := floats (F := F) (W1 m d (buf main_v2)) (W1 m d (buf main_v3)) (W1 m d (buf main_v4))
def wordsOf (d : Dev nD) : S64x16.Idx → BitVec 32 := words (F := F) (W1 m d (buf main_v2)) (W1 m d (buf main_v3)) (W1 m d (buf main_v4))
def W2 (d : Dev nD) : Valuation τ sig (Elt F) :=
  Function.update (Function.update (W1 m d) (buf main_v5_0) (floatsOf m d)) (buf main_v5_1) (wordsOf m d)
def W3 (d : Dev nD) : Valuation τ sig (Elt F) := after ops2 (W2 m d)
def tabOf (d : Dev nD) : S64x16.Idx → BitVec 32 := W3 m d (buf main_v5_1)
def pic0 (d : Dev nD) : S4x3x512x512.Idx → Elt F .f32 := W3 m d (buf main_v6)
def pic1 (d : Dev nD) : S4x3x512x512.Idx → Elt F .f32 := W3 m d (buf main_v7)
def outOf (d : Dev nD) : S64x3x64x64.Idx → Elt F .f32 := W3 m d (buf main_v8)
def W4 (d : Dev nD) : Valuation τ sig (Elt F) :=
  Function.update (W3 m d) (buf main_v8) (patches (F := F) (tabOf m d) (pic0 m d) (pic1 m d))
def W5 (d : Dev nD) : Valuation τ sig (Elt F) := after ops3 (W4 m d)

theorem W2_words (d : Dev nD) : W2 m d (buf main_v5_1) = wordsOf m d := Function.update_self ..
theorem W2_floats (d : Dev nD) : W2 m d (buf main_v5_0) = floatsOf m d :=
  (Function.update_of_ne (StableHlo.devRef_ne_of_ne (by decide)) _ _).trans (Function.update_self ..)
theorem W2_other (d : Dev nD) (b : Ref sig .tc) (h0 : b ≠ main_v5_0) (h1 : b ≠ main_v5_1) : W2 m d (buf b) = W1 m d (buf b) :=
  (Function.update_of_ne (StableHlo.devRef_ne_of_ne h1) _ _).trans (Function.update_of_ne (StableHlo.devRef_ne_of_ne h0) _ _)

theorem tabOf_eq (d : Dev nD) : tabOf m d = wordsOf m d :=
  (StableHlo.after_of_writes_sub (W := [main_v6, main_v7]) ops2 (W2 m d) (by simp [ops2]) (by decide)).trans (W2_words m d)
theorem tab_ok (d : Dev nD) : TabFits (tabOf m d) := by rw [tabOf_eq]; exact words_fits _ _ _

end Cert.Proof.Launch

end
-- ==== Proof.Run.lean ====
/-
  The program's run: the two calls and the host's operations put together, from the launch to the final memory.
-/
module

public import proofs.«01_k».proof.Proof.Launch

@[expose] public section

noncomputable section

namespace Cert.Proof.Launch

open Cert.KernelIdeal Cert.KernelIdeal.Gen

open Idealize.ShloMosaic
open Idealize.ShloMosaic.SparseCore (S V T)
open Idealize.ShloMosaic.SparseCore.Cfg (HIx Pay)
open Idealize.ShloMosaic.StableHlo (held after seq seqK)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Rounds
open Cert.Proof.Gather
open Cert.Proof.TopK (host floats words debt reg words_fits)

variable {F : FTy → Type} [FloatOps F]

variable (m : (ℓ : Loc nD τ sig) → Buf (Elt F) ℓ)

abbrev adm : (p : Fin 1) → (pcfgs (F := F) p).Adm := fun p => (cfgs p).toPCfg_adm

/-- The first kernel's share of the launch's ghost state. -/
def G (d : Dev nD) : sProp (Res F) :=
  iprop(Pipeline.cellsGhost (Pipeline.pin (pcfgs (F := F)) adm) EP 0 d ∗ Pipeline.toksInit (Pipeline.pin (pcfgs (F := F)) adm) EP 0 d)

/-! ## The first call -/

/-- The first call, in the kernels' own signature. -/
abbrev enter (d : Dev nD) : Prog (TpuEff nD τ sig (Elt F) (ΛP (F := F)) (host d).2) PUnit := .op (.customCall (Pipeline.entry 0) ()) fun _ => .ret ⟨⟩

theorem lift_call (d : Dev nD) :
    (SparseCore.liftProg (enter (F := F) d) : Prog (TpuEff nD τ sig (Elt F) (SparseCore.Sig (ΛP (F := F)) 1) (host d).2) PUnit)
      = Prog.lift (.customCall (SparseCore.inner (Pipeline.entry 0)) ()) := rfl

abbrev Seg0 := Pipeline.RegionSeg (pcfgs (F := F)) adm (Cert.Proof.TopK.pdats fun c b => W1 m c (buf b)) none defs₀ 𝒱₀ (K (F := F)).L (K (F := F)).lev 0

/-- What the region starts from. -/
def Start (d : Dev nD) (R : Seg0 m) : sProp (Res F) :=
  iprop(boundary (host d) ∗ R.pre d ∗ levAts (K (F := F)).L (K (F := F)).lev ∗ G d)

set_option maxHeartbeats 4000000 in
theorem enter_region [∀ e, Nonempty (Elt F e)] (d : Dev nD) (R : Seg0 m) (Q : PUnit → sProp (Res F)) :
    iprop(((boundary (host d) ∗ R.post d) -∗ wp frame (wpE (D (F := F)) 𝒱 (host d) none) Set.univ (.ret ⟨⟩) Q) ∗ Start m d R)
      ⊢ (wp frame (wpE (D (F := F)) 𝒱 (host d) none) Set.univ (enter d) Q : sProp (Res F)) :=
  Pipeline.RegionSeg.wp (pcfgs (F := F)) adm (Cert.Proof.TopK.pdats fun c b => W1 m c (buf b)) none cellOf_inj EP defs₀ 𝒱₀ (K (F := F)).L (K (F := F)).lev R d none
    (fun u hu => absurd hu (Option.not_mem_none u)) (fun _ => .ret ⟨⟩) Q

theorem call_region [∀ e, Nonempty (Elt F e)] (d : Dev nD) (R : Seg0 m) (Q : PUnit → sProp (Res F)) :
    iprop(levAts (K (F := F)).L (K (F := F)).lev ∗ boundary (host d) ∗ R.pre d ∗ G d
        ∗ ((boundary (host d) ∗ R.post d) -∗ Q ⟨⟩))
      ⊢ wp frame (wpE ((K (F := F)).defs (D (F := F))) 𝒱 (host d) none) Set.univ
          (Prog.lift (.customCall (SparseCore.inner (Pipeline.entry 0)) ())) Q := by
  have h0 : iprop(levAts (K (F := F)).L (K (F := F)).lev ∗ boundary (host d) ∗ R.pre d ∗ G d ∗ ((boundary (host d) ∗ R.post d) -∗ Q ⟨⟩))
      ⊢ iprop(((boundary (host d) ∗ R.post d) -∗ wp frame (wpE (D (F := F)) 𝒱 (host d) none) Set.univ (.ret ⟨⟩) Q) ∗ Start m d R) := by
    unfold Start
    iintro ⟨#Hl, Hb, Hp, HG, Hk⟩
    isplitl [Hk]
    · iintro H
      rw [wp_ret]
      imodintro
      iapply Hk; iexact H
    isplitl [Hb]; · iexact Hb
    isplitl [Hp]; · iexact Hp
    isplitr; · iexact Hl
    iexact HG
  rw [← lift_call d]
  exact h0.trans ((enter_region m d R Q).trans ((K (F := F)).wp_liftProg (N := 1) (D (F := F)) 𝒱 (host d) Set.univ none (enter d) Q))

/-- The region of the first call, between the contents before it and after it. -/
def R0 : Seg0 m :=
  reg (fun c b => W1 m c (buf b)) (fun c b => W2 m c (buf b)) (fun c => W2_floats m c) (fun c => W2_words m c) (fun c b => W2_other m c b)

theorem pre_eq (d : Dev nD) : (R0 m).pre d = iprop(held (host d) (Pipeline.ucRefs τ sig) (W1 m d) ∗ debt d) := by
  rw [← Pipeline.unscopedBufs_held]; rfl
theorem post_eq (d : Dev nD) : (R0 m).post d = iprop(held (host d) (Pipeline.ucRefs τ sig) (W2 m d) ∗ debt d) := by
  rw [← Pipeline.unscopedBufs_held]; rfl

/-! ## The second call -/

/-- The buffers of the second call. -/
def four : Finset (DevRef τ sig) := {buf main_v5_1, buf main_v6, buf main_v7, buf main_v8}

theorem four_sub : four ⊆ Pipeline.ucRefs τ sig := by
  intro b hb
  simp only [four, Finset.mem_insert, Finset.mem_singleton] at hb
  rcases hb with rfl | rfl | rfl | rfl <;> exact Finset.mem_filter.mpr ⟨StableHlo.devRef_mem_tcRefs _, by decide⟩

theorem held_four (d : Dev nD) (W : Valuation τ sig (Elt F)) :
    (held (host d) four W : sProp (Res F)) = Deal d fullShare Finset.univ (W (buf main_v5_1)) (W (buf main_v6)) (W (buf main_v7)) (W (buf main_v8)) := by
  unfold held four Deal
  rw [SparseCore.bigSep_insert' (by decide), SparseCore.bigSep_insert' (by decide), SparseCore.bigSep_insert' (by decide), bigSep_singleton]

abbrev PP := P (tabOf m) (pic0 m) (pic1 m) (outOf m)

theorem W4_out (d : Dev nD) : W4 m d (buf main_v8) = patches (F := F) (tabOf m d) (pic0 m d) (pic1 m d) := Function.update_self ..
theorem W4_other (d : Dev nD) (b : DevRef τ sig) (h : b ≠ buf main_v8) : W4 m d b = W3 m d b := Function.update_of_ne h _ _

theorem held_before (d : Dev nD) : (held (host d) (Pipeline.ucRefs τ sig) (W3 m d) : sProp (Res F))
    = iprop(Deal d fullShare Finset.univ (tabOf m d) (pic0 m d) (pic1 m d) (outOf m d) ∗ held (host d) (Pipeline.ucRefs τ sig \ four) (W3 m d)) := by
  rw [StableHlo.held_sub_split (host d) four_sub, held_four]; rfl
theorem held_after (d : Dev nD) : (held (host d) (Pipeline.ucRefs τ sig) (W4 m d) : sProp (Res F))
    = iprop(Deal d fullShare Finset.univ (tabOf m d) (pic0 m d) (pic1 m d) (patches (tabOf m d) (pic0 m d) (pic1 m d))
        ∗ held (host d) (Pipeline.ucRefs τ sig \ four) (W3 m d)) := by
  rw [StableHlo.held_sub_split (host d) four_sub, held_four, W4_out, W4_other m d _ (StableHlo.devRef_ne_of_ne (by decide)),
    W4_other m d _ (StableHlo.devRef_ne_of_ne (by decide)), W4_other m d _ (StableHlo.devRef_ne_of_ne (by decide)),
    StableHlo.held_congr (host d) fun b hb => W4_other m d b fun e => (Finset.mem_sdiff.mp hb).2 (by rw [e]; simp [four])]
  rfl

theorem call_gather (κ : GSem nD τ sig → ℕ) (d : Dev nD) (Q : PUnit → sProp (Res F)) :
    iprop((K (F := F)).ctx EH (PP m) κ ∗ (K (F := F)).tcSt EH d 0 ∗ held (host d) (Pipeline.ucRefs τ sig) (W3 m d)
        ∗ (((K (F := F)).tcSt EH d 1 ∗ held (host d) (Pipeline.ucRefs τ sig) (W4 m d)) -∗ Q ⟨⟩))
      ⊢ wp frame (wpE ((K (F := F)).defs (D (F := F))) 𝒱 (host d) none) Set.univ (sc.run d 0) Q := by
  rw [held_before, held_after]
  iintro ⟨#Hctx, Hst, ⟨Hd, Hr⟩, Hk⟩
  ihave Hd := (deal_out (tabOf m) (pic0 m) (pic1 m) (outOf m) d) $$ Hd
  icases Hd with ⟨HR, Hs⟩
  iapply ((K (F := F)).wp_run (D (F := F)) 𝒱 (EH := EH) (P := PP m) κ d 0) $$ [Hst HR Hs Hr Hk]
  isplitr; · iexact Hctx
  isplitl [Hst]; · iexact Hst
  isplitl [Hs]; · iexact Hs
  iintro ⟨Hst, Hdn⟩
  iapply Hk
  isplitl [Hst]; · iexact Hst
  isplitr [Hr]; swap; · iexact Hr
  iapply (deal_back (tabOf m) (pic0 m) (pic1 m) (outOf m) d)
  isplitl [HR]; · iexact HR
  iexact Hdn

/-! ## The program -/

def FIN (d : Dev nD) : sProp (Res F) := held (host d) (Pipeline.ucRefs τ sig) (W5 m d)

variable (ρ : Dev nD → PrngReg)

theorem hmain [∀ e, Nonempty (Elt F e)] (κ : GSem nD τ sig → ℕ) (d : Dev nD) :
    iprop((K (F := F)).ctx EH (PP m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq, show (unscopedBufs d (fun b => m ((SparseCore.T d).loc b)) : sProp (Res F)) = held (host d) (Pipeline.ucRefs τ sig) (W0 m d) from
    Pipeline.unscopedBufs_held d (W0 m d)]
  iintro ⟨#Hctx, Hst, ⟨Hb, Hu, Hts, -⟩, HG⟩
  ihave Hlev := (SparseCore.Cfg.ctx_levAts κ) $$ Hctx
  icases Hlev with #Hlev
  iapply (StableHlo.wp_seq 𝒱 none Set.univ d (Pipeline.ucRefs τ sig) _ ops1 sub1 fresh1 (W0 m d)) $$ [Hb Hu]
  · isplitl [Hb]; · iexact Hb
    iexact Hu
  iintro ⟨Hb, Hu⟩
  rw [wp_bind]
  unfold SparseCore.Cfg.tcSt
  icases Hst with ⟨HO, Hst⟩
  iapply (call_region m d (R0 m) _)
  isplitr; · iexact Hlev
  isplitl [Hb]; · iexact Hb
  isplitl [Hu HO]
  · rw [pre_eq]
    isplitl [Hu]; · iexact Hu
    unfold debt; iexact HO
  isplitl [HG]; · iexact HG
  rw [post_eq]
  iintro ⟨Hb, Hu, HO⟩
  iapply (StableHlo.wp_seq 𝒱 none Set.univ d (Pipeline.ucRefs τ sig) _ ops2 sub2 fresh2 (W2 m d)) $$ [Hb Hu]
  · isplitl [Hb]; · iexact Hb
    iexact Hu
  iintro ⟨Hb, Hu⟩
  rw [wp_bind]
  iapply (call_gather m κ d _)
  isplitr; · iexact Hctx
  isplitl [HO Hst]
  · unfold SparseCore.Cfg.tcSt debt
    isplitl [HO]; · iexact HO
    iexact Hst
  isplitl [Hu]; · iexact Hu
  iintro ⟨Hst, Hu⟩
  iapply (StableHlo.wp_seq 𝒱 none Set.univ d (Pipeline.ucRefs τ sig) _ ops3 sub3 fresh3 (W4 m d)) $$ [Hb Hu]
  · isplitl [Hb]; · iexact Hb
    iexact Hu
  iintro ⟨Hb, Hu⟩
  rw [wp_pure]
  imodintro
  isplitl [Hst]; · unfold SparseCore.Cfg.tcSt; iexact Hst
  isplitl [Hu]; · unfold FIN; iexact Hu
  isplitl [Hb]; · iexact Hb
  iexact Hts

/-! ## The launch -/

def u₀ : UU := ((initOf (K (F := F)).hsCells (K (F := F)).hsToks,
  initOf (Pipeline.cells (Pipeline.pin (pcfgs (F := F)) adm) cellOf_inj) (Pipeline.launchToks (Pipeline.pin (pcfgs (F := F)) adm) cellOf_inj)), 1)

theorem ownU_split (a : UH) (b : UP) : (ownU (((a, b), 1) : UU) : sProp (Res F)) ⊢ iprop(BI.own (EH a) ∗ BI.own (EP b)) :=
  BI.own_op_elim ((uEmb (nD := nD) (sig := sig) (Ix := HIx 1) (Val := Elt F) (Name := ℕ) (U := UU) (Lvl := ℕ)).toEmb.op_of_mem
    (Prod.mk_mem_op (Prod.mk_mem_op (URA.mem_op_one a) (URA.mem_one_op b)) (URA.mem_op_one (1 : Counters))))

theorem bigSep_emp' {I : Type} (s : Finset I) : (bigSep s fun _ => iprop(emp)) = (iprop(emp) : sProp (Res F)) := bigSep_emp_const s

theorem hu₀ : (ownU (u₀ (F := F)) : sProp (Res F))
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (PP m).x q thr) := by
  unfold u₀
  iintro Hu
  ihave H := (ownU_split _ _) $$ Hu
  icases H with ⟨HH, HK⟩
  imod (Pipeline.fund_ghost (Pipeline.pin (pcfgs (F := F)) adm) EP cellOf_inj) $$ HK with ⟨HC, HT⟩
  imodintro
  isplitl [HH]; · iexact HH
  isplitl [HC HT]
  · unfold G
    rw [bigSep_sep']
    isplitl [HC]
    · rw [show (bigSep Finset.univ fun d : Dev nD => (Pipeline.cellsGhost (Pipeline.pin (pcfgs (F := F)) adm) EP 0 d : sProp (Res F)))
        = bigSep Finset.univ fun d : Dev nD => bigSep Finset.univ fun p : Fin 1 => Pipeline.cellsGhost (Pipeline.pin (pcfgs (F := F)) adm) EP p d from
          bigSep_congr fun _ _ => (bigSep_univ_of_subsingleton (Φ := fun p : Fin 1 => Pipeline.cellsGhost (Pipeline.pin (pcfgs (F := F)) adm) EP p _) (0 : Fin 1)).symm]
      iexact HC
    · rw [show (bigSep Finset.univ fun d : Dev nD => (Pipeline.toksInit (Pipeline.pin (pcfgs (F := F)) adm) EP 0 d : sProp (Res F)))
        = bigSep Finset.univ fun d : Dev nD => bigSep Finset.univ fun p : Fin 1 => Pipeline.toksInit (Pipeline.pin (pcfgs (F := F)) adm) EP p d from
          bigSep_congr fun _ _ => (bigSep_univ_of_subsingleton (Φ := fun p : Fin 1 => Pipeline.toksInit (Pipeline.pin (pcfgs (F := F)) adm) EP p _) (0 : Fin 1)).symm]
      iexact HT
  rw [show (bigSep Finset.univ fun thr : Thread nD τ => bigSep Finset.univ fun q : Fin 1 => (PP m).x q thr) = bigSep Finset.univ fun _ => iprop(emp) from
    bigSep_congr fun _ _ => bigSep_univ_of_subsingleton (0 : Fin 1), bigSep_emp']
  iempintro

/-! ## The end -/

def fq (d : Dev nD) (s' : Phys nD τ sig (Elt F)) : Prop := ∀ b ∈ Pipeline.ucRefs τ sig, s'.mem.mem (d, b) = W5 m d b

theorem agree (d : Dev nD) (s' : Phys nD τ sig (Elt F)) (b : DevRef τ sig) (hb : b ∈ Pipeline.ucRefs τ sig) :
    iprop(FIN m d ∗ SI s') ⊢ (⌜s'.mem.mem (d, b) = W5 m d b⌝ : sProp (Res F)) := by
  unfold FIN held
  have hel : (bigSep (Pipeline.ucRefs τ sig) fun b => (((d, b) : Loc nD τ sig) ↦{fullShare} W5 m d b : sProp (Res F)))
      ⊢ (((d, b) : Loc nD τ sig) ↦{fullShare} W5 m d b : sProp (Res F)) :=
    bigSep_elim (Φ := fun b => (((d, b) : Loc nD τ sig) ↦{fullShare} W5 m d b : sProp (Res F))) hb
  iintro ⟨H, HSI⟩
  ihave H := hel $$ H
  ihave H := (SI_pointsTo_agree (st := s') (ℓ := (d, b)) (I := Finset.univ) (q := fullShare) (f := W5 m d b)) $$ [HSI H]
  · isplitl [HSI] <;> iassumption
  icases H with %h
  ipureintro; exact funext fun i => h i (Finset.mem_univ i)

theorem hfin (d : Dev nD) (s' : Phys nD τ sig (Elt F)) : iprop(FIN m d ∗ SI s') ⊢ (⌜fq m d s'⌝ : sProp (Res F)) :=
  ((Laws.forall_intro fun x : {b // b ∈ Pipeline.ucRefs τ sig} => agree m d s' x.1 x.2).trans Laws.pure_forall.2).trans
    (Laws.pure_mono fun all b hb => all ⟨b, hb⟩)

/-- Every array of the host ends at the contents computed, and every counter at zero. -/
def QC : PUnit × MemSt nD τ sig (Elt F) → Prop :=
  fun r => (∀ d : Dev nD, ∀ b ∈ Pipeline.ucRefs τ sig, r.2.mem (d, b) = W5 m d b) ∧ r.2.sem = fun _ => 0

theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PP m) (A := ∅) facts v₀
    (fun q hq => match q with | 0 => nomatch hq)
    (fun q _ => match q with | 0 => tileObl (tabOf m) (pic0 m) (pic1 m) (outOf m) (tab_ok m))
    (fun q _ => match q with | 0 => SparseCore.Cfg.VecSplit.of_plain (vecSplit (tabOf m) (pic0 m) (pic1 m) (outOf m)))
    m ρ main G (FIN m) (u₀ (F := F)) (sep_elim_left.trans (hu₀ m)) (hmain m ρ) (fq m) (hfin m) (QC m) (fun _ h hz => ⟨h, hz⟩)

end Cert.Proof.Launch

end
-- ==== Proof.Frames.lean ====
/-
  What the three programs leave behind: the arguments as they found them and every semaphore's counter at zero.
-/
module

public import proofs.«01_k».proof.Defs
public import proofs.«01_k».proof.Proof.Run
public import proofs.«01_k».proof.Proof.Gen.ReferenceIdeal.Run
public import proofs.«01_k».proof.Proof.Gen.Kernel
public import Idealize.ShloMosaic.Lib.Quiescent

@[expose] public section

noncomputable section

namespace Cert.Proof.Launch

open Cert.KernelIdeal Cert.KernelIdeal.Gen
open Idealize.ShloMosaic Idealize.SL.Sem

variable {F : FTy → Type} [FloatOps F] (m : (ℓ : Loc nD τ sig) → Buf (Elt F) ℓ)

theorem mem_uc (b : Ref sig .tc) (h : (Proc.devRef (τ := τ) .tc b).isScoped = false) :
    Proc.devRef (τ := τ) .tc b ∈ Pipeline.ucRefs τ sig :=
  Finset.mem_filter.mpr ⟨StableHlo.devRef_mem_tcRefs b, by simpa using h⟩

/-- An array the program never writes ends as it began. -/
theorem W5_kept (d : Dev nD) (b : Ref sig .tc)
    (h : b ∉ [main_v0, main_v1, main_v2, main_v3, main_v4, main_v5_0, main_v5_1, main_v6, main_v7, main_v8, main_v9, main_v10,
      main_v11, main_v12, main_v13, main_v14, main_v15, main_v16, main_v17, main_v18, main_v19, main_cst, main_v20]) :
    W5 m d (buf b) = m (d, buf b) := by
  simp only [List.mem_cons, List.not_mem_nil, _root_.or_false, not_or] at h
  obtain ⟨h0, h1, h2, h3, h4, h50, h51, h6, h7, h8, h9, h10, h11, h12, h13, h14, h15, h16, h17, h18, h19, hc, h20⟩ := h
  have e5 : W5 m d (buf b) = W4 m d (buf b) :=
    StableHlo.after_of_writes_sub (W := [main_v9, main_v10, main_v11, main_v12, main_v13, main_v14, main_v15, main_v16, main_v17,
      main_v18, main_v19, main_cst, main_v20]) ops3 (W4 m d) (by simp [ops3]) (by simp [h9, h10, h11, h12, h13, h14, h15, h16, h17, h18, h19, hc, h20])
  have e4 : W4 m d (buf b) = W3 m d (buf b) := Function.update_of_ne (StableHlo.devRef_ne_of_ne h8) _ _
  have e3 : W3 m d (buf b) = W2 m d (buf b) :=
    StableHlo.after_of_writes_sub (W := [main_v6, main_v7]) ops2 (W2 m d) (by simp [ops2]) (by simp [h6, h7])
  have e1 : W1 m d (buf b) = W0 m d (buf b) :=
    StableHlo.after_of_writes_sub (W := [main_v0, main_v1, main_v2, main_v3, main_v4]) ops1 (W0 m d) (by simp [ops1])
      (by simp [h0, h1, h2, h3, h4])
  exact e5.trans (e4.trans (e3.trans ((W2_other m d b h50 h51).trans e1)))

/-- What the run says of an array it never writes. -/
theorem kept {r : PUnit × MemSt nD τ sig (Elt F)} (hr : QC m r) (d : Dev nD) (b : Ref sig .tc)
    (h : b ∉ [main_v0, main_v1, main_v2, main_v3, main_v4, main_v5_0, main_v5_1, main_v6, main_v7, main_v8, main_v9, main_v10,
      main_v11, main_v12, main_v13, main_v14, main_v15, main_v16, main_v17, main_v18, main_v19, main_cst, main_v20])
    (hs : (Proc.devRef (τ := τ) .tc b).isScoped = false) :
    r.2.mem (d, buf b) = m (d, buf b) :=
  (hr.1 d _ (mem_uc b hs)).trans (W5_kept m d b h)

/-- The seven arguments end as they began. -/
theorem args_kept {r : PUnit × MemSt nD τ sig (Elt F)} (hr : QC m r) (d : Dev nD) :
    r.2.mem (d, buf main_arg0) = m (d, buf main_arg0) ∧ r.2.mem (d, buf main_arg1) = m (d, buf main_arg1)
    ∧ r.2.mem (d, buf main_arg2) = m (d, buf main_arg2) ∧ r.2.mem (d, buf main_arg3) = m (d, buf main_arg3)
    ∧ r.2.mem (d, buf main_arg4) = m (d, buf main_arg4) ∧ r.2.mem (d, buf main_arg5) = m (d, buf main_arg5)
    ∧ r.2.mem (d, buf main_arg6) = m (d, buf main_arg6) :=
  ⟨kept m hr d _ (by decide) (by decide), kept m hr d _ (by decide) (by decide), kept m hr d _ (by decide) (by decide),
    kept m hr d _ (by decide) (by decide), kept m hr d _ (by decide) (by decide), kept m hr d _ (by decide) (by decide),
    kept m hr d _ (by decide) (by decide)⟩

/-- The kernel over any float values: it ends, its arguments unchanged and its counters at zero. -/
theorem run_frame [∀ e, Nonempty (Elt F e)] (ρ : Dev nD → PrngReg) :
    θ_run (Cert.KernelIdeal.defs (F := F)) (Cert.KernelIdeal.threads (F := F)) ⟨m, fun _ => 0, ρ⟩ fun r => (∀ d : Dev nD,
      r.2.mem (d, buf main_arg0) = m (d, buf main_arg0) ∧ r.2.mem (d, buf main_arg1) = m (d, buf main_arg1)
      ∧ r.2.mem (d, buf main_arg2) = m (d, buf main_arg2) ∧ r.2.mem (d, buf main_arg3) = m (d, buf main_arg3)
      ∧ r.2.mem (d, buf main_arg4) = m (d, buf main_arg4) ∧ r.2.mem (d, buf main_arg5) = m (d, buf main_arg5)
      ∧ r.2.mem (d, buf main_arg6) = m (d, buf main_arg6)) ∧ r.2.sem = fun _ => 0 :=
  (θ_run Cert.KernelIdeal.defs _ _).mono (fun _ h => ⟨fun c => args_kept m h c, h.2⟩) (run_main m ρ)

end Cert.Proof.Launch

namespace Cert.Proof

open Idealize.ShloMosaic Idealize.SL.Sem

/-- The bodies the two printed kernels call are the same, label by label. -/
theorem bodies_eq {F : FTy → Type} [FloatOps F] : @Kernel.defs₀ F _ _ = @KernelIdeal.defs₀ F _ _ := by
  funext p l a
  match p, l, a with
  | .tc, 0, (t, s) => exact rfl
  | .tc, 1, a => exact rfl
  | .scVector c s, 1, _ => exact rfl
  | .scVector c s, 0, _ => exact rfl
  | .scScalar c, 0, _ => exact rfl
  | .scScalar c, 1, _ => exact rfl

/-- So the two body tables are the same. -/
theorem defs_eq {F : FTy → Type} [FloatOps F] : @Kernel.defs F _ _ = @KernelIdeal.defs F _ _ := by
  unfold Kernel.defs KernelIdeal.defs
  exact congrArg (fun d => KernelIdeal.sc.defs (Pipeline.defs KernelIdeal.pcfgs d)) bodies_eq

/-- The kernel on words: the same program, so the same run. -/
theorem frame_kernel : Cert.quiescent_Kernel := fun m ρ _ =>
  (congrArg (fun D => (θ_run D (KernelIdeal.threads (F := Bits)) ⟨m, fun _ => 0, ρ⟩) fun r => (∀ d : Dev KernelIdeal.nD,
      r.2.mem (d, Launch.buf KernelIdeal.main_arg0) = m (d, Launch.buf KernelIdeal.main_arg0)
      ∧ r.2.mem (d, Launch.buf KernelIdeal.main_arg1) = m (d, Launch.buf KernelIdeal.main_arg1)
      ∧ r.2.mem (d, Launch.buf KernelIdeal.main_arg2) = m (d, Launch.buf KernelIdeal.main_arg2)
      ∧ r.2.mem (d, Launch.buf KernelIdeal.main_arg3) = m (d, Launch.buf KernelIdeal.main_arg3)
      ∧ r.2.mem (d, Launch.buf KernelIdeal.main_arg4) = m (d, Launch.buf KernelIdeal.main_arg4)
      ∧ r.2.mem (d, Launch.buf KernelIdeal.main_arg5) = m (d, Launch.buf KernelIdeal.main_arg5)
      ∧ r.2.mem (d, Launch.buf KernelIdeal.main_arg6) = m (d, Launch.buf KernelIdeal.main_arg6)) ∧ r.2.sem = fun _ => 0)
    defs_eq).mpr (Launch.run_frame (F := Bits) m ρ)

/-- The kernel over the real numbers. -/
theorem frame_kernelIdeal : Cert.quiescent_KernelIdeal := fun m ρ _ => Launch.run_frame (F := Ideal) m ρ

/-- The reference: it ends, its arguments unchanged, and it has no semaphores. -/
theorem frame_reference : Cert.quiescent_ReferenceIdeal := fun m ρ _ =>
  (θ_run Cert.ReferenceIdeal.defs _ _).mono
    (fun r h => ⟨fun c => (h c).2.2.2.2, sem_eq_zero_of_no_sems (by decide) r.2⟩) (Cert.ReferenceIdeal.Value.run (F := Ideal) m ρ)

end Cert.Proof

end
-- ==== Proof.Lanes.lean ====
/-
  The reductions over all 32 × 128 lanes, read over the extended reals and the words: seven rotations along 128 lanes, each
  combined with what stood before, leave in every lane the combination of all the lanes.
-/
module

public import proofs.«01_k».proof.Proof.Table
public import Idealize.ShloMosaic.Lib.KernelVsHost
public import Idealize.ShloMosaic.PureOps.Ideal.Laws
public import Mathlib.Data.BitVec

@[expose] public section

noncomputable section

namespace Cert.Proof.TopK

open Cert.KernelIdeal Cert.KernelIdeal.Gen
open Idealize.ShloMosaic Idealize.SL.Sem
open Idealize.ShloMosaic.WordCmp
open scoped BigOperators

/-! ## The rotations -/

/-- A rotation by `n` brings lane `j - n` to lane `j`. -/
theorem rotate_at {α : Type} (n : BitVec 32) (m : Fin 128) (hn : n.toNat = m.val) (y : S1x128.Idx → α) (j : Fin 128) :
    dynamicRotate 1 n none y rotates_S1x128_d1 (ix2 (0 : Fin 1) j) = y (ix2 (0 : Fin 1) (j - m)) := by
  refine dynamicRotate_apply _ _ _ _ _ _ fun b => ?_
  match b with
  | ⟨0, _⟩ => rfl
  | ⟨1, _⟩ =>
    show (j - m).val = (j.val + 128 - n.toNat % 128) % 128
    rw [hn, Fin.sub_def, Nat.mod_eq_of_lt m.isLt]
    show (128 - m.val + j.val) % 128 = _
    congr 1; omega

/-- The multiples of `s` among the lanes. -/
def stride (s : ℕ) : Finset (Fin 128) := Finset.univ.filter fun t => t.val % s = 0

/-- One rotation more: the sum over a set of lanes, and over the set moved by `m`. -/
theorem rotate_sum {M : Type} [AddCommMonoid M] (x y : Fin 128 → M) (A B : Finset (Fin 128)) (m : Fin 128)
    (hy : ∀ i, y i = ∑ t ∈ A, x (i - t)) (hB : B = A ∪ A.image (fun t => m + t)) (hd : Disjoint A (A.image (fun t => m + t))) (i : Fin 128) :
    y i + y (i - m) = ∑ t ∈ B, x (i - t) := by
  rw [hB, Finset.sum_union hd, Finset.sum_image (fun a _ b _ h => add_left_cancel h), hy, hy]
  simp only [sub_sub]

theorem lanes_sum {M : Type} [AddCommMonoid M] (x : S1x128.Idx → M) (z : S1x128.Idx) :
    lanes (fun a b i => a i + b i) x z = ∑ j : Fin 128, x (ix2 (0 : Fin 1) j) := by
  have step (n : BitVec 32) (m : Fin 128) (hn : n.toNat = m.val) (A B : Finset (Fin 128)) (y : S1x128.Idx → M)
      (hy : ∀ i, y (ix2 (0 : Fin 1) i) = ∑ t ∈ A, x (ix2 (0 : Fin 1) (i - t)))
      (hB : B = A ∪ A.image (fun t => m + t)) (hd : Disjoint A (A.image (fun t => m + t))) (i : Fin 128) :
      y (ix2 (0 : Fin 1) i) + dynamicRotate 1 n none y rotates_S1x128_d1 (ix2 (0 : Fin 1) i) = ∑ t ∈ B, x (ix2 (0 : Fin 1) (i - t)) := by
    show y _ + dynamicRotate 1 n none y rotates_S1x128_d1 _ = _
    rw [rotate_at n m hn]
    exact rotate_sum (fun j => x (ix2 (0 : Fin 1) j)) (fun j => y (ix2 (0 : Fin 1) j)) A B m hy hB hd i
  have h0 : ∀ i, x (ix2 (0 : Fin 1) i) = ∑ t ∈ ({0} : Finset (Fin 128)), x (ix2 (0 : Fin 1) (i - t)) := fun i => by
    rw [Finset.sum_singleton, sub_zero]
  let r (n : BitVec 32) (y : S1x128.Idx → M) : S1x128.Idx → M := fun i => y i + dynamicRotate 1 n none y rotates_S1x128_d1 i
  have h64 := step 64#32 64 rfl {0} (stride 64) x h0 (by decide +kernel) (by decide +kernel)
  have h32 := step 32#32 32 rfl (stride 64) (stride 32) (r 64#32 x) h64 (by decide +kernel) (by decide +kernel)
  have h16 := step 16#32 16 rfl (stride 32) (stride 16) (r 32#32 (r 64#32 x)) h32 (by decide +kernel) (by decide +kernel)
  have h8 := step 8#32 8 rfl (stride 16) (stride 8) (r 16#32 (r 32#32 (r 64#32 x))) h16 (by decide +kernel) (by decide +kernel)
  have h4 := step 4#32 4 rfl (stride 8) (stride 4) (r 8#32 (r 16#32 (r 32#32 (r 64#32 x)))) h8 (by decide +kernel) (by decide +kernel)
  have h2 := step 2#32 2 rfl (stride 4) (stride 2) (r 4#32 (r 8#32 (r 16#32 (r 32#32 (r 64#32 x))))) h4 (by decide +kernel) (by decide +kernel)
  have h1 := step 1#32 1 rfl (stride 2) Finset.univ (r 2#32 (r 4#32 (r 8#32 (r 16#32 (r 32#32 (r 64#32 x)))))) h2 (by decide +kernel) (by decide +kernel)
  have hz : z = ix2 (0 : Fin 1) (z 1) := (eq_ix2 z).trans (congrArg (fun a => ix2 a (z 1)) (Subsingleton.elim _ _))
  rw [hz]
  refine (h1 (z 1)).trans ?_
  exact Fintype.sum_equiv (Equiv.subLeft (show Fin 128 from z 1)) _ _ fun t => rfl

/-- For any operation that commutes and associates and has a neutral value: every lane ends with the fold of all lanes. -/
theorem lanes_fold {α : Type} (op : α → α → α) [hc : Std.Commutative op] [ha : Std.Associative op] (e : α) (he : ∀ x, op e x = x)
    (x : S1x128.Idx → α) (z : S1x128.Idx) :
    lanes (fun a b i => op (a i) (b i)) x z = (Finset.univ : Finset (Fin 128)).fold op e (fun j => x (ix2 (0 : Fin 1) j)) := by
  letI : AddCommMonoid α :=
    { add := op, zero := e, add_assoc := ha.assoc, zero_add := he, add_zero := fun x => (hc.comm x e).trans (he x),
      add_comm := hc.comm, nsmul := @nsmulRec α ⟨e⟩ ⟨op⟩, nsmul_zero := fun _ => rfl, nsmul_succ := fun _ _ => rfl }
  exact lanes_sum x z

/-! ## All the lanes, by number -/

/-- The index of lane `n`, row by row. -/
def at32 (n : Fin 4096) : S32x128.Idx := ix2 (⟨n.val / 128, by omega⟩ : Fin 32) (⟨n.val % 128, by omega⟩ : Fin 128)

theorem at32_mk (r : Fin 32) (c : Fin 128) : ix2 r c = at32 ⟨r.val * 128 + c.val, by omega⟩ := by
  unfold at32
  refine (ix2_inj _ _ _ _).2 ⟨Fin.ext ?_, Fin.ext ?_⟩
  · show r.val = (r.val * 128 + c.val) / 128; omega
  · show c.val = (r.val * 128 + c.val) % 128; omega

theorem exists_at32 (i : S32x128.Idx) : ∃ n, i = at32 n := ⟨_, (eq_ix2 i).trans (at32_mk _ _)⟩

theorem at32_inj {m n : Fin 4096} (h : at32 m = at32 n) : m = n := by
  have := (ix2_inj _ _ _ _).1 h
  have h1 : m.val / 128 = n.val / 128 := congrArg Fin.val this.1
  have h2 : m.val % 128 = n.val % 128 := congrArg Fin.val this.2
  exact Fin.ext (by omega)

/-- A row's reduction and then the lanes' is a sum over the lanes by number. -/
theorem sum_at32 {M : Type} [AddCommMonoid M] (f : S32x128.Idx → M) :
    ∑ c : Fin 128, ∑ r : Fin 32, f (ix2 r c) = ∑ n : Fin 4096, f (at32 n) := by
  rw [Finset.sum_comm, ← Fintype.sum_prod_type']
  refine Fintype.sum_equiv (finProdFinEquiv (m := 32) (n := 128)) _ _ fun p => ?_
  rw [at32_mk]
  refine congrArg (fun n => f (at32 n)) (Fin.ext ?_)
  show p.1.val * 128 + p.2.val = p.2.val + 128 * p.1.val
  omega

theorem lin_at (n : Fin 4096) : lin (at32 n) = BitVec.ofNat 32 n.val := by
  unfold lin
  show IntOp.addi (IntOp.muli (iota .tc S32x128 32 [0] iota_S32x128_d0_w32 (at32 n)) 128#32) (iota .tc S32x128 32 [1] iota_S32x128_d1_w32 (at32 n)) = _
  rw [iota_single_apply, iota_single_apply]
  show BitVec.ofNat 32 (n.val / 128) * BitVec.ofNat 32 128 + BitVec.ofNat 32 (n.val % 128) = _
  rw [← BitVec.ofNat_mul, ← BitVec.ofNat_add]
  congr 1; omega

theorem rows_at {α : Type} (x : S1x128.Idx → α) (i : S32x128.Idx) : rows x i = x (ix2 (0 : Fin 1) (i 1)) := by
  unfold rows
  exact broadcastTo_apply _ _ _ _ fun a => by fin_cases a <;> rfl

/-- The source index a row's reduction reads. -/
theorem lift_at (c : Fin 128) (r : Fin 32) : Shape.Reduces.lift reduces_S32x128_S128 (ix1 c) r = ix2 r c := by
  funext a; fin_cases a <;> rfl

theorem cast_at {α : Type} (x : S128.Idx → α) (c : Fin 128) :
    shapeCast S1x128 x shapeCasts_S128_S1x128 (ix2 (0 : Fin 1) c) = x (ix1 c) := by
  refine shapeCast_apply _ _ _ _ ?_
  rw [Shape.rowMajor_val_two, Shape.rowMajor_val_one]; show c.val = 0 * 128 + c.val; omega

/-! ## The four reductions -/

theorem sumF_at (x : FVec Ideal S32x128 .f32) (z : S1x128.Idx) : sumF x z = ∑ n : Fin 4096, (x (at32 n) : EReal) := by
  unfold sumF
  refine (lanes_sum (M := EReal) _ z).trans ((Finset.sum_congr rfl fun c _ => ?_).trans (sum_at32 (M := EReal) x))
  rw [cast_at]
  exact (Ideal.multiReduction_add_single x _ reduces_S32x128_S128 (.inl rfl) rfl (ix1 c)).trans
    (Finset.sum_congr rfl fun r _ => congrArg x (lift_at c r))

theorem bot_f32 : Ideal.ofBits .f32 0xFF800000#32 = ⊥ := by simp [Ideal.ofBits, Ideal.ieee]

/-- The greatest lane: no lane is above it, and some lane holds it. -/
theorem maxF_at (x : FVec Ideal S32x128 .f32) (z : S1x128.Idx) (c : EReal) :
    c ≤ maxF x z ↔ c = ⊥ ∨ ∃ n, c ≤ (x (at32 n) : EReal) := by
  have e : maxF x z = (Finset.univ : Finset (Fin 128)).fold max (⊥ : EReal) fun j =>
      (Finset.univ : Finset (Fin 32)).fold max (⊥ : EReal) fun r => x (ix2 r j) := by
    unfold maxF
    refine (lanes_fold (α := EReal) max ⊥ (fun x => max_eq_right bot_le) _ z).trans (congrArg (Finset.fold max (⊥ : EReal) · Finset.univ) (funext fun c => ?_))
    rw [cast_at]
    refine (Ideal.multiReduction_maximumf_single x _ reduces_S32x128_S128 (.inl rfl) rfl (ix1 c)).trans ?_
    refine (congrArg (fun b => Finset.fold max b (x ∘ Shape.Reduces.lift reduces_S32x128_S128 (ix1 c)) Finset.univ) bot_f32).trans ?_
    exact congrArg (Finset.fold max (⊥ : EReal) · Finset.univ) (funext fun r => congrArg x (lift_at c r))
  rw [e, Finset.le_fold_max]
  simp only [Finset.le_fold_max, le_bot_iff, Finset.mem_univ, true_and]
  constructor
  · rintro (h | ⟨j, h | ⟨r, h⟩⟩)
    · exact .inl h
    · exact .inl h
    · exact .inr ⟨_, (at32_mk r j) ▸ h⟩
  · rintro (h | ⟨n, h⟩)
    · exact .inl h
    · exact .inr ⟨_, .inr ⟨_, h⟩⟩

theorem sumI_at (x : IVec S32x128 32) (z : S1x128.Idx) : sumI x z = ∑ n : Fin 4096, x (at32 n) := by
  unfold sumI
  refine (lanes_sum (M := BitVec 32) _ z).trans ((Finset.sum_congr rfl fun c _ => ?_).trans (sum_at32 (M := BitVec 32) x))
  rw [cast_at]
  refine (multiReductionI_eq_fold .add x 0#32 reduces_S32x128_S128 rfl (ix1 c)).trans ((Shape.Reduces.fold_filter_drop_single _ _ _ _ _).trans ?_)
  exact Finset.sum_congr (M := BitVec 32) rfl fun r _ => congrArg x (lift_at c r)

theorem toInt_minsi (c a b : BitVec 32) : c.toInt ≤ (IntOp.minsi a b).toInt ↔ c.toInt ≤ a.toInt ∧ c.toInt ≤ b.toInt := by
  unfold IntOp.minsi
  simp only [BitVec.slt_eq_decide, decide_eq_true_eq]
  split <;> omega

/-- The least lane of words: a bound below it is a bound below every lane. -/
theorem minI_at (x : IVec S32x128 32) (z : S1x128.Idx) (c : BitVec 32) :
    c.toInt ≤ (minI x z).toInt ↔ ∀ n, c.toInt ≤ (x (at32 n)).toInt := by
  have top (c : BitVec 32) : c.toInt ≤ (2147483647#32).toInt := by
    have h : (2147483647#32).toInt = 2147483647 := by decide
    rw [h, BitVec.toInt_eq_toNat_cond]; split <;> omega
  have he (x : BitVec 32) : IntOp.minsi 2147483647#32 x = x := by
    unfold IntOp.minsi
    simp only [BitVec.slt_eq_decide, decide_eq_true_eq]
    rw [if_neg (by have := top x; omega)]
  have e : minI x z = (Finset.univ : Finset (Fin 128)).fold IntOp.minsi 2147483647#32 fun j =>
      (Finset.univ : Finset (Fin 32)).fold IntOp.minsi 2147483647#32 fun r => x (ix2 r j) := by
    unfold minI
    refine (lanes_fold (α := BitVec 32) IntOp.minsi 2147483647#32 he _ z).trans (congrArg (Finset.fold IntOp.minsi 2147483647#32 · Finset.univ) (funext fun c => ?_))
    rw [cast_at]
    refine (multiReductionI_eq_fold .minsi x _ reduces_S32x128_S128 rfl (ix1 c)).trans ((Shape.Reduces.fold_filter_drop_single _ _ _ _ _).trans ?_)
    exact congrArg (Finset.fold IntOp.minsi 2147483647#32 · Finset.univ) (funext fun r => congrArg x (lift_at c r))
  have fold {ι : Type} [DecidableEq ι] (s : Finset ι) (f : ι → BitVec 32) :
      c.toInt ≤ (s.fold IntOp.minsi 2147483647#32 f).toInt ↔ c.toInt ≤ (2147483647#32).toInt ∧ ∀ i ∈ s, c.toInt ≤ (f i).toInt :=
    Finset.fold_op_rel_iff_and (r := fun a b : BitVec 32 => a.toInt ≤ b.toInt) (fun {a b d} => toInt_minsi a b d)
  rw [e, fold]
  simp only [fold, top, Finset.mem_univ, true_and, forall_true_left]
  constructor
  · intro h n; exact h _ _
  · intro h j r; rw [at32_mk]; exact h _

/-- Where every lane holds a number up to 4096, some lane holds `n` and none holds less, the least is `n`. -/
theorem minI_eq (x : IVec S32x128 32) (z : S1x128.Idx) (v : Fin 4096 → ℕ) (hv : ∀ m, v m ≤ 4096)
    (hx : ∀ m, x (at32 m) = BitVec.ofNat 32 (v m)) (n : ℕ) (hn : ∃ m, v m = n) (hl : ∀ m, n ≤ v m) : minI x z = BitVec.ofNat 32 n := by
  have small (k : ℕ) (hk : k ≤ 4096) : (BitVec.ofNat 32 k).toInt = k := by
    rw [BitVec.toInt_eq_toNat_cond, BitVec.toNat_ofNat, Nat.mod_eq_of_lt (by omega), if_pos (by omega)]
  obtain ⟨m, hm⟩ := hn
  have hn' : n ≤ 4096 := hm ▸ hv m
  refine BitVec.toInt_inj.1 (le_antisymm ?_ ?_)
  · have := (minI_at x z (minI x z)).1 le_rfl m
    rwa [hx, hm] at this
  · refine (minI_at x z _).2 fun k => ?_
    rw [hx, small _ (hv k), small _ hn']
    exact_mod_cast hl k

end Cert.Proof.TopK

end
-- ==== Proof.Select.lean ====
/-
  The selection, as a sort: sixteen rounds of "the greatest lane left, the first where several hold it" pick the first
  sixteen places of the stable sort of the lanes from the greatest down, as long as each pick is above −∞.
-/
module

public import proofs.«01_k».proof.Proof.Lanes
public import Idealize.ShloMosaic.Lib.SortFacts

@[expose] public section

noncomputable section

namespace Cert.Proof.TopK

open Cert.KernelIdeal Cert.KernelIdeal.Gen
open Idealize.ShloMosaic Idealize.SL.Sem
open Idealize.ShloMosaic.WordCmp
open scoped BigOperators

/-! ## A stable sort of positions -/

section Stable
variable {n : ℕ} (B : Fin n → Fin n → Bool)

theorem pairwise_insert (hB : ∀ a b c, B a b = false → B b c = false → B a c = false) (hA : ∀ a b, B a b = true → B b a = false)
    (a : Fin n) (l : List (Fin n)) (hal : ∀ b ∈ l, a < b)
    (hl : l.Pairwise fun b c => B c b = false ∧ (B b c = false → b < c)) :
    (insertBefore B a l).Pairwise fun b c => B c b = false ∧ (B b c = false → b < c) := by
  induction l with
  | nil => exact List.pairwise_singleton _ _
  | cons b l ih =>
    rw [List.pairwise_cons] at hl
    unfold insertBefore
    split
    · rename_i h
      refine List.pairwise_cons.mpr ⟨fun c hc => ?_, ih (fun c hc => hal c (List.mem_cons_of_mem _ hc)) hl.2⟩
      rcases List.mem_cons.mp ((perm_insertBefore B a l).mem_iff.mp hc) with rfl | hc'
      · exact ⟨hA b c h, fun e => absurd (h.symm.trans e) (by decide)⟩
      · exact hl.1 c hc'
    · rename_i h
      have hba : B b a = false := by simpa using h
      refine List.pairwise_cons.mpr ⟨fun c hc => ?_, List.pairwise_cons.mpr hl⟩
      refine ⟨?_, fun _ => hal c hc⟩
      rcases List.mem_cons.mp hc with rfl | hc'
      · exact hba
      · exact hB c b a (hl.1 c hc').1 hba

/-- Of two places the later does not come before the earlier, and where neither comes before the other the earlier is the
    lesser position. -/
theorem sorted_stable (hB : ∀ a b c, B a b = false → B b c = false → B a c = false) (hA : ∀ a b, B a b = true → B b a = false)
    (i j : Fin n) (hij : i < j) : B (sortedFrom B j) (sortedFrom B i) = false
      ∧ (B (sortedFrom B i) (sortedFrom B j) = false → sortedFrom B i < sortedFrom B j) := by
  have hs (l : List (Fin n)) (hl : l.Pairwise (· < ·)) :
      (stableSort B l).Pairwise fun b c => B c b = false ∧ (B b c = false → b < c) := by
    induction l with
    | nil => exact List.Pairwise.nil
    | cons a l ih =>
      rw [List.pairwise_cons] at hl
      unfold stableSort
      exact pairwise_insert B hB hA a _ (fun b hb => hl.1 b ((perm_stableSort B l).mem_iff.mp hb)) (ih hl.2)
  have hp := List.pairwise_iff_get.mp (hs (List.finRange n) (List.pairwise_lt_finRange n))
  exact hp (i.cast (length_sortPositions n B).symm) (j.cast (length_sortPositions n B).symm) hij

end Stable

theorem lt4096 {k : ℕ} (h : k < 16) : k < 4096 := by omega

/-- The lane at place `k` of the stable sort of the lanes from the greatest down. -/
def ranked (f : Fin 4096 → EReal) (k : Fin 4096) : Fin 4096 := sortedFrom (fun a b => decide (f b < f a)) k

section Sorted
variable (f : Fin 4096 → EReal)

theorem ranked_inj {i j : Fin 4096} (h : ranked f i = ranked f j) : i = j := sortedFrom_injective _ h

theorem ranked_sorted (i j : Fin 4096) (hij : i < j) :
    f (ranked f j) ≤ f (ranked f i) ∧ (f (ranked f j) = f (ranked f i) → ranked f i < ranked f j) := by
  have h := sorted_stable (fun a b : Fin 4096 => decide (f b < f a))
    (fun a b c hab hbc => by
      simp only [decide_eq_false_iff_not, not_lt] at *; exact hab.trans hbc)
    (fun a b hab => by
      simp only [decide_eq_true_eq, decide_eq_false_iff_not, not_lt] at *; exact hab.le) i j hij
  simp only [decide_eq_false_iff_not, not_lt] at h
  exact ⟨h.1, fun e => h.2 e.ge⟩

theorem exists_ranked (m : Fin 4096) : ∃ j, m = ranked f j := (sortedFrom_surjective _ m).imp fun _ => Eq.symm

end Sorted

/-! ## A round -/

/-- Lane `n` holds the greatest value, and no lane before it does. -/
def First (p : S32x128.Idx → EReal) (n : Fin 4096) : Prop :=
  ∀ m, p (at32 m) ≤ p (at32 n) ∧ (p (at32 m) = p (at32 n) → n ≤ m)

theorem maxF_first (p : FVec Ideal S32x128 .f32) (n : Fin 4096) (h : First p n) (z : S1x128.Idx) : maxF p z = p (at32 n) := by
  refine le_antisymm ?_ ((maxF_at p z _).2 (.inr ⟨n, le_rfl⟩))
  rcases (maxF_at p z _).1 le_rfl with e | ⟨m, hm⟩
  · exact e.le.trans bot_le
  · exact hm.trans (h m).1

theorem ofBool_eq_one (b : Prop) [Decidable b] : BitVec.ofBool (decide b) = 1#1 ↔ b := by
  by_cases h : b <;> simp [h]

theorem select_ofBool {α : Type} (b : Prop) [Decidable b] (x y : α) :
    Scalar.select (BitVec.ofBool (decide b)) x y = if b then x else y := by
  unfold Scalar.select
  by_cases h : b <;> simp [h]

theorem pick_at (p : FVec Ideal S32x128 .f32) (n : Fin 4096) (h : First p n) (m : Fin 4096) :
    pick p (at32 m) = BitVec.ofBool (decide (m = n)) := by
  have hc (m : Fin 4096) : select (cmpf .oeq p (rows (maxF p))) lin (broadcast S32x128 4096#32) (at32 m)
      = BitVec.ofNat 32 (if p (at32 m) = p (at32 n) then m.val else 4096) := by
    show Scalar.select (Ideal.cmp .oeq (p (at32 m)) (rows (maxF p) (at32 m))) (lin (at32 m)) 4096#32 = _
    rw [rows_at, maxF_first p n h, lin_at]
    unfold Ideal.cmp
    refine (select_ofBool _ _ _).trans ?_
    split <;> rfl
  unfold pick
  show IntOp.cmpi .eq (lin (at32 m)) (rows (minI _) (at32 m)) = _
  rw [rows_at, lin_at, minI_eq _ _ (fun m => if p (at32 m) = p (at32 n) then m.val else 4096) (fun m => by split <;> omega) hc n.val
    ⟨n, if_pos rfl⟩ (fun m => by
      split
      · rename_i e; exact (h m).2 e
      · omega)]
  rw [cmpi_eq_eq]
  congr 1
  exact decide_eq_decide.2 ((ofNat_eq_iff (by omega) (by omega)).trans Fin.ext_iff.symm)

theorem strike_at (p : FVec Ideal S32x128 .f32) (i : S32x128.Idx) :
    strike p i = Scalar.select (pick p i) (⊥ : EReal) (p i : EReal) := by
  unfold strike
  rw [select_at, broadcast_at]
  exact congrArg (fun b : EReal => Scalar.select (pick p i) b (p i : EReal)) bot_f32

theorem left_succ (p : FVec Ideal S32x128 .f32) (k : ℕ) (i : S32x128.Idx) :
    left p (k + 1) i = Scalar.select (pick (left p k) i) (⊥ : EReal) (left p k i : EReal) := strike_at (left p k) i

theorem order_succ (p : FVec Ideal S32x128 .f32) (k : ℕ) (i : S32x128.Idx) :
    order p (k + 1) i = Scalar.select (pick (left p k) i) (BitVec.ofNat 32 k) (order p k i) := rfl

/-! ## The rounds -/

section Rounds
variable (p : FVec Ideal S32x128 .f32)

/-- The lanes by number. -/
def byNum (n : Fin 4096) : EReal := p (at32 n)

/-- The lane round `k` picks. -/
def nth (k : ℕ) (hk : k < 4096) : Fin 4096 := ranked (byNum p) ⟨k, hk⟩

theorem nth_eq_iff (k : ℕ) (hk : k < 4096) (j : Fin 4096) : ranked (byNum p) j = nth p k hk ↔ j.val = k := by
  unfold nth
  exact ⟨fun h => congrArg Fin.val (ranked_inj _ h), fun h => congrArg _ (Fin.ext h)⟩

attribute [local irreducible] ranked at32

variable (hp : ∀ k (hk : k < 16), byNum p (nth p k (lt4096 hk)) ≠ ⊥)
include hp

theorem first_of (k : ℕ) (hk : k < 16)
    (hl : ∀ j, left p k (at32 (ranked (byNum p) j)) = if j.val < k then (⊥ : EReal) else byNum p (ranked (byNum p) j)) :
    First (left p k) (nth p k (by omega)) := by
  intro m
  obtain ⟨j, rfl⟩ := exists_ranked (byNum p) m
  unfold nth
  rw [hl, hl, if_neg (show ¬ ((⟨k, by omega⟩ : Fin 4096).val < k) from lt_irrefl k)]
  by_cases hj : j.val < k
  · rw [if_pos hj]
    exact ⟨bot_le, fun e => absurd e.symm (hp k hk)⟩
  · rw [if_neg hj]
    rcases (not_lt.1 hj).eq_or_lt with e | hlt
    · have : (⟨k, by omega⟩ : Fin 4096) = j := Fin.ext e
      rw [this]; exact ⟨le_rfl, fun _ => le_rfl⟩
    · have hs := ranked_sorted (byNum p) ⟨k, by omega⟩ j hlt
      exact ⟨hs.1, fun e => (hs.2 e).le⟩

/-- Before round `k` the first `k` places of the sort are at −∞, and the rest as they were. -/
theorem left_at (k : ℕ) (hk : k ≤ 16) (j : Fin 4096) :
    left p k (at32 (ranked (byNum p) j)) = if j.val < k then (⊥ : EReal) else byNum p (ranked (byNum p) j) := by
  induction k generalizing j with
  | zero => rw [if_neg (Nat.not_lt_zero _), left, byNum]
  | succ k ih =>
    have ih := ih (by omega)
    rw [left_succ, pick_at _ _ (first_of p hp k (by omega) ih), select_ofBool, ih]
    by_cases hj : j.val < k
    · rw [if_pos hj, if_pos (by omega : j.val < k + 1)]; split <;> rfl
    · by_cases e : j.val = k
      · rw [if_pos ((nth_eq_iff p k _ j).2 e), if_pos (by omega)]
      · rw [if_neg fun h => e ((nth_eq_iff p k _ j).1 h), if_neg hj, if_neg (by omega)]

theorem left_first (k : ℕ) (hk : k < 16) : First (left p k) (nth p k (by omega)) :=
  first_of p hp k hk (left_at p hp k hk.le)

theorem order_at (k : ℕ) (hk : k ≤ 16) (j : Fin 4096) :
    order p k (at32 (ranked (byNum p) j)) = if j.val < k then BitVec.ofNat 32 j.val else 4294967295#32 := by
  induction k with
  | zero => rw [if_neg (Nat.not_lt_zero _), order, broadcast_at]
  | succ k ih =>
    rw [order_succ, pick_at _ _ (left_first p hp k (by omega)), select_ofBool, ih (by omega)]
    by_cases e : j.val = k
    · rw [if_pos ((nth_eq_iff p k _ j).2 e), if_pos (by omega), e]
    · rw [if_neg fun h => e ((nth_eq_iff p k _ j).1 h)]
      by_cases hj : j.val < k
      · rw [if_pos hj, if_pos (by omega)]
      · rw [if_neg hj, if_neg (by omega)]

/-- After all the rounds, round `k`'s mark is on the lane it picked and on no other. -/
theorem hit_at (k : ℕ) (hk : k < 16) (n : Fin 4096) :
    hit (order p 16) (BitVec.ofNat 32 k) (at32 n) = BitVec.ofBool (decide (n = nth p k (by omega))) := by
  obtain ⟨j, rfl⟩ := exists_ranked (byNum p) n
  unfold hit
  rw [cmpi_at, broadcast_at, order_at p hp 16 le_rfl, cmpi_eq_eq]
  congr 1
  refine decide_eq_decide.2 ?_
  rw [nth_eq_iff]
  split
  · exact ofNat_eq_iff (by omega) (by omega)
  · refine ⟨fun h => ?_, fun h => by omega⟩
    have h := congrArg BitVec.toNat h
    rw [BitVec.toNat_ofNat, BitVec.toNat_ofNat] at h
    omega

theorem sLane_at (k : ℕ) (hk : k < 16) (h4 : k < 4096) (z : S1x128.Idx) :
    sLane (order p 16) (BitVec.ofNat 32 k) z = BitVec.ofNat 32 (nth p k h4).val := by
  unfold sLane
  refine minI_eq _ _ (fun m => if m = nth p k h4 then m.val else 4096) (fun m => by split <;> omega) (fun m => ?_) _
    ⟨nth p k h4, if_pos rfl⟩ (fun m => by
      split
      · rename_i e; rw [e]
      · omega)
  show Scalar.select (hit (order p 16) _ (at32 m)) (lin (at32 m)) 4096#32 = _
  rw [hit_at p hp k hk, select_ofBool, lin_at]
  split <;> rfl

theorem sAtt_at (q : FVec Ideal S32x128 .f32) (k : ℕ) (hk : k < 16) (h4 : k < 4096) (z : S1x128.Idx) :
    sAtt q (order p 16) (BitVec.ofNat 32 k) z = q (at32 (nth p k h4)) := by
  unfold sAtt
  refine (sumF_at _ z).trans ?_
  refine (Finset.sum_congr rfl fun m _ => ?_).trans (Finset.sum_ite_eq' Finset.univ (nth p k h4) fun m => (q (at32 m) : EReal)) |>.trans (if_pos (Finset.mem_univ _))
  show Scalar.select (hit (order p 16) _ (at32 m)) (q (at32 m)) (Ideal.ofBits .f32 0x00000000#32) = _
  rw [hit_at p hp k hk, select_ofBool, Ideal.ofBits_zero_f32]

theorem sSel_at (a : IVec S32x128 32) (k : ℕ) (hk : k < 16) (h4 : k < 4096) (z : S1x128.Idx) :
    sSel a (order p 16) (BitVec.ofNat 32 k) z = a (at32 (nth p k h4)) := by
  unfold sSel
  refine (sumI_at _ z).trans ?_
  refine (Finset.sum_congr rfl fun m _ => ?_).trans (Finset.sum_ite_eq' Finset.univ (nth p k h4) fun m => a (at32 m)) |>.trans (if_pos (Finset.mem_univ _))
  show Scalar.select (hit (order p 16) _ (at32 m)) (a (at32 m)) 0#32 = _
  rw [hit_at p hp k hk, select_ofBool]
  rfl

end Rounds

end Cert.Proof.TopK

end
-- ==== Proof.Spec.lean ====
/-
  What the program computes, in one place: each batch's map is made a distribution, its logarithm is perturbed by the noise,
  the sixteen greatest places are drawn, and around each a 64 × 64 patch is cut out of the picture its map number names.
-/
module

public import proofs.«01_k».proof.Proof.Select

@[expose] public section

noncomputable section

namespace Cert.Proof.Spec

open Cert.KernelIdeal
open Idealize.ShloMosaic
open Cert.Proof.TopK (ranked)
open scoped BigOperators

/-- Place `n` of batch `b`'s map, row by row. -/
def cell (b : Fin 4) (n : Fin 4096) : S4x64x64.Idx := ix3 b (⟨n.val / 64, by omega⟩ : Fin 64) (⟨n.val % 64, by omega⟩ : Fin 64)

section
variable (A0 : S4x64x64.Idx → EReal) (A1 : S4x64x64.Idx → BitVec 32) (A6 : S4x4096.Idx → EReal) (b : Fin 4)

/-- The probability of a place. -/
def prob (n : Fin 4096) : EReal := Ideal.div (A0 (cell b n)) (∑ m : Fin 4096, A0 (cell b m))

/-- Its logarithm, perturbed. -/
def noisy (n : Fin 4096) : EReal := Ideal.log (prob A0 b n) + A6 (ix2 b n)

/-- The place drawn `k`-th. -/
def chosen (k : Fin 16) : Fin 4096 := ranked (noisy A0 A6 b) ⟨k.val, by omega⟩

/-- Whether the place drawn `k`-th has map number one: its patch is of the second picture, at twice the resolution. -/
def second (k : Fin 16) : Bool := decide (A1 (cell b (chosen A0 A6 b k)) = 1#32)

/-- The row (`d = 0`) or the column (`d = 1`) of the place drawn `k`-th. -/
def along (k : Fin 16) (d : Fin 2) : Fin 64 :=
  if d = 0 then ⟨(chosen A0 A6 b k).val / 64, by have := (chosen A0 A6 b k).isLt; omega⟩
  else ⟨(chosen A0 A6 b k).val % 64, by omega⟩

end

/-- A patch's first row (or column): the place's, scaled up, less the margin, kept within the picture. -/
def corner (v : ℕ) (two : Bool) : ℕ := min 448 (8 * v - if two then 24 else 28)

theorem corner_le (v : ℕ) (two : Bool) : corner v two ≤ 448 := min_le_left _ _

/-- The place's own coordinate in its map: half where the map number is one. -/
def coord (v : ℕ) (two : Bool) : EReal := if two then ((v : ℝ) / 2 : ℝ) else ((v : ℝ) : EReal)

section
variable (A0 : S4x64x64.Idx → EReal) (A1 : S4x64x64.Idx → BitVec 32) (A4 A5 : S4x512x512x3.Idx → EReal) (A6 : S4x4096.Idx → EReal)

/-- The patches. -/
def patch : S4x16x64x64x3.Idx → EReal := fun z =>
  have b : Fin 4 := z 0
  have k : Fin 16 := z 1
  have y : Fin 64 := z 2
  have x : Fin 64 := z 3
  have two := second A0 A1 A6 b k
  (if two then A5 else A4) (ix4 b
    (⟨corner (along A0 A6 b k 0).val two + y.val, by have := corner_le (along A0 A6 b k 0).val two; omega⟩ : Fin 512)
    (⟨corner (along A0 A6 b k 1).val two + x.val, by have := corner_le (along A0 A6 b k 1).val two; omega⟩ : Fin 512)
    (z 4 : Fin 3))

/-- The probabilities of the places drawn. -/
def attention : S4x16.Idx → EReal := fun z => prob A0 (z 0) (chosen A0 A6 (z 0) (z 1))

/-- The offsets: none. -/
def offsets : S4x16x2.Idx → EReal := fun _ => 0

/-- The places drawn, in their own maps. -/
def samples : S4x16x2.Idx → EReal := fun z => coord (along A0 A6 (z 0) (z 1) (z 2)).val (second A0 A1 A6 (z 0) (z 1))

end

end Cert.Proof.Spec

end
-- ==== Proof.Words.lean ====
/-
  Word arithmetic both programs do on the places drawn: a place's row and column, a patch's corner, indices that are not
  negative; and the same numbers as floats.
-/
module

public import proofs.«01_k».proof.Proof.Spec

@[expose] public section

noncomputable section

namespace Cert.Proof.Words

open Idealize.ShloMosaic
open Cert.Proof.TopK (fdiv ya xa clip at0)
open Cert.Proof.Spec (corner)

/-! ## A place's row and column -/

/-- A word's sign. -/
def sgn (x : BitVec 32) : BitVec 32 := if x = 0 then 0 else if x.msb then -1 else 1

/-- The row, as the reference divides. -/
def refRow (x : BitVec 32) : BitVec 32 :=
  Scalar.select (IntOp.andi (IntOp.cmpi .ne (sgn x) (sgn 64#32)) (IntOp.cmpi .ne (IntOp.remsi .host x 64#32) 0#32))
    (IntOp.subi (IntOp.divsi .host x 64#32) 1#32) (IntOp.divsi .host x 64#32)

/-- The divisor, as the reference guards it against zero. -/
def refSixtyFour : BitVec 32 := Scalar.select (IntOp.cmpi .eq 64#32 0#32) 1#32 64#32

/-- The column, as the reference takes the remainder. -/
def refCol (x : BitVec 32) : BitVec 32 :=
  Scalar.select (IntOp.andi
      (IntOp.cmpi .ne (IntOp.cmpi .slt (IntOp.remsi .host x refSixtyFour) 0#32) (IntOp.cmpi .slt refSixtyFour 0#32))
      (IntOp.cmpi .ne (IntOp.remsi .host x refSixtyFour) 0#32))
    (IntOp.addi (IntOp.remsi .host x refSixtyFour) refSixtyFour) (IntOp.remsi .host x refSixtyFour)

/-- An index counted from the end when negative, as the reference wraps it. -/
def wrap (n : BitVec 32) (x : BitVec 32) : BitVec 32 := Scalar.select (IntOp.cmpi .slt x 0#32) (IntOp.addi x n) x

theorem places : ∀ q r : Fin 64,
    refRow (BitVec.ofNat 32 (q.val * 64 + r.val)) = BitVec.ofNat 32 q.val
      ∧ refCol (BitVec.ofNat 32 (q.val * 64 + r.val)) = BitVec.ofNat 32 r.val
      ∧ fdiv (BitVec.ofNat 32 (q.val * 64 + r.val)) 64#32 = BitVec.ofNat 32 q.val
      ∧ IntOp.subi (BitVec.ofNat 32 (q.val * 64 + r.val)) (IntOp.muli (BitVec.ofNat 32 q.val) 64#32) = BitVec.ofNat 32 r.val
      ∧ wrap 4096#32 (BitVec.ofNat 32 (q.val * 64 + r.val)) = BitVec.ofNat 32 (q.val * 64 + r.val)
      ∧ IntOp.andi (IntOp.cmpi .sge (BitVec.ofNat 32 (q.val * 64 + r.val)) 0#32) (IntOp.cmpi .sle (BitVec.ofNat 32 (q.val * 64 + r.val)) 4095#32) = 1#1 := by
  decide +kernel

/-- A place is its row times 64 and its column. -/
theorem place (n : Fin 4096) : refRow (BitVec.ofNat 32 n.val) = BitVec.ofNat 32 (n.val / 64)
    ∧ refCol (BitVec.ofNat 32 n.val) = BitVec.ofNat 32 (n.val % 64)
    ∧ fdiv (BitVec.ofNat 32 n.val) 64#32 = BitVec.ofNat 32 (n.val / 64)
    ∧ IntOp.subi (BitVec.ofNat 32 n.val) (IntOp.muli (BitVec.ofNat 32 (n.val / 64)) 64#32) = BitVec.ofNat 32 (n.val % 64)
    ∧ wrap 4096#32 (BitVec.ofNat 32 n.val) = BitVec.ofNat 32 n.val
    ∧ IntOp.andi (IntOp.cmpi .sge (BitVec.ofNat 32 n.val) 0#32) (IntOp.cmpi .sle (BitVec.ofNat 32 n.val) 4095#32) = 1#1 := by
  have h := places ⟨n.val / 64, by omega⟩ ⟨n.val % 64, by omega⟩
  have e : n.val / 64 * 64 + n.val % 64 = n.val := by omega
  dsimp only at h
  rw [e] at h
  exact h

/-! ## A patch's corner -/

theorem corners : ∀ v : Fin 64,
    (at0 (BitVec.ofNat 32 v.val) 0#1 = BitVec.ofNat 32 (corner v.val false) ∧ clip (BitVec.ofInt 32 (8 * (v.val : Int) - 28)) = BitVec.ofNat 32 (corner v.val false))
    ∧ at0 (BitVec.ofNat 32 v.val) 1#1 = BitVec.ofNat 32 (corner v.val true) ∧ clip (BitVec.ofInt 32 (8 * (v.val : Int) - 24)) = BitVec.ofNat 32 (corner v.val true) := by
  decide +kernel

theorem at0_eq (v : Fin 64) (two : Bool) : at0 (BitVec.ofNat 32 v.val) (BitVec.ofBool two) = BitVec.ofNat 32 (corner v.val two) := by
  cases two
  · exact (corners v).1.1
  · exact (corners v).2.1

theorem clip_eq (v : Fin 64) (two : Bool) :
    clip (BitVec.ofInt 32 (8 * (v.val : Int) - if two then 24 else 28)) = BitVec.ofNat 32 (corner v.val two) := by
  cases two
  · exact (corners v).1.2
  · exact (corners v).2.2

/-- A corner's words: the parts the kernel splits it into add up to it, and the reference's index is it. -/
theorem parts : ∀ m : Fin 449,
    (ya (BitVec.ofNat 32 m.val)).toNat + (IntOp.subi (BitVec.ofNat 32 m.val) (ya (BitVec.ofNat 32 m.val))).toNat = m.val
    ∧ (xa (BitVec.ofNat 32 m.val)).toNat + (IntOp.subi (BitVec.ofNat 32 m.val) (xa (BitVec.ofNat 32 m.val))).toNat = m.val
    ∧ wrap 512#32 (BitVec.ofNat 32 m.val) = BitVec.ofNat 32 m.val := by
  decide +kernel

/-! ## The floats -/

theorem one_f32 : Ideal.ofBits .f32 0x3F800000#32 = ((1 : ℝ) : EReal) := by
  simp [Ideal.ofBits, Ideal.ieee, -EReal.coe_mul]; norm_num
theorem two_f32 : Ideal.ofBits .f32 0x40000000#32 = ((2 : ℝ) : EReal) := by
  simp [Ideal.ofBits, Ideal.ieee, -EReal.coe_mul]; norm_num
theorem half_f32 : Ideal.ofBits .f32 0x3F000000#32 = ((1 / 2 : ℝ) : EReal) := by
  simp [Ideal.ofBits, Ideal.ieee, -EReal.coe_mul]; norm_num
theorem eight_f32 : Ideal.ofBits .f32 0x41000000#32 = ((8 : ℝ) : EReal) := by
  simp [Ideal.ofBits, Ideal.ieee, -EReal.coe_mul]; norm_num
theorem sixteen_f32 : Ideal.ofBits .f32 0x41800000#32 = ((16 : ℝ) : EReal) := by
  simp [Ideal.ofBits, Ideal.ieee, -EReal.coe_mul]; norm_num
theorem thirtytwo_f32 : Ideal.ofBits .f32 0x42000000#32 = ((32 : ℝ) : EReal) := by
  simp [Ideal.ofBits, Ideal.ieee, -EReal.coe_mul]; norm_num

/-- A small word as a float. -/
theorem toInt_small (v : Fin 64) : ((BitVec.ofNat 32 v.val).toInt : ℝ) = (v.val : ℝ) := by
  have h : (BitVec.ofNat 32 v.val).toInt = v.val := by
    rw [BitVec.toInt_eq_toNat_cond, BitVec.toNat_ofNat, Nat.mod_eq_of_lt (by omega), if_pos (by omega)]
  rw [h]; norm_cast

/-- A small integer as a float, back as a word. -/
theorem fptosi_int (z : Int) (h : -1000 ≤ z) (h' : z ≤ 1000) : Ideal.fptosi 32 (((z : ℝ)) : EReal) = BitVec.ofInt 32 z := by
  unfold Ideal.fptosi
  rw [Ideal.toIntClamped_coe]
  congr 1
  rw [Int.floor_intCast, Int.ceil_intCast, ite_self]
  norm_num
  omega

end Cert.Proof.Words

end
-- ==== Proof.KernelValue.lean ====
/-
  The kernel's value: what its two tables and its patches hold, in the terms of the specification, as long as the sixteen
  places drawn from each batch all have perturbed values above −∞.
-/
module

public import proofs.«01_k».proof.Proof.Words
public import proofs.«01_k».proof.Proof.Run

@[expose] public section

noncomputable section

namespace Cert.Proof.Value

open Cert.KernelIdeal Cert.KernelIdeal.Gen
open Idealize.ShloMosaic
open Idealize.ShloMosaic.WordCmp
open Cert.Proof.TopK Cert.Proof.Spec
open Cert.Proof.Gather (patches pix)
open scoped BigOperators

/-! ## The lists of floats -/

theorem lane0_at {α : Type} (x : S1x128.Idx → α) (z : S1x128.Idx) : lane0 x z = x (lane 0) := by
  unfold lane0
  refine (broadcastTo_apply _ _ _ (ix2 (0 : Fin 1) (0 : Fin 1)) fun a => by fin_cases a <;> rfl).trans ?_
  rw [shapeCast_self]
  exact extractStridedSlice_apply _ _ _ _ _ fun a => by fin_cases a <;> rfl

/-- One sample further, at a lane. -/
theorem put_at {α : Type} (k : ℕ) (hk : k < 16) (x y : S1x128.Idx → α) (j : Fin 128) :
    select (cmpi .eq (iota .tc S1x128 32 [1] iota_S1x128_d1_w32) (broadcast S1x128 (BitVec.ofNat 32 k))) (lane0 x) y (lane j)
      = if j.val = k then x (lane 0) else y (lane j) := by
  have e : iota .tc S1x128 32 [1] iota_S1x128_d1_w32 (lane j) = BitVec.ofNat 32 j.val := iota_single_apply _ _ _ _ _ _
  rw [select_at, cmpi_at, broadcast_at, e, cmpi_eq_eq, lane0_at, TopK.select_ofBool]
  have hi : (BitVec.ofNat 32 j.val = BitVec.ofNat 32 k) ↔ j.val = k := ofNat_eq_iff (by omega) (by omega)
  by_cases h : j.val = k
  · rw [if_pos h, if_pos (hi.2 h)]
  · rw [if_neg h, if_neg (mt hi.1 h)]

/-- Lane `j` of the lists holds sample `j`'s probability, row and column. -/
theorem listF_at (q : FVec Ideal S32x128 .f32) (a ord : IVec S32x128 32) (n : ℕ) (hn : n ≤ 16) (j : Fin 128) (hj : j.val < n) :
    (listF q a ord n).1 (lane j) = sAtt q ord (BitVec.ofNat 32 j.val) (lane 0)
    ∧ (listF q a ord n).2.1 (lane j) = place (F := Ideal) (sRow ord (BitVec.ofNat 32 j.val)) (sOne a ord (BitVec.ofNat 32 j.val)) (lane 0)
    ∧ (listF q a ord n).2.2 (lane j) = place (F := Ideal) (sCol ord (BitVec.ofNat 32 j.val)) (sOne a ord (BitVec.ofNat 32 j.val)) (lane 0) := by
  induction n with
  | zero => exact absurd hj (Nat.not_lt_zero _)
  | succ n ih =>
    have step (x y : S1x128.Idx → EReal) := put_at n (by omega) x y j
    by_cases h : j.val = n
    · subst h
      exact ⟨(step _ _).trans (if_pos rfl), (step _ _).trans (if_pos rfl), (step _ _).trans (if_pos rfl)⟩
    · have i := ih (by omega) (by omega)
      exact ⟨((step _ _).trans (if_neg h)).trans i.1, ((step _ _).trans (if_neg h)).trans i.2.1, ((step _ _).trans (if_neg h)).trans i.2.2⟩

/-- A block's first three rows are the three lists. -/
theorem blockF_at (f : FVec Ideal S1x128 .f32 × FVec Ideal S1x128 .f32 × FVec Ideal S1x128 .f32) (j : Fin 128) :
    blockF f (ix3 (0 : Fin 1) (0 : Fin 4) j) = f.1 (lane j) ∧ blockF f (ix3 (0 : Fin 1) (1 : Fin 4) j) = f.2.1 (lane j)
    ∧ blockF f (ix3 (0 : Fin 1) (2 : Fin 4) j) = f.2.2 (lane j) := by
  have c (r : Fin 4) : blockF f (ix3 (0 : Fin 1) r j) = concatenate S4x128 0 [⟨S1x128, f.1⟩, ⟨S1x128, f.2.1⟩, ⟨S1x128, f.2.2⟩, ⟨S1x128, zeroF⟩]
      concatenates_S1x128_S1x128_S1x128_S1x128_S4x128_d0 (ix2 r j) := by
    unfold blockF
    refine shapeCast_apply _ _ _ _ ?_
    rw [Shape.rowMajor_val_three, Shape.rowMajor_val_two]; show r.val * 128 + j.val = (0 * 4 + r.val) * 128 + j.val; omega
  have hi (r : Fin 4) (a : Fin 2) (ha : a ≠ 0) : ((lane j) a).val = ((ix2 r j : S4x128.Idx) a).val := by
    match a with
    | ⟨0, _⟩ => exact absurd rfl ha
    | ⟨1, _⟩ => rfl
  refine ⟨(c 0).trans ?_, (c 1).trans ?_, (c 2).trans ?_⟩
  · exact concatenate_apply_piece 0 [⟨S1x128, f.1⟩, ⟨S1x128, f.2.1⟩, ⟨S1x128, f.2.2⟩, ⟨S1x128, zeroF⟩] concatenates_S1x128_S1x128_S1x128_S1x128_S4x128_d0 (ix2 (0 : Fin 4) j) 0 (show 0 < 4 by decide) S1x128 f.1 rfl rfl 0 rfl (lane j) (fun a ha => hi 0 a ha) rfl
  · exact concatenate_apply_piece 0 [⟨S1x128, f.1⟩, ⟨S1x128, f.2.1⟩, ⟨S1x128, f.2.2⟩, ⟨S1x128, zeroF⟩] concatenates_S1x128_S1x128_S1x128_S1x128_S4x128_d0 (ix2 (1 : Fin 4) j) 1 (show 1 < 4 by decide) S1x128 f.2.1 rfl rfl 1 rfl (lane j) (fun a ha => hi 1 a ha) rfl
  · exact concatenate_apply_piece 0 [⟨S1x128, f.1⟩, ⟨S1x128, f.2.1⟩, ⟨S1x128, f.2.2⟩, ⟨S1x128, zeroF⟩] concatenates_S1x128_S1x128_S1x128_S1x128_S4x128_d0 (ix2 (2 : Fin 4) j) 2 (show 2 < 4 by decide) S1x128 f.2.2 rfl rfl 2 rfl (lane j) (fun a ha => hi 2 a ha) rfl

/-- A place's coordinate, from its word. -/
theorem place_at (y : IVec S1x128 32) (one : IVec S1x128 1) (v : Fin 64) (two : Bool) (hy : y (lane 0) = BitVec.ofNat 32 v.val)
    (ho : one (lane 0) = BitVec.ofBool two) : place (F := Ideal) y one (lane 0) = coord v.val two := by
  show Scalar.select (one (lane 0)) (Ideal.div (((y (lane 0)).toInt : ℝ) : EReal) (Ideal.ofBits .f32 0x40000000#32)) (((y (lane 0)).toInt : ℝ) : EReal) = _
  rw [hy, ho, Words.toInt_small, Words.two_f32, Ideal.div_coe (by norm_num)]
  cases two
  · show (((v.val : ℤ) : ℝ) : EReal) = ((v.val : ℝ) : EReal)
    norm_num
  · show (((v.val : ℤ) : ℝ) : EReal) * ((1 / 2 : ℝ) : EReal) = (((v.val : ℝ) / 2 : ℝ) : EReal)
    rw [← EReal.coe_mul]
    congr 1
    push_cast
    ring

/-! ## A batch -/

/-- Place `n` of batch `b` in the arrays of blocks. -/
def spot (b : Fin 4) (n : Fin 4096) : S4x32x128.Idx := ix3 b (⟨n.val / 128, by omega⟩ : Fin 32) (⟨n.val % 128, by omega⟩ : Fin 128)

theorem block_at {α : Type} (x : S4x32x128.Idx → α) (b : Fin 4) (n : Fin 4096) :
    shapeCast S32x128 (batch x b) shapeCasts_S1x32x128_S32x128 (at32 n) = x (spot b n) := by
  refine (shapeCast_apply _ _ _ (ix3 (0 : Fin 1) (⟨n.val / 128, by omega⟩ : Fin 32) (⟨n.val % 128, by omega⟩ : Fin 128)) ?_).trans rfl
  unfold at32
  rw [Shape.rowMajor_val_three, Shape.rowMajor_val_two]
  show (0 * 32 + n.val / 128) * 128 + n.val % 128 = n.val / 128 * 128 + n.val % 128
  omega

section Batch
variable (x g : S4x32x128.Idx → EReal) (a : S4x32x128.Idx → BitVec 32)
variable (A0 : S4x64x64.Idx → EReal) (A1 : S4x64x64.Idx → BitVec 32) (A6 : S4x4096.Idx → EReal)

theorem probs_at (hx : ∀ b n, x (spot b n) = A0 (cell b n)) (b : Fin 4) (n : Fin 4096) :
    (probs (F := Ideal) (batch x b) (at32 n) : EReal) = prob A0 b n := by
  have e : probs (F := Ideal) (batch x b) (at32 n) = Ideal.div (shapeCast S32x128 (batch x b) shapeCasts_S1x32x128_S32x128 (at32 n))
      (rows (sumF (F := Ideal) (shapeCast S32x128 (batch x b) shapeCasts_S1x32x128_S32x128)) (at32 n)) := rfl
  rw [e, rows_at, sumF_at, block_at, hx]
  unfold prob
  congr 1
  exact Finset.sum_congr rfl fun m _ => (block_at x b m).trans (hx b m)

theorem pert_at (hx : ∀ b n, x (spot b n) = A0 (cell b n)) (hg : ∀ b n, g (spot b n) = A6 (ix2 b n)) (b : Fin 4) :
    byNum (pert (F := Ideal) (batch x b) (batch g b)) = noisy A0 A6 b := by
  funext n
  have e : byNum (pert (F := Ideal) (batch x b) (batch g b)) n = Ideal.log (probs (F := Ideal) (batch x b) (at32 n))
      + shapeCast S32x128 (batch g b) shapeCasts_S1x32x128_S32x128 (at32 n) := rfl
  rw [e, probs_at x A0 hx, block_at, hg]
  rfl

variable (hx : ∀ b n, x (spot b n) = A0 (cell b n)) (hg : ∀ b n, g (spot b n) = A6 (ix2 b n)) (ha : ∀ b n, a (spot b n) = A1 (cell b n))
variable (hp : ∀ b (k : Fin 16), noisy A0 A6 b (chosen A0 A6 b k) ≠ ⊥) (b : Fin 4) (k : Fin 16)

include hx hg in
theorem nth_eq (hk : k.val < 4096) : nth (pert (F := Ideal) (batch x b) (batch g b)) k.val hk = chosen A0 A6 b k := by
  unfold nth chosen
  rw [pert_at x g A0 A6 hx hg b]

include hx hg hp in
theorem alive (j : ℕ) (hj : j < 16) : byNum (pert (F := Ideal) (batch x b) (batch g b)) (nth (pert (F := Ideal) (batch x b) (batch g b)) j (lt4096 hj)) ≠ ⊥ := by
  rw [nth_eq x g A0 A6 hx hg b ⟨j, hj⟩, pert_at x g A0 A6 hx hg b]
  exact hp b ⟨j, hj⟩

/-- The order in which a batch's places were drawn. -/
abbrev drawn : IVec S32x128 32 := order (pert (F := Ideal) (batch x b) (batch g b)) 16
/-- A batch's map numbers. -/
abbrev maps : IVec S32x128 32 := shapeCast S32x128 (batch a b) shapeCasts_S1x32x128_S32x128

attribute [local irreducible] chosen ranked order pert

include hx hg hp in
theorem lane_at (z : S1x128.Idx) : sLane (drawn x g b) (BitVec.ofNat 32 k.val) z = BitVec.ofNat 32 (chosen A0 A6 b k).val :=
  (sLane_at _ (alive x g A0 A6 hx hg hp b) k.val k.isLt (by omega) z).trans (by rw [nth_eq x g A0 A6 hx hg])

include hx hg hp in
theorem att_at (z : S1x128.Idx) : (sAtt (probs (F := Ideal) (batch x b)) (drawn x g b) (BitVec.ofNat 32 k.val) z : EReal)
    = prob A0 b (chosen A0 A6 b k) :=
  (sAtt_at _ (alive x g A0 A6 hx hg hp b) _ k.val k.isLt (by omega) z).trans (by rw [nth_eq x g A0 A6 hx hg]; exact probs_at x A0 hx b _)

include hx hg ha hp in
theorem sel_at (z : S1x128.Idx) : sSel (maps a b) (drawn x g b) (BitVec.ofNat 32 k.val) z = A1 (cell b (chosen A0 A6 b k)) :=
  (sSel_at _ (alive x g A0 A6 hx hg hp b) _ k.val k.isLt (by omega) z).trans (by rw [nth_eq x g A0 A6 hx hg]; exact (block_at a b _).trans (ha b _))

include hx hg ha hp in
theorem one_at (z : S1x128.Idx) : sOne (maps a b) (drawn x g b) (BitVec.ofNat 32 k.val) z = BitVec.ofBool (second A0 A1 A6 b k) := by
  unfold sOne
  rw [cmpi_at, broadcast_at, sel_at x g a A0 A1 A6 hx hg ha hp, cmpi_eq_eq]
  rfl

include hx hg hp in
theorem row_at (z : S1x128.Idx) : sRow (drawn x g b) (BitVec.ofNat 32 k.val) z = BitVec.ofNat 32 (along A0 A6 b k 0).val := by
  unfold sRow
  rw [floorDiv_apply, lane_at x g A0 A6 hx hg hp]
  exact (Words.place _).2.2.1

include hx hg hp in
theorem col_at (z : S1x128.Idx) : sCol (drawn x g b) (BitVec.ofNat 32 k.val) z = BitVec.ofNat 32 (along A0 A6 b k 1).val := by
  have e : sCol (drawn x g b) (BitVec.ofNat 32 k.val) z
      = IntOp.subi (sLane (drawn x g b) (BitVec.ofNat 32 k.val) z) (IntOp.muli (sRow (drawn x g b) (BitVec.ofNat 32 k.val) z) 64#32) := rfl
  rw [e, lane_at x g A0 A6 hx hg hp, row_at x g A0 A6 hx hg hp]
  exact (Words.place _).2.2.2.1

include hx hg ha hp in
/-- The floats: the probabilities, the rows and the columns of the places drawn. -/
theorem floats_at (j : Fin 128) (hj : j.val = k.val) :
    floats (F := Ideal) x a g (ix3 b (0 : Fin 4) j) = prob A0 b (chosen A0 A6 b k)
    ∧ floats (F := Ideal) x a g (ix3 b (1 : Fin 4) j) = coord (along A0 A6 b k 0).val (second A0 A1 A6 b k)
    ∧ floats (F := Ideal) x a g (ix3 b (2 : Fin 4) j) = coord (along A0 A6 b k 1).val (second A0 A1 A6 b k) := by
  have e (r : Fin 4) : floats (F := Ideal) x a g (ix3 b r j)
      = blockF (listF (probs (F := Ideal) (batch x b)) (maps a b) (drawn x g b) 16) (ix3 (0 : Fin 1) r j) := by
    unfold floats outF; rfl
  have l := listF_at (probs (F := Ideal) (batch x b)) (maps a b) (drawn x g b) 16 le_rfl j (by omega)
  have f := blockF_at (listF (probs (F := Ideal) (batch x b)) (maps a b) (drawn x g b) 16) j
  rw [hj] at l
  refine ⟨(e 0).trans (f.1.trans (l.1.trans ?_)), (e 1).trans (f.2.1.trans (l.2.1.trans ?_)), (e 2).trans (f.2.2.trans (l.2.2.trans ?_))⟩
  · exact att_at x g A0 A6 hx hg hp b k _
  · exact place_at _ _ _ _ (row_at x g A0 A6 hx hg hp b k _) (one_at x g a A0 A1 A6 hx hg ha hp b k _)
  · exact place_at _ _ _ _ (col_at x g A0 A6 hx hg hp b k _) (one_at x g a A0 A1 A6 hx hg ha hp b k _)

include hx hg ha hp in
/-- The words: the corners of the patches, and the map numbers. -/
theorem words_at (r : Fin 64) (hr : r.val = 16 * b.val + k.val) :
    (words (F := Ideal) x a g (ix2 r (0 : Fin 16))).toNat + (words (F := Ideal) x a g (ix2 r (1 : Fin 16))).toNat
      = corner (along A0 A6 b k 0).val (second A0 A1 A6 b k)
    ∧ (words (F := Ideal) x a g (ix2 r (2 : Fin 16))).toNat + (words (F := Ideal) x a g (ix2 r (3 : Fin 16))).toNat
      = corner (along A0 A6 b k 1).val (second A0 A1 A6 b k)
    ∧ words (F := Ideal) x a g (ix2 r (4 : Fin 16)) = A1 (cell b (chosen A0 A6 b k)) := by
  have e (c : Fin 16) : words (F := Ideal) x a g (ix2 r c) = tabI (maps a b) (drawn x g b) 16 (ix2 k c) := by
    have hb : (⟨r.val / 16, by omega⟩ : Fin 4) = b := Fin.ext (by show r.val / 16 = b.val; omega)
    have hk : (⟨r.val % 16, by omega⟩ : Fin 16) = k := Fin.ext (by show r.val % 16 = k.val; omega)
    rw [words_apply, hb, hk]
  have hcorner (v : Fin 64) (two : Bool) := Words.parts ⟨corner v.val two, by have := corner_le v.val two; omega⟩
  have h1 (z : S1x128.Idx) := one_at x g a A0 A1 A6 hx hg ha hp b k z
  have hr' (z : S1x128.Idx) := row_at x g A0 A6 hx hg hp b k z
  have hc (z : S1x128.Idx) := col_at x g A0 A6 hx hg hp b k z
  refine ⟨?_, ?_, ?_⟩
  · rw [e, e, tab0, tab1, h1, h1, hr', hr', Words.at0_eq]
    exact (hcorner _ _).1
  · rw [e, e, tab2, tab3, h1, h1, hc, hc, Words.at0_eq]
    exact (hcorner _ _).2.1
  · rw [e, tab4]
    exact sel_at x g a A0 A1 A6 hx hg ha hp b k _

end Batch

end Cert.Proof.Value

end
-- ==== Proof.RefValue.lean ====
/-
  The reference's results, entry by entry.
-/
module

public import proofs.«01_k».proof.Proof.Spec
public import proofs.«01_k».proof.Proof.Gen.ReferenceIdeal.Run
public import Idealize.ShloMosaic.Lib.IdealHost

@[expose] public section

noncomputable section

namespace Cert.Proof.Ref

open Cert.ReferenceIdeal Cert.ReferenceIdeal.Gen Cert.ReferenceIdeal.Value
open Idealize.ShloMosaic Idealize.SL.Sem Idealize.ShloMosaic.TcCoe
open Idealize.ShloMosaic.WordCmp
open Cert.Proof.Spec
open Cert.Proof.TopK (ranked)
open scoped BigOperators

variable (V : Valuation τ sig (Elt Ideal))

/-- The arguments. -/
abbrev a0 : S4x64x64.Idx → EReal := V (Proc.devRef .tc main_arg0)
abbrev a1 : S4x64x64.Idx → BitVec 32 := V (Proc.devRef .tc main_arg1)
abbrev a4 : S4x512x512x3.Idx → EReal := V (Proc.devRef .tc main_arg4)
abbrev a5 : S4x512x512x3.Idx → EReal := V (Proc.devRef .tc main_arg5)
abbrev a6 : S4x4096.Idx → EReal := V (Proc.devRef .tc main_arg6)

theorem flat_at {α : Type} (x : S4x64x64.Idx → α) (b : Fin 4) (n : Fin 4096) :
    shapeCast S4x4096 x shapeCasts_S4x64x64_S4x4096 (ix2 b n) = x (cell b n) := by
  refine shapeCast_apply _ _ _ _ ?_
  rw [Shape.rowMajor_val_two, Shape.rowMajor_val_three]
  show (b.val * 64 + n.val / 64) * 64 + n.val % 64 = b.val * 4096 + n.val
  omega

theorem v0_at (b : Fin 4) (n : Fin 4096) : res_main_v0 V (ix2 b n) = a0 V (cell b n) := flat_at _ b n

theorem rowReduces : S4x4096.Reduces [1] S4 := by decide +kernel

theorem lift_row (b : Fin 4) (n : Fin 4096) : Shape.Reduces.lift rowReduces (ix1 b) n = ix2 b n := by
  funext a; fin_cases a <;> rfl

/-- A row's sum. -/
theorem rowSum_at (x : S4x4096.Idx → EReal) (b : Fin 4) :
    Host.reduceAdd (F := Ideal) (φ := .f32) x (constant (F := Ideal) S_ .f32 0x00000000#32) reducesTo_S4x4096_S4_d1 h_S_ (ix1 b)
      = ∑ n : Fin 4096, x (ix2 b n) := by
  refine (Ideal.hostReduceAdd_single reducesTo_S4x4096_S4_d1 rowReduces x _ (ix1 b)).trans ?_
  have h0 : (constant (F := Ideal) S_ .f32 0x00000000#32 (Shape.Idx.first h_S_) : EReal) = 0 := Ideal.ofBits_zero_f32
  rw [h0, zero_add]
  exact Finset.sum_congr rfl fun n _ => congrArg x (lift_row b n)

theorem v4_at (b : Fin 4) (n : Fin 4096) : (res_main_v4 V (ix2 b n) : EReal) = prob (a0 V) b n := by
  have e : broadcastInDim S4x4096 ![0, 1] bcast_S4x1_S4x4096_0_1 (broadcastInDim S4x1 ![0] bcast_S4_S4x1_0
      (Host.reduceAdd (F := Ideal) (φ := .f32) (res_main_v0 V) (constant (F := Ideal) S_ .f32 0x00000000#32) reducesTo_S4x4096_S4_d1 h_S_)) (ix2 b n)
      = ∑ m : Fin 4096, a0 V (cell b m) := by
    refine (broadcastInDim_apply _ _ _ _ (ix2 b (0 : Fin 1)) fun a => by fin_cases a <;> rfl).trans ?_
    refine (broadcastInDim_apply _ _ _ _ (ix1 b) fun a => by fin_cases a; rfl).trans ?_
    refine (rowSum_at _ b).trans (Finset.sum_congr rfl fun m _ => v0_at V b m)
  unfold res_main_v4
  simp only [Host.divf, Ideal.hostDivf_def]
  rw [e, v0_at]
  rfl

theorem v7_at (b : Fin 4) (n : Fin 4096) : (res_main_v7 V (ix2 b n) : EReal) = -noisy (a0 V) (a6 V) b n := by
  unfold res_main_v7
  show -(Ideal.log (res_main_v4 V (ix2 b n)) + a6 V (ix2 b n)) = _
  rw [v4_at]
  rfl

/-- The comparator puts the lesser key first. -/
theorem comparator_at (l r : EReal × BitVec 32) : comparator_f32_i32_d1 (F := Ideal) l r = BitVec.ofBool (decide (l.1 < r.1)) := by
  have norm (x : EReal) : Scalar.select (Ideal.cmp .une x x) (Ideal.ofBits .f32 0x7FC00000#32)
      (Scalar.select (Ideal.cmp .oeq x (Ideal.ofBits .f32 0x00000000#32)) (Ideal.ofBits .f32 0x00000000#32) x) = x := by
    unfold Ideal.cmp
    rw [Cert.Proof.TopK.select_ofBool, Cert.Proof.TopK.select_ofBool, if_neg (not_not.2 rfl)]
    split
    · rename_i h; exact h.symm
    · rfl
  have e : comparator_f32_i32_d1 (F := Ideal) l r = Ideal.cmp .olt
      (Scalar.select (Ideal.cmp .une l.1 l.1) (Ideal.ofBits .f32 0x7FC00000#32)
        (Scalar.select (Ideal.cmp .oeq l.1 (Ideal.ofBits .f32 0x00000000#32)) (Ideal.ofBits .f32 0x00000000#32) l.1))
      (Scalar.select (Ideal.cmp .une r.1 r.1) (Ideal.ofBits .f32 0x7FC00000#32)
        (Scalar.select (Ideal.cmp .oeq r.1 (Ideal.ofBits .f32 0x00000000#32)) (Ideal.ofBits .f32 0x00000000#32) r.1)) := rfl
  rw [e, norm l.1, norm r.1]
  rfl

attribute [local irreducible] sortedFrom in
/-- A row sorted from the least key up, its second operand carried along. -/
theorem sort_at (x : S4x4096.Idx → EReal) (y : S4x4096.Idx → BitVec 32) (b : Fin 4) (n : Fin 4096) :
    (Host.sort2 S4x4096 1 (comparator_f32_i32_d1 (F := Ideal)) x y).2 (ix2 b n)
      = y (ix2 b (sortedFrom (fun i j : Fin 4096 => decide (x (ix2 b i) < x (ix2 b j))) n)) := by
  have al (m : Fin 4096) : Shape.Idx.along (s := S4x4096) (ix2 b n) (1 : Fin 2) m = ix2 b m := by
    funext a; fin_cases a <;> rfl
  have hR : (fun i j : Fin 4096 => comparator_f32_i32_d1 (F := Ideal)
        (x (Shape.Idx.along (s := S4x4096) (ix2 b n) (1 : Fin 2) i), y (Shape.Idx.along (s := S4x4096) (ix2 b n) (1 : Fin 2) i))
        (x (Shape.Idx.along (s := S4x4096) (ix2 b n) (1 : Fin 2) j), y (Shape.Idx.along (s := S4x4096) (ix2 b n) (1 : Fin 2) j)) == 1#1)
      = fun i j : Fin 4096 => decide (x (ix2 b i) < x (ix2 b j)) := by
    funext i j
    rw [comparator_at, al, al]
    dsimp only
    cases decide (x (ix2 b i) < x (ix2 b j)) <;> rfl
  unfold Host.sort2
  rw [dif_pos (by decide)]
  exact (congrArg y (al _)).trans (congrArg (fun R => y (ix2 b (sortedFrom R n))) hR)

attribute [local irreducible] sortedFrom ranked in
/-- The place drawn `k`-th, as a word. -/
theorem v9_at (b : Fin 4) (k : Fin 16) : res_main_v9 V (ix2 b k) = BitVec.ofNat 32 (chosen (a0 V) (a6 V) b k).val := by
  unfold res_main_v9
  refine (extractStridedSlice_apply _ _ _ _ (ix2 b (⟨k.val, by omega⟩ : Fin 4096)) fun a => by fin_cases a <;> exact (Nat.zero_add _).symm).trans ?_
  have key (x : S4x4096.Idx → EReal) (hx : ∀ n, x (ix2 b n) = -noisy (a0 V) (a6 V) b n) (n : Fin 4096) :
      sortedFrom (fun i j : Fin 4096 => decide (x (ix2 b i) < x (ix2 b j))) n = ranked (noisy (a0 V) (a6 V) b) n := by
    with_unfolding_all unfold ranked
    refine congrFun (congrArg sortedFrom (funext fun i => funext fun j => ?_)) n
    rw [hx, hx]
    exact decide_eq_decide.2 EReal.neg_lt_neg_iff
  exact (sort_at _ _ b _).trans (congrArg (fun m : Fin 4096 => BitVec.ofNat 32 m.val) (key (res_main_v7 V) (v7_at V b) _))

end Cert.Proof.Ref

end
-- ==== Proof.RefGather.lean ====
/-
  The reference's two gathers, entry by entry: one place of a row, and one window of a picture.
-/
module

public import proofs.«01_k».proof.Proof.Gen.ReferenceIdeal
public import Idealize.ShloMosaic.Lib.Pointwise

@[expose] public section

noncomputable section

namespace Cert.Proof.Ref

open Cert.ReferenceIdeal Cert.ReferenceIdeal.Gen
open Idealize.ShloMosaic

variable {α : Type}

/-- One place of a row, at a start within it. -/
theorem gather_row (x : S4x4096.Idx → α) (idx : IVec S4x16x1 32) (b : Fin 4) (k : Fin 16) (n : Fin 4096)
    (h : idx (ix3 b k (0 : Fin 1)) = BitVec.ofNat 32 n.val) :
    Host.gather gather_S4x4096_S4x16x1_S4x16_n_1_0_0_1_2_11 x idx (ix2 b k) = x (ix2 b n) := by
  unfold Host.gather
  congr 1
  funext a
  refine Fin.ext ?_
  have hn := n.isLt
  have hi : (BitVec.ofNat 32 n.val).toInt.toNat = n.val := by
    rw [BitVec.toInt_eq_toNat_cond, BitVec.toNat_ofNat, Nat.mod_eq_of_lt (by omega), if_pos (by omega)]; rfl
  match a with
  | ⟨0, _⟩ =>
    show 0 + b.val + 0 = b.val
    omega
  | ⟨1, _⟩ =>
    have e : gather_S4x4096_S4x16x1_S4x16_n_1_0_0_1_2_11.siIdx (ix2 b k) ⟨0, by decide⟩ = ix3 b k (0 : Fin 1) := by
      funext c; match c with
      | ⟨0, _⟩ => rfl
      | ⟨1, _⟩ => rfl
      | ⟨2, _⟩ => rfl
    show min (idx (gather_S4x4096_S4x16x1_S4x16_n_1_0_0_1_2_11.siIdx (ix2 b k) ⟨0, by decide⟩)).toInt.toNat (4096 - 1) + 0 + 0 = n.val
    rw [e, h, hi]
    omega

/-- One entry of a window of a picture, at a corner that keeps the window within it. -/
theorem gather_window (x : S4x512x512x3.Idx → α) (idx : IVec S4x16x3 32) (b : Fin 4) (k : Fin 16) (y x' : Fin 64) (c : Fin 3)
    (p q : ℕ) (hp : p ≤ 448) (hq : q ≤ 448)
    (h0 : idx (ix3 b k (0 : Fin 3)) = BitVec.ofNat 32 p) (h1 : idx (ix3 b k (1 : Fin 3)) = BitVec.ofNat 32 q)
    (h2 : idx (ix3 b k (2 : Fin 3)) = 0#32) :
    Host.gather gather_S4x512x512x3_S4x16x3_S4x16x64x64x3_234_n_0_0_123_2_164643 x idx (ix5 b k y x' c)
      = x (ix4 b (⟨p + y.val, by omega⟩ : Fin 512) (⟨q + x'.val, by omega⟩ : Fin 512) c) := by
  unfold Host.gather
  congr 1
  funext a
  refine Fin.ext ?_
  have hi (n : ℕ) (hn : n ≤ 448) : (BitVec.ofNat 32 n).toInt.toNat = n := by
    rw [BitVec.toInt_eq_toNat_cond, BitVec.toNat_ofNat, Nat.mod_eq_of_lt (by omega), if_pos (by omega)]; rfl
  have e (m : Fin 3) : gather_S4x512x512x3_S4x16x3_S4x16x64x64x3_234_n_0_0_123_2_164643.siIdx (ix5 b k y x' c) m = ix3 b k m := by
    funext c; match c with
    | ⟨0, _⟩ => rfl
    | ⟨1, _⟩ => rfl
    | ⟨2, _⟩ => rfl
  match a with
  | ⟨0, _⟩ =>
    show 0 + b.val + 0 = b.val
    omega
  | ⟨1, _⟩ =>
    show min (idx (gather_S4x512x512x3_S4x16x3_S4x16x64x64x3_234_n_0_0_123_2_164643.siIdx (ix5 b k y x' c) (0 : Fin 3))).toInt.toNat (512 - 64) + 0 + y.val = p + y.val
    rw [e, h0, hi p hp]; omega
  | ⟨2, _⟩ =>
    show min (idx (gather_S4x512x512x3_S4x16x3_S4x16x64x64x3_234_n_0_0_123_2_164643.siIdx (ix5 b k y x' c) (1 : Fin 3))).toInt.toNat (512 - 64) + 0 + x'.val = q + x'.val
    rw [e, h1, hi q hq]; omega
  | ⟨3, _⟩ =>
    show min (idx (gather_S4x512x512x3_S4x16x3_S4x16x64x64x3_234_n_0_0_123_2_164643.siIdx (ix5 b k y x' c) (2 : Fin 3))).toInt.toNat (3 - 3) + 0 + c.val = c.val
    omega

end Cert.Proof.Ref

end
-- ==== Proof.RefResults.lean ====
/-
  The reference's four results are the ones specified.
-/
module

public import proofs.«01_k».proof.Proof.RefValue
public import proofs.«01_k».proof.Proof.RefGather
public import proofs.«01_k».proof.Proof.Words

@[expose] public section

noncomputable section

namespace Cert.Proof.Ref

open Cert.ReferenceIdeal Cert.ReferenceIdeal.Gen Cert.ReferenceIdeal.Value
open Idealize.ShloMosaic Idealize.SL.Sem Idealize.ShloMosaic.TcCoe
open Idealize.ShloMosaic.WordCmp
open Cert.Proof.Spec
open scoped BigOperators

attribute [local irreducible] chosen

variable (V : Valuation τ sig (Elt Ideal))

/-! ## The indices into a row -/

/-- A batch's and a draw's entry, with a last axis of one. -/
theorem cast1_at {α : Type} (x : S4x16.Idx → α) (b : Fin 4) (k : Fin 16) :
    shapeCast S4x16x1 x shapeCasts_S4x16_S4x16x1 (ix3 b k (0 : Fin 1)) = x (ix2 b k) := by
  refine shapeCast_apply _ _ _ _ ?_
  rw [Shape.rowMajor_val_two, Shape.rowMajor_val_three]
  show b.val * 16 + k.val = (b.val * 16 + k.val) * 1 + 0
  omega

theorem call1_at (b : Fin 4) (k : Fin 16) : res_main_call1_v5 V (ix3 b k (0 : Fin 1)) = BitVec.ofNat 32 (chosen (a0 V) (a6 V) b k).val := by
  unfold res_main_call1_v5
  refine (cast1_at _ b k).trans ?_
  show Words.wrap 4096#32 (res_main_v9 V (ix2 b k)) = _
  rw [v9_at]
  exact (Words.place _).2.2.2.2.1

theorem call4_at (b : Fin 4) (k : Fin 16) : res_main_call4_v5 V (ix3 b k (0 : Fin 1)) = BitVec.ofNat 32 (chosen (a0 V) (a6 V) b k).val :=
  call1_at V b k

theorem lastReduces : S4x16x1.Reduces [2] S4x16 := by decide +kernel

/-- The check that an index is within its row, for an index that is. -/
theorem within (idx : IVec S4x16x1 32) (b : Fin 4) (k : Fin 16) (n : Fin 4096) (h : idx (ix3 b k (0 : Fin 1)) = BitVec.ofNat 32 n.val) :
    Host.reduce IntOp.andi (andi (cmpi .sge idx (broadcastInDim S4x16x1 ![] bcast_S_S4x16x1 (constantI S_ 32 0#32)))
        (cmpi .sle idx (broadcastInDim S4x16x1 ![0, 1, 2] bcast_S1x1x1_S4x16x1_0_1_2 (broadcastInDim S1x1x1 ![2] bcast_S1_S1x1x1_2 (constantI S1 32 4095#32)))))
      (constantI S_ 1 1#1) reducesTo_S4x16x1_S4x16_d2 h_S_ (ix2 b k) = 1#1 := by
  rw [Host.reduce_eq_fold_single IntOp.andi _ _ reducesTo_S4x16x1_S4x16_d2 lastReduces h_S_]
  have e (m : Fin 1) : Shape.Reduces.lift lastReduces (ix2 b k) m = ix3 b k (0 : Fin 1) := by
    funext a; fin_cases a
    · rfl
    · rfl
    · exact Subsingleton.elim (α := Fin 1) _ _
  show (Finset.univ : Finset (Fin 1)).fold IntOp.andi 1#1 (fun m => _) = 1#1
  rw [Finset.univ_unique, Finset.fold_singleton]
  show IntOp.andi (andi _ _ (Shape.Reduces.lift lastReduces (ix2 b k) (default : Fin 1))) 1#1 = 1#1
  rw [e]
  show IntOp.andi (IntOp.andi (IntOp.cmpi .sge (idx (ix3 b k (0 : Fin 1))) 0#32) (IntOp.cmpi .sle (idx (ix3 b k (0 : Fin 1))) 4095#32)) 1#1 = 1#1
  rw [h, (Words.place n).2.2.2.2.2]
  rfl

/-! ## The map's number -/

theorem v103_at (b : Fin 4) (k : Fin 16) : res_main_v103 V (ix2 b k) = BitVec.ofBool (second (a0 V) (a1 V) (a6 V) b k) := by
  unfold res_main_v103
  rw [cmpi_at, select_at, within _ b k _ (call4_at V b k), gather_row _ _ b k _ (call4_at V b k), flat_at]
  exact cmpi_eq_eq _ _

/-! ## The places -/

/-- A batch's and a draw's entry, spread along a last axis of one. -/
theorem spread1_at {α : Type} (x : S4x16.Idx → α) (b : Fin 4) (k : Fin 16) :
    broadcastInDim S4x16x1 ![0, 1] bcast_S4x16_S4x16x1_0_1 x (ix3 b k (0 : Fin 1)) = x (ix2 b k) :=
  broadcastInDim_apply _ _ _ _ _ fun a => by fin_cases a <;> rfl

/-- Two of them, side by side. -/
theorem pair_at {α : Type} (x y : S4x16x1.Idx → α) (h : Shape.Concatenates [S4x16x1, S4x16x1] S4x16x2 2) (b : Fin 4) (k : Fin 16) (d : Fin 2) :
    concatenate S4x16x2 2 [⟨S4x16x1, x⟩, ⟨S4x16x1, y⟩] h (ix3 b k d) = (if d = 0 then x else y) (ix3 b k (0 : Fin 1)) := by
  match d with
  | ⟨0, _⟩ =>
    refine (concatenate_pair_apply_left 2 x y h _ rfl (ix3 b k (0 : Fin 1)) fun a => ?_).trans ?_
    · match a with
      | ⟨0, _⟩ => rfl
      | ⟨1, _⟩ => rfl
      | ⟨2, _⟩ => rfl
    · rfl
  | ⟨1, _⟩ =>
    refine (concatenate_pair_apply_right 2 x y h _ rfl rfl (ix3 b k (0 : Fin 1)) (fun a ha => ?_) rfl).trans ?_
    · match a with
      | ⟨0, _⟩ => rfl
      | ⟨1, _⟩ => rfl
      | ⟨2, _⟩ => exact absurd rfl ha
    · rfl

theorem v17_at (b : Fin 4) (k : Fin 16) (d : Fin 2) :
    (res_main_v17 V (ix3 b k d) : EReal) = (((along (a0 V) (a6 V) b k d).val : ℝ) : EReal) := by
  have hr : sitofp (F := Ideal) .f32 (fun z => Words.refRow (res_main_v9 V z)) (ix2 b k) = ((((chosen (a0 V) (a6 V) b k).val / 64 : ℕ) : ℝ) : EReal) := by
    show (((Words.refRow (res_main_v9 V (ix2 b k))).toInt : ℝ) : EReal) = _
    rw [v9_at, (Words.place _).1]
    exact congrArg _ (Words.toInt_small ⟨(chosen (a0 V) (a6 V) b k).val / 64, by have := (chosen (a0 V) (a6 V) b k).isLt; omega⟩)
  have hc : sitofp (F := Ideal) .f32 (fun z => Words.refCol (res_main_v9 V z)) (ix2 b k) = ((((chosen (a0 V) (a6 V) b k).val % 64 : ℕ) : ℝ) : EReal) := by
    show (((Words.refCol (res_main_v9 V (ix2 b k))).toInt : ℝ) : EReal) = _
    rw [v9_at, (Words.place _).2.1]
    exact congrArg _ (Words.toInt_small ⟨(chosen (a0 V) (a6 V) b k).val % 64, by omega⟩)
  unfold res_main_v17
  refine (pair_at _ _ _ b k d).trans ?_
  match d with
  | ⟨0, _⟩ => exact (spread1_at _ b k).trans hr
  | ⟨1, _⟩ => exact (spread1_at _ b k).trans hc

theorem v21_at (b : Fin 4) (k : Fin 16) (d : Fin 2) : (res_main_v21 V (ix3 b k d) : EReal) = coord (along (a0 V) (a6 V) b k d).val false := by
  unfold res_main_v21
  show Ideal.div (res_main_v17 V (ix3 b k d)) (Ideal.ofBits .f32 0x3F800000#32) = _
  rw [v17_at, Words.one_f32, Ideal.div_coe one_ne_zero, ← EReal.coe_mul]
  unfold coord
  norm_num

theorem v62_at (b : Fin 4) (k : Fin 16) (d : Fin 2) : (res_main_v62 V (ix3 b k d) : EReal) = coord (along (a0 V) (a6 V) b k d).val true := by
  unfold res_main_v62
  show Ideal.div (res_main_v17 V (ix3 b k d)) (Ideal.ofBits .f32 0x40000000#32) = _
  rw [v17_at, Words.two_f32, Ideal.div_coe two_ne_zero, ← EReal.coe_mul]
  unfold coord
  rw [if_pos rfl]
  congr 1; ring

/-! ## The corners -/

/-- One coordinate of the places. -/
theorem part_at {α : Type} (d : Fin 2) (o : Fin 3 → ℕ) (ho : o = ![0, 0, d.val]) (h : S4x16x2.Slices o S4x16x1) (x : S4x16x2.Idx → α) (b : Fin 4) (k : Fin 16) :
    shapeCast S4x16 (extractStridedSlice S4x16x1 o x h) shapeCasts_S4x16x1_S4x16 (ix2 b k) = x (ix3 b k d) := by
  subst ho
  refine (shapeCast_apply _ _ _ (ix3 b k (0 : Fin 1)) ?_).trans ?_
  · rw [Shape.rowMajor_val_two, Shape.rowMajor_val_three]
    show (b.val * 16 + k.val) * 1 + 0 = b.val * 16 + k.val
    omega
  · exact extractStridedSlice_apply _ _ _ _ _ fun a => by fin_cases a <;> simp

/-- The first map's corner. -/
theorem corner1 (v : Fin 64) : Ideal.fptosi 32 ((coord v.val false + Ideal.ofBits .f32 0x3F000000#32) * Ideal.ofBits .f32 0x41000000#32 - Ideal.ofBits .f32 0x42000000#32)
    = BitVec.ofInt 32 (8 * (v.val : Int) - 28) := by
  have e : ((coord v.val false + Ideal.ofBits .f32 0x3F000000#32) * Ideal.ofBits .f32 0x41000000#32 - Ideal.ofBits .f32 0x42000000#32 : EReal)
      = (((8 * (v.val : Int) - 28 : Int) : ℝ) : EReal) := by
    rw [Words.half_f32, Words.eight_f32, Words.thirtytwo_f32]
    unfold coord
    rw [if_neg (by decide), ← EReal.coe_add, ← EReal.coe_mul, ← EReal.coe_sub]
    congr 1; push_cast; ring
  rw [e]
  exact Words.fptosi_int _ (by omega) (by omega)

/-- The second map's. -/
theorem corner2 (v : Fin 64) : Ideal.fptosi 32 ((coord v.val true + Ideal.ofBits .f32 0x3F000000#32) * Ideal.ofBits .f32 0x41800000#32 - Ideal.ofBits .f32 0x42000000#32)
    = BitVec.ofInt 32 (8 * (v.val : Int) - 24) := by
  have e : ((coord v.val true + Ideal.ofBits .f32 0x3F000000#32) * Ideal.ofBits .f32 0x41800000#32 - Ideal.ofBits .f32 0x42000000#32 : EReal)
      = (((8 * (v.val : Int) - 24 : Int) : ℝ) : EReal) := by
    rw [Words.half_f32, Words.sixteen_f32, Words.thirtytwo_f32]
    unfold coord
    rw [if_pos rfl, ← EReal.coe_add, ← EReal.coe_mul, ← EReal.coe_sub]
    congr 1; push_cast; ring
  rw [e]
  exact Words.fptosi_int _ (by omega) (by omega)

/-- A corner from a coordinate, scaled by `s`. -/
def clipped (s : BitVec 32) (x : FVec Ideal S4x16 .f32) : IVec S4x16 32 :=
  minsi (broadcastInDim S4x16 ![] bcast_S_S4x16 (id (constantI S_ 32 448#32))) (maxsi (broadcastInDim S4x16 ![] bcast_S_S4x16 (id (constantI S_ 32 0#32)))
    (fptosi 32 (subf (mulf (addf x (broadcastInDim S4x16 ![] bcast_S_S4x16 (constant S_ .f32 0x3F000000#32)))
      (broadcastInDim S4x16 ![] bcast_S_S4x16 (constant S_ .f32 s))) (broadcastInDim S4x16 ![] bcast_S_S4x16 (constant S_ .f32 0x42000000#32)))))

theorem clipped1 (x : FVec Ideal S4x16 .f32) (z : S4x16.Idx) (v : Fin 64) (hx : x z = coord v.val false) :
    clipped 0x41000000#32 x z = BitVec.ofNat 32 (corner v.val false) := by
  have e : clipped 0x41000000#32 x z = TopK.clip (Ideal.fptosi 32 (((x z : EReal) + Ideal.ofBits .f32 0x3F000000#32) * Ideal.ofBits .f32 0x41000000#32 - Ideal.ofBits .f32 0x42000000#32)) := rfl
  rw [e, hx, corner1]
  exact Words.clip_eq v false

theorem clipped2 (x : FVec Ideal S4x16 .f32) (z : S4x16.Idx) (v : Fin 64) (hx : x z = coord v.val true) :
    clipped 0x41800000#32 x z = BitVec.ofNat 32 (corner v.val true) := by
  have e : clipped 0x41800000#32 x z = TopK.clip (Ideal.fptosi 32 (((x z : EReal) + Ideal.ofBits .f32 0x3F000000#32) * Ideal.ofBits .f32 0x41800000#32 - Ideal.ofBits .f32 0x42000000#32)) := rfl
  rw [e, hx, corner2]
  exact Words.clip_eq v true

theorem v39_at (b : Fin 4) (k : Fin 16) : res_main_v39 V (ix2 b k) = BitVec.ofNat 32 (corner (along (a0 V) (a6 V) b k 0).val false) :=
  clipped1 _ _ _ ((part_at 0 _ rfl _ _ b k).trans (v21_at V b k 0))

theorem v41_at (b : Fin 4) (k : Fin 16) : res_main_v41 V (ix2 b k) = BitVec.ofNat 32 (corner (along (a0 V) (a6 V) b k 1).val false) :=
  clipped1 _ _ _ ((part_at 1 _ rfl _ _ b k).trans (v21_at V b k 1))

theorem v80_at (b : Fin 4) (k : Fin 16) : res_main_v80 V (ix2 b k) = BitVec.ofNat 32 (corner (along (a0 V) (a6 V) b k 0).val true) :=
  clipped2 _ _ _ ((part_at 0 _ rfl _ _ b k).trans (v62_at V b k 0))

theorem v82_at (b : Fin 4) (k : Fin 16) : res_main_v82 V (ix2 b k) = BitVec.ofNat 32 (corner (along (a0 V) (a6 V) b k 1).val true) :=
  clipped2 _ _ _ ((part_at 1 _ rfl _ _ b k).trans (v62_at V b k 1))

/-! ## The results -/

/-- A patch's start in a picture, from its first rows and columns. -/
def starts (p q : IVec S4x16 32) : IVec S4x16x3 32 :=
  concatenate S4x16x3 2 [⟨S4x16x1, broadcastInDim S4x16x1 ![0, 1] bcast_S4x16_S4x16x1_0_1
      (select (cmpi .slt p (broadcastInDim S4x16 ![] bcast_S_S4x16 (constantI S_ 32 0#32))) (addi p (broadcastInDim S4x16 ![] bcast_S_S4x16 (constantI S_ 32 512#32))) p)⟩,
    ⟨S4x16x1, broadcastInDim S4x16x1 ![0, 1] bcast_S4x16_S4x16x1_0_1
      (select (cmpi .slt q (broadcastInDim S4x16 ![] bcast_S_S4x16 (constantI S_ 32 0#32))) (addi q (broadcastInDim S4x16 ![] bcast_S_S4x16 (constantI S_ 32 512#32))) q)⟩,
    ⟨S4x16x1, broadcastInDim S4x16x1 ![1, 2] bcast_S16x1_S4x16x1_1_2 (broadcastInDim S16x1 ![] bcast_S_S16x1
      (select (cmpi .slt (constantI S_ 32 0#32) (constantI S_ 32 0#32)) (addi (constantI S_ 32 0#32) (constantI S_ 32 3#32)) (constantI S_ 32 0#32)))⟩]
    concatenates_S4x16x1_S4x16x1_S4x16x1_S4x16x3_d2

/-- Three entries side by side. -/
theorem triple_at {α : Type} (x y w : S4x16x1.Idx → α) (h : Shape.Concatenates [S4x16x1, S4x16x1, S4x16x1] S4x16x3 2) (b : Fin 4) (k : Fin 16) :
    concatenate S4x16x3 2 [⟨S4x16x1, x⟩, ⟨S4x16x1, y⟩, ⟨S4x16x1, w⟩] h (ix3 b k (0 : Fin 3)) = x (ix3 b k (0 : Fin 1))
    ∧ concatenate S4x16x3 2 [⟨S4x16x1, x⟩, ⟨S4x16x1, y⟩, ⟨S4x16x1, w⟩] h (ix3 b k (1 : Fin 3)) = y (ix3 b k (0 : Fin 1))
    ∧ concatenate S4x16x3 2 [⟨S4x16x1, x⟩, ⟨S4x16x1, y⟩, ⟨S4x16x1, w⟩] h (ix3 b k (2 : Fin 3)) = w (ix3 b k (0 : Fin 1)) := by
  have hi (m : Fin 3) (a : Fin 3) (ha : a ≠ 2) : ((ix3 b k (0 : Fin 1) : S4x16x1.Idx) a).val = ((ix3 b k m : S4x16x3.Idx) a).val := by
    match a with
    | ⟨0, _⟩ => rfl
    | ⟨1, _⟩ => rfl
    | ⟨2, _⟩ => exact absurd rfl ha
  refine ⟨?_, ?_, ?_⟩
  · exact concatenate_apply_piece 2 [⟨S4x16x1, x⟩, ⟨S4x16x1, y⟩, ⟨S4x16x1, w⟩] h _ 0 (show 0 < 3 by decide) S4x16x1 x rfl rfl 0 rfl (ix3 b k (0 : Fin 1)) (fun a ha => hi 0 a ha) rfl
  · exact concatenate_apply_piece 2 [⟨S4x16x1, x⟩, ⟨S4x16x1, y⟩, ⟨S4x16x1, w⟩] h _ 1 (show 1 < 3 by decide) S4x16x1 y rfl rfl 1 rfl (ix3 b k (0 : Fin 1)) (fun a ha => hi 1 a ha) rfl
  · exact concatenate_apply_piece 2 [⟨S4x16x1, x⟩, ⟨S4x16x1, y⟩, ⟨S4x16x1, w⟩] h _ 2 (show 2 < 3 by decide) S4x16x1 w rfl rfl 2 rfl (ix3 b k (0 : Fin 1)) (fun a ha => hi 2 a ha) rfl

/-- A window of a picture, from its corner. -/
theorem window_at (x : S4x512x512x3.Idx → EReal) (p q : IVec S4x16 32) (b : Fin 4) (k : Fin 16) (y x' : Fin 64) (c : Fin 3)
    (v w : ℕ) (two : Bool) (hp : p (ix2 b k) = BitVec.ofNat 32 (corner v two)) (hq : q (ix2 b k) = BitVec.ofNat 32 (corner w two)) :
    Host.gather gather_S4x512x512x3_S4x16x3_S4x16x64x64x3_234_n_0_0_123_2_164643 x (starts p q) (ix5 b k y x' c)
      = x (ix4 b (⟨corner v two + y.val, by have := corner_le v two; omega⟩ : Fin 512)
          (⟨corner w two + x'.val, by have := corner_le w two; omega⟩ : Fin 512) c) := by
  have hw (v : ℕ) : Words.wrap 512#32 (BitVec.ofNat 32 (corner v two)) = BitVec.ofNat 32 (corner v two) :=
    (Words.parts ⟨corner v two, by have := corner_le v two; omega⟩).2.2
  refine gather_window x _ b k y x' c _ _ (corner_le v two) (corner_le w two) ?_ ?_ ?_
  · refine (triple_at _ _ _ _ b k).1.trans ((spread1_at _ b k).trans ?_)
    show Words.wrap 512#32 (p (ix2 b k)) = _
    rw [hp, hw]
  · refine (triple_at _ _ _ _ b k).2.1.trans ((spread1_at _ b k).trans ?_)
    show Words.wrap 512#32 (q (ix2 b k)) = _
    rw [hq, hw]
  · refine (triple_at _ _ _ _ b k).2.2.trans ?_
    rfl

theorem result1 :
    select (broadcastInDim S4x16x64x64x3 ![0, 1, 2, 3, 4] bcast_S4x16x1x1x1_S4x16x64x64x3_0_1_2_3_4
        (broadcastInDim S4x16x1x1x1 ![0, 1] bcast_S4x16_S4x16x1x1x1_0_1 (res_main_v103 V)))
      (Host.gather gather_S4x512x512x3_S4x16x3_S4x16x64x64x3_234_n_0_0_123_2_164643 (a5 V) (starts (res_main_v80 V) (res_main_v82 V)))
      (Host.gather gather_S4x512x512x3_S4x16x3_S4x16x64x64x3_234_n_0_0_123_2_164643 (a4 V) (starts (res_main_v39 V) (res_main_v41 V)))
    = patch (a0 V) (a1 V) (a4 V) (a5 V) (a6 V) := by
  funext (z : S4x16x64x64x3.Idx)
  obtain ⟨b, k, y, x, c, rfl⟩ : ∃ (b : Fin 4) (k : Fin 16) (y x : Fin 64) (c : Fin 3), z = ix5 b k y x c := ⟨_, _, _, _, _, eq_ix5 z⟩
  rw [select_at, window_at _ _ _ b k y x c _ _ true (v80_at V b k) (v82_at V b k), window_at _ _ _ b k y x c _ _ false (v39_at V b k) (v41_at V b k)]
  have e : broadcastInDim S4x16x64x64x3 ![0, 1, 2, 3, 4] bcast_S4x16x1x1x1_S4x16x64x64x3_0_1_2_3_4
      (broadcastInDim S4x16x1x1x1 ![0, 1] bcast_S4x16_S4x16x1x1x1_0_1 (res_main_v103 V)) (ix5 b k y x c) = BitVec.ofBool (second (a0 V) (a1 V) (a6 V) b k) := by
    refine (broadcastInDim_apply _ _ _ _ (ix5 b k (0 : Fin 1) (0 : Fin 1) (0 : Fin 1)) fun a => by fin_cases a <;> rfl).trans ?_
    refine (broadcastInDim_apply _ _ _ _ (ix2 b k) fun a => by fin_cases a <;> rfl).trans ?_
    exact v103_at V b k
  have key (v w : ℕ) (two : Bool) :
      Scalar.select (BitVec.ofBool two)
        (a5 V (ix4 b (⟨corner v true + y.val, by have := corner_le v true; omega⟩ : Fin 512) (⟨corner w true + x.val, by have := corner_le w true; omega⟩ : Fin 512) c))
        (a4 V (ix4 b (⟨corner v false + y.val, by have := corner_le v false; omega⟩ : Fin 512) (⟨corner w false + x.val, by have := corner_le w false; omega⟩ : Fin 512) c))
      = (if two then a5 V else a4 V)
        (ix4 b (⟨corner v two + y.val, by have := corner_le v two; omega⟩ : Fin 512) (⟨corner w two + x.val, by have := corner_le w two; omega⟩ : Fin 512) c) := by
    cases two <;> rfl
  rw [e]
  exact key _ _ _

theorem result2 :
    select (Host.reduce IntOp.andi (andi (cmpi .sge (res_main_call1_v5 V) (broadcastInDim S4x16x1 ![] bcast_S_S4x16x1 (constantI S_ 32 0#32)))
        (cmpi .sle (res_main_call1_v5 V) (broadcastInDim S4x16x1 ![0, 1, 2] bcast_S1x1x1_S4x16x1_0_1_2 (broadcastInDim S1x1x1 ![2] bcast_S1_S1x1x1_2 (constantI S1 32 4095#32)))))
      (constantI S_ 1 1#1) reducesTo_S4x16x1_S4x16_d2 h_S_)
      (Host.gather gather_S4x4096_S4x16x1_S4x16_n_1_0_0_1_2_11 (res_main_v4 V) (res_main_call1_v5 V))
      (broadcastInDim S4x16 ![] bcast_S_S4x16 (constant (F := Ideal) S_ .f32 0x7FC00000#32))
    = attention (a0 V) (a6 V) := by
  funext (z : S4x16.Idx)
  obtain ⟨b, k, rfl⟩ : ∃ (b : Fin 4) (k : Fin 16), z = ix2 b k := ⟨_, _, eq_ix2 z⟩
  rw [select_at, within _ b k _ (call1_at V b k), gather_row _ _ b k _ (call1_at V b k)]
  exact v4_at V b _

theorem result3 : broadcastInDim S4x16x2 ![] bcast_S_S4x16x2 (constant (F := Ideal) S_ .f32 0x00000000#32) = offsets := by
  funext z
  exact Ideal.ofBits_zero_f32

theorem result4 :
    select (broadcastInDim S4x16x2 ![0, 1, 2] bcast_S4x16x1_S4x16x2_0_1_2 (broadcastInDim S4x16x1 ![0, 1] bcast_S4x16_S4x16x1_0_1 (res_main_v103 V)))
      (res_main_v62 V) (res_main_v21 V)
    = samples (a0 V) (a1 V) (a6 V) := by
  funext (z : S4x16x2.Idx)
  obtain ⟨b, k, d, rfl⟩ : ∃ (b : Fin 4) (k : Fin 16) (d : Fin 2), z = ix3 b k d := ⟨_, _, _, eq_ix3 z⟩
  have e : broadcastInDim S4x16x2 ![0, 1, 2] bcast_S4x16x1_S4x16x2_0_1_2 (broadcastInDim S4x16x1 ![0, 1] bcast_S4x16_S4x16x1_0_1 (res_main_v103 V)) (ix3 b k d)
      = BitVec.ofBool (second (a0 V) (a1 V) (a6 V) b k) := by
    refine (broadcastInDim_apply _ _ _ _ (ix3 b k (0 : Fin 1)) fun a => by fin_cases a <;> rfl).trans ?_
    exact (spread1_at _ b k).trans (v103_at V b k)
  rw [select_at, e, v62_at, v21_at]
  show _ = coord (along (a0 V) (a6 V) b k d).val (second (a0 V) (a1 V) (a6 V) b k)
  generalize second (a0 V) (a1 V) (a6 V) b k = two
  cases two <;> rfl

end Cert.Proof.Ref

end
-- ==== Proof.KernelResults.lean ====
/-
  The kernel's four results, read back through the operations around its two calls.
-/
module

public import proofs.«01_k».proof.Proof.KernelValue
public import proofs.«01_k».proof.Proof.RefResults

@[expose] public section

noncomputable section

namespace Cert.Proof.Value

open Cert.KernelIdeal Cert.KernelIdeal.Gen
open Idealize.ShloMosaic
open Idealize.ShloMosaic.StableHlo (after)
open Idealize.ShloMosaic.WordCmp
open Cert.Proof.TopK Cert.Proof.Spec Cert.Proof.Launch
open Cert.Proof.Gather (patches pix)

/-! ## The operations before the first call -/

theorem spot_of_place {α : Type} (A : S4x4096.Idx → α) (b : Fin 4) (n : Fin 4096) :
    shapeCast S4x32x128 A shapeCasts_S4x4096_S4x32x128 (spot b n) = A (ix2 b n) := by
  refine shapeCast_apply _ _ _ _ ?_
  unfold spot
  rw [Shape.rowMajor_val_three, Shape.rowMajor_val_two]
  show b.val * 4096 + n.val = (b.val * 32 + n.val / 128) * 128 + n.val % 128
  omega

theorem spot_of_cell {α : Type} (A : S4x64x64.Idx → α) (b : Fin 4) (n : Fin 4096) :
    shapeCast S4x32x128 (shapeCast S4x4096 A shapeCasts_S4x64x64_S4x4096) shapeCasts_S4x4096_S4x32x128 (spot b n) = A (cell b n) := by
  rw [spot_of_place]
  refine shapeCast_apply _ _ _ _ ?_
  unfold cell
  rw [Shape.rowMajor_val_three, Shape.rowMajor_val_two]
  show (b.val * 64 + n.val / 64) * 64 + n.val % 64 = b.val * 4096 + n.val
  omega

variable (m : (ℓ : Loc nD τ sig) → Buf (Elt Ideal) ℓ) (d : Dev nD)

/-- The arguments. -/
abbrev A0 : S4x64x64.Idx → EReal := m (d, buf main_arg0)
abbrev A1 : S4x64x64.Idx → BitVec 32 := m (d, buf main_arg1)
abbrev A4 : S4x512x512x3.Idx → EReal := m (d, buf main_arg4)
abbrev A5 : S4x512x512x3.Idx → EReal := m (d, buf main_arg5)
abbrev A6 : S4x4096.Idx → EReal := m (d, buf main_arg6)

theorem W1_v2 : W1 m d (buf main_v2) = shapeCast S4x32x128 (shapeCast S4x4096 (A0 m d) shapeCasts_S4x64x64_S4x4096) shapeCasts_S4x4096_S4x32x128 := by
  unfold W1 ops1
  after_results_simp
  rfl
theorem W1_v3 : W1 m d (buf main_v3) = shapeCast S4x32x128 (shapeCast S4x4096 (A1 m d) shapeCasts_S4x64x64_S4x4096) shapeCasts_S4x4096_S4x32x128 := by
  unfold W1 ops1
  after_results_simp
  rfl
theorem W1_v4 : W1 m d (buf main_v4) = shapeCast S4x32x128 (A6 m d) shapeCasts_S4x4096_S4x32x128 := by
  unfold W1 ops1
  after_results_simp
  rfl
theorem W1_arg (b : Ref sig .tc) (h : b ∉ [main_v0, main_v1, main_v2, main_v3, main_v4]) : W1 m d (buf b) = m (d, buf b) :=
  StableHlo.after_of_writes_sub (W := [main_v0, main_v1, main_v2, main_v3, main_v4]) ops1 (W0 m d) (by simp [ops1]) h

/-! ## The operations between the calls -/

/-- The pictures, channels first. -/
theorem pic0_eq : pic0 m d = transpose S4x3x512x512 [0, 3, 1, 2] (A4 m d) transposes_S4x512x512x3_S4x3x512x512_0_3_1_2 := by
  unfold pic0 W3 ops2
  after_results_simp
  rw [W2_other m d main_arg4 (by decide) (by decide), W1_arg m d main_arg4 (by decide)]
theorem pic1_eq : pic1 m d = transpose S4x3x512x512 [0, 3, 1, 2] (A5 m d) transposes_S4x512x512x3_S4x3x512x512_0_3_1_2 := by
  unfold pic1 W3 ops2
  after_results_simp
  rw [W2_other m d main_arg5 (by decide) (by decide), W1_arg m d main_arg5 (by decide)]

theorem pic_at (A : S4x512x512x3.Idx → EReal) (b : Fin 4) (c : Fin 3) (y x : ℕ) (hy : y < 512) (hx : x < 512) :
    transpose S4x3x512x512 [0, 3, 1, 2] A transposes_S4x512x512x3_S4x3x512x512_0_3_1_2 (pix b.val c.val y x)
      = A (ix4 b (⟨y, hy⟩ : Fin 512) (⟨x, hx⟩ : Fin 512) c) := by
  refine transpose_apply _ _ _ _ _ fun a => ?_
  match a with
  | ⟨0, _⟩ => exact (Nat.mod_eq_of_lt b.isLt).symm
  | ⟨1, _⟩ => exact (Nat.mod_eq_of_lt c.isLt).symm
  | ⟨2, _⟩ => exact (Nat.mod_eq_of_lt hy).symm
  | ⟨3, _⟩ => exact (Nat.mod_eq_of_lt hx).symm

theorem W4_floats : W4 m d (buf main_v5_0) = floatsOf m d :=
  (W4_other m d _ (StableHlo.devRef_ne_of_ne (by decide))).trans
    ((StableHlo.after_of_writes_sub (W := [main_v6, main_v7]) ops2 (W2 m d) (by simp [ops2]) (by decide)).trans (W2_floats m d))

/-! ## The tables -/

variable (hp : ∀ b (k : Fin 16), noisy (A0 m d) (A6 m d) b (chosen (A0 m d) (A6 m d) b k) ≠ ⊥)

attribute [local irreducible] chosen floats words

include hp in
theorem floatsOf_at (b : Fin 4) (k : Fin 16) (j : Fin 128) (hj : j.val = k.val) :
    floatsOf m d (ix3 b (0 : Fin 4) j) = prob (A0 m d) b (chosen (A0 m d) (A6 m d) b k)
    ∧ floatsOf m d (ix3 b (1 : Fin 4) j) = coord (along (A0 m d) (A6 m d) b k 0).val (second (A0 m d) (A1 m d) (A6 m d) b k)
    ∧ floatsOf m d (ix3 b (2 : Fin 4) j) = coord (along (A0 m d) (A6 m d) b k 1).val (second (A0 m d) (A1 m d) (A6 m d) b k) := by
  unfold floatsOf
  rw [W1_v2, W1_v3, W1_v4]
  exact floats_at _ _ _ (A0 m d) (A1 m d) (A6 m d) (fun b n => spot_of_cell _ b n) (fun b n => spot_of_place _ b n) (fun b n => spot_of_cell _ b n) hp b k j hj

include hp in
theorem tabOf_at (b : Fin 4) (k : Fin 16) (r : Fin 64) (hr : r.val = 16 * b.val + k.val) :
    (tabOf m d (ix2 r (0 : Fin 16))).toNat + (tabOf m d (ix2 r (1 : Fin 16))).toNat
      = corner (along (A0 m d) (A6 m d) b k 0).val (second (A0 m d) (A1 m d) (A6 m d) b k)
    ∧ (tabOf m d (ix2 r (2 : Fin 16))).toNat + (tabOf m d (ix2 r (3 : Fin 16))).toNat
      = corner (along (A0 m d) (A6 m d) b k 1).val (second (A0 m d) (A1 m d) (A6 m d) b k)
    ∧ tabOf m d (ix2 r (4 : Fin 16)) = (A1 m d) (cell b (chosen (A0 m d) (A6 m d) b k)) := by
  rw [tabOf_eq]
  unfold wordsOf
  rw [W1_v2, W1_v3, W1_v4]
  exact words_at _ _ _ (A0 m d) (A1 m d) (A6 m d) (fun b n => spot_of_cell _ b n) (fun b n => spot_of_place _ b n) (fun b n => spot_of_cell _ b n) hp b k r hr

/-! ## The results -/

theorem W5_v10 : W5 m d (buf main_v10) = transpose S4x16x64x64x3 [0, 1, 3, 4, 2]
    (shapeCast S4x16x3x64x64 (patches (F := Ideal) (tabOf m d) (pic0 m d) (pic1 m d)) shapeCasts_S64x3x64x64_S4x16x3x64x64)
    transposes_S4x16x3x64x64_S4x16x64x64x3_0_1_3_4_2 := by
  rw [← W4_out]
  unfold W5 ops3
  after_results_simp
  rfl

/-- Row `r` of the floats, sixteen lanes of it. -/
theorem W5_v12 : W5 m d (buf main_v12) = shapeCast S4x16 (extractStridedSlice S4x1x16 ![0, 0, 0] (floatsOf m d) slices_S4x4x128_S4x1x16_0_0_0) shapeCasts_S4x1x16_S4x16 := by
  rw [← W4_floats]
  unfold W5 ops3
  after_results_simp
  rfl

theorem W5_v19 : W5 m d (buf main_v19) = concatenate S4x16x2 2
    [⟨S4x16x1, broadcastInDim S4x16x1 ![0, 1] bcast_S4x16_S4x16x1_0_1
      (shapeCast S4x16 (extractStridedSlice S4x1x16 ![0, 1, 0] (floatsOf m d) slices_S4x4x128_S4x1x16_0_1_0) shapeCasts_S4x1x16_S4x16)⟩,
     ⟨S4x16x1, broadcastInDim S4x16x1 ![0, 1] bcast_S4x16_S4x16x1_0_1
      (shapeCast S4x16 (extractStridedSlice S4x1x16 ![0, 2, 0] (floatsOf m d) slices_S4x4x128_S4x1x16_0_2_0) shapeCasts_S4x1x16_S4x16)⟩]
    concatenates_S4x16x1_S4x16x1_S4x16x2_d2 := by
  rw [← W4_floats]
  unfold W5 ops3
  after_results_simp
  rfl

theorem W5_v20 : W5 m d (buf main_v20) = offsets := by
  have e : W5 m d (buf main_v20) = broadcastInDim S4x16x2 ![] bcast_S_S4x16x2 (constant (F := Ideal) S_ .f32 0x00000000#32) := by
    unfold W5 ops3
    after_results_simp
  rw [e]
  funext z
  exact Ideal.ofBits_zero_f32

theorem flatten_at (f : S4x1x16.Idx → EReal) (b : Fin 4) (k : Fin 16) :
    shapeCast S4x16 f shapeCasts_S4x1x16_S4x16 (ix2 b k) = f (ix3 b (0 : Fin 1) k) := by
  refine shapeCast_apply _ _ _ _ ?_
  rw [Shape.rowMajor_val_three, Shape.rowMajor_val_two]
  show (b.val * 1 + 0) * 16 + k.val = b.val * 16 + k.val
  omega

include hp in
theorem kernel_attention : W5 m d (buf main_v12) = attention (A0 m d) (A6 m d) := by
  rw [W5_v12]
  funext (z : S4x16.Idx)
  obtain ⟨b, k, rfl⟩ : ∃ (b : Fin 4) (k : Fin 16), z = ix2 b k := ⟨_, _, eq_ix2 z⟩
  refine (flatten_at _ b k).trans ?_
  refine (extractStridedSlice_apply _ _ _ _ (ix3 b (0 : Fin 4) (⟨k.val, by omega⟩ : Fin 128)) fun a => ?_).trans ?_
  · fin_cases a <;> simp
  · exact (floatsOf_at m d hp b k _ rfl).1

include hp in
theorem kernel_samples : W5 m d (buf main_v19) = samples (A0 m d) (A1 m d) (A6 m d) := by
  rw [W5_v19]
  funext (z : S4x16x2.Idx)
  obtain ⟨b, k, e, rfl⟩ : ∃ (b : Fin 4) (k : Fin 16) (e : Fin 2), z = ix3 b k e := ⟨_, _, _, eq_ix3 z⟩
  refine (Ref.pair_at _ _ _ b k e).trans ?_
  show _ = coord (along (A0 m d) (A6 m d) b k e).val (second (A0 m d) (A1 m d) (A6 m d) b k)
  match e with
  | ⟨0, _⟩ =>
    refine (Ref.spread1_at _ b k).trans ((flatten_at _ b k).trans ?_)
    refine (extractStridedSlice_apply _ _ _ _ (ix3 b (1 : Fin 4) (⟨k.val, by omega⟩ : Fin 128)) fun a => ?_).trans ?_
    · fin_cases a <;> simp
    · exact (floatsOf_at m d hp b k _ rfl).2.1
  | ⟨1, _⟩ =>
    refine (Ref.spread1_at _ b k).trans ((flatten_at _ b k).trans ?_)
    refine (extractStridedSlice_apply _ _ _ _ (ix3 b (2 : Fin 4) (⟨k.val, by omega⟩ : Fin 128)) fun a => ?_).trans ?_
    · fin_cases a <;> simp
    · exact (floatsOf_at m d hp b k _ rfl).2.2

include hp in
theorem kernel_patch : W5 m d (buf main_v10) = patch (A0 m d) (A1 m d) (A4 m d) (A5 m d) (A6 m d) := by
  rw [W5_v10]
  funext (z : S4x16x64x64x3.Idx)
  obtain ⟨b, k, y, x, c, rfl⟩ : ∃ (b : Fin 4) (k : Fin 16) (y x : Fin 64) (c : Fin 3), z = ix5 b k y x c := ⟨_, _, _, _, _, eq_ix5 z⟩
  refine (transpose_apply _ _ _ _ (ix5 b k c y x) fun a => by fin_cases a <;> rfl).trans ?_
  refine (shapeCast_apply _ _ _ (ix4 (⟨16 * b.val + k.val, by omega⟩ : Fin 64) c y x) ?_).trans ?_
  · rw [Shape.rowMajor_val_four, Shape.rowMajor_val_five]
    show ((((16 * b.val + k.val) * 3 + c.val) * 64 + y.val) * 64 + x.val) = ((((b.val * 16 + k.val) * 3 + c.val) * 64 + y.val) * 64 + x.val)
    omega
  · obtain ⟨h0, h1, h2⟩ := tabOf_at m d hp b k ⟨16 * b.val + k.val, by omega⟩ rfl
    have e : patches (F := Ideal) (tabOf m d) (pic0 m d) (pic1 m d) (ix4 (⟨16 * b.val + k.val, by omega⟩ : Fin 64) c y x)
      = (if tabOf m d (ix2 (⟨16 * b.val + k.val, by omega⟩ : Fin 64) (4 : Fin 16)) = 1#32 then pic1 m d else pic0 m d)
        (pix ((16 * b.val + k.val) / 16) c.val
          ((tabOf m d (ix2 (⟨16 * b.val + k.val, by omega⟩ : Fin 64) (0 : Fin 16))).toNat + (tabOf m d (ix2 (⟨16 * b.val + k.val, by omega⟩ : Fin 64) (1 : Fin 16))).toNat + y.val)
          ((tabOf m d (ix2 (⟨16 * b.val + k.val, by omega⟩ : Fin 64) (2 : Fin 16))).toNat + (tabOf m d (ix2 (⟨16 * b.val + k.val, by omega⟩ : Fin 64) (3 : Fin 16))).toNat + x.val)) := rfl
    have hb : (16 * b.val + k.val) / 16 = b.val := by omega
    rw [e, h0, h1, h2, hb, pic0_eq, pic1_eq]
    have fit (v : ℕ) (two : Bool) (y : Fin 64) : corner v two + y.val < 512 := by have := corner_le v two; omega
    have s : second (A0 m d) (A1 m d) (A6 m d) b k = decide (A1 m d (cell b (chosen (A0 m d) (A6 m d) b k)) = 1#32) := rfl
    show _ = (if second (A0 m d) (A1 m d) (A6 m d) b k then A5 m d else A4 m d) (ix4 b
      (⟨corner (along (A0 m d) (A6 m d) b k 0).val (second (A0 m d) (A1 m d) (A6 m d) b k) + y.val, fit _ _ y⟩ : Fin 512)
      (⟨corner (along (A0 m d) (A6 m d) b k 1).val (second (A0 m d) (A1 m d) (A6 m d) b k) + x.val, fit _ _ x⟩ : Fin 512) c)
    by_cases h : A1 m d (cell b (chosen (A0 m d) (A6 m d) b k)) = 1#32
    · rw [if_pos h, if_pos (s.trans (decide_eq_true h))]
      exact pic_at _ b c _ _ (fit _ _ y) (fit _ _ x)
    · rw [if_neg h, if_neg (by rw [s, decide_eq_false h]; decide)]
      exact pic_at _ b c _ _ (fit _ _ y) (fit _ _ x)

end Cert.Proof.Value

end
-- ==== Proof.Enough.lean ====
/-
  The precondition: a batch with at least sixteen perturbed values above −∞ draws sixteen places whose values are above −∞.
-/
module

public import proofs.«01_k».proof.Pre_sixteen_places
public import proofs.«01_k».proof.Proof.RefValue
public import Idealize.ShloMosaic.Lib.ReduceAll

@[expose] public section

noncomputable section

namespace Cert.Proof.Enough

open Cert.Pre_sixteen_places
open Idealize.ShloMosaic
open Idealize.ShloMosaic.WordCmp
open Cert.Proof.TopK (ranked ranked_sorted exists_ranked ranked_inj)
open Cert.Proof.Spec
open scoped BigOperators

/-- The relations of shapes the precondition states. -/
theorem facts : Cert.Pre_sixteen_places.Facts where
  shapeCasts_S4x64x64_S4x4096 := by decide
  reducesTo_S4x4096_S4_d1 := by decide
  h_S_ := by decide
  bcast_S4_S4x1_0 := by decide
  bcast_S4x1_S4x4096_0_1 := by decide
  bcast_S_S4x4096 := by decide
  natLt_1_32 := by decide
  bcast_S_S4 := by decide
  reducesTo_S4_S_d0 := by decide

/-! ## Counting -/

attribute [local irreducible] ranked

/-- Sixteen values above −∞ put sixteen values above −∞ first. -/
theorem ranked_alive (f : Fin 4096 → EReal) (h : 16 ≤ (Finset.univ.filter fun n => ⊥ < f n).card) (k : Fin 4096) (hk : k.val < 16) :
    f (ranked f k) ≠ ⊥ := by
  intro e
  have sub : (Finset.univ.filter fun n => ⊥ < f n) ⊆ (Finset.univ.filter fun j : Fin 4096 => j < k).image (ranked f) := by
    intro n hn
    obtain ⟨j, rfl⟩ := exists_ranked f n
    refine Finset.mem_image.2 ⟨j, Finset.mem_filter.2 ⟨Finset.mem_univ _, ?_⟩, rfl⟩
    by_contra hj
    have hn' : ⊥ < f (ranked f j) := (Finset.mem_filter.1 hn).2
    rcases eq_or_lt_of_le (not_lt.1 hj) with rfl | hlt
    · exact absurd e hn'.ne'
    · exact absurd ((ranked_sorted f k j hlt).1.trans e.le) (not_le.2 hn')
  have c := (Finset.card_le_card sub).trans Finset.card_image_le
  have c' : (Finset.univ.filter fun j : Fin 4096 => j < k).card = k.val := Fin.card_Iio k ▸ by
    congr 1; ext j; simp
  omega

/-- Bits added up as words count. -/
theorem fold_count (s : Finset (Fin 4096)) (f : Fin 4096 → EReal) :
    s.fold IntOp.addi 0#32 (fun n => BitVec.setWidth 32 (BitVec.ofBool (decide (⊥ < f n)))) = BitVec.ofNat 32 (s.filter fun n => ⊥ < f n).card := by
  induction s using Finset.induction_on with
  | empty => rfl
  | insert a s ha ih =>
    rw [Finset.fold_insert ha, ih, Finset.filter_insert]
    by_cases h : ⊥ < f a
    · rw [if_pos h, Finset.card_insert_of_notMem (fun hm => ha (Finset.mem_filter.1 hm).1), decide_eq_true h, Nat.add_comm, BitVec.ofNat_add]
      rfl
    · rw [if_neg h, decide_eq_false h]
      exact BitVec.zero_add _

/-! ## The precondition -/

section
variable (A0 : S4x64x64.Idx → EReal) (A6 : S4x4096.Idx → EReal)
attribute [local instance] facts

/-- The perturbed values, as the precondition computes them. -/
def perturbed : S4x4096.Idx → EReal :=
  addf (F := Ideal) (φ := .f32) (Host.log (F := Ideal) (φ := .f32) (Host.divf (F := Ideal) (φ := .f32) (shapeCast S4x4096 A0 facts.shapeCasts_S4x64x64_S4x4096)
    (broadcastInDim S4x4096 ![0, 1] facts.bcast_S4x1_S4x4096_0_1 (broadcastInDim S4x1 ![0] facts.bcast_S4_S4x1_0
      (Host.reduceAdd (F := Ideal) (φ := .f32) (shapeCast S4x4096 A0 facts.shapeCasts_S4x64x64_S4x4096) (constant (F := Ideal) S_ .f32 0x00000000#32) facts.reducesTo_S4x4096_S4_d1 facts.h_S_))))) A6

theorem perturbed_at (b : Fin 4) (n : Fin 4096) : perturbed A0 A6 (ix2 b n) = noisy A0 A6 b n := by
  have f (n : Fin 4096) : shapeCast S4x4096 A0 facts.shapeCasts_S4x64x64_S4x4096 (ix2 b n) = A0 (cell b n) := Ref.flat_at A0 b n
  have e : broadcastInDim S4x4096 ![0, 1] facts.bcast_S4x1_S4x4096_0_1 (broadcastInDim S4x1 ![0] facts.bcast_S4_S4x1_0
      (Host.reduceAdd (F := Ideal) (φ := .f32) (shapeCast S4x4096 A0 facts.shapeCasts_S4x64x64_S4x4096) (constant (F := Ideal) S_ .f32 0x00000000#32) facts.reducesTo_S4x4096_S4_d1 facts.h_S_)) (ix2 b n)
      = ∑ m : Fin 4096, A0 (cell b m) := by
    refine (broadcastInDim_apply _ _ _ _ (ix2 b (0 : Fin 1)) fun a => by fin_cases a <;> rfl).trans ?_
    refine (broadcastInDim_apply _ _ _ _ (ix1 b) fun a => by fin_cases a; rfl).trans ?_
    exact (Ref.rowSum_at _ b).trans (Finset.sum_congr rfl fun m _ => f m)
  unfold perturbed
  show Ideal.log (Host.divf (F := Ideal) (φ := .f32) _ _ (ix2 b n)) + A6 (ix2 b n) = _
  simp only [Host.divf, Ideal.hostDivf_def]
  rw [e, f]
  rfl

/-- How many values of a batch are above −∞, as the precondition counts them. -/
def counts : S4.Idx → BitVec 32 :=
  Host.reduce IntOp.addi (extui 32 (cmpf (F := Ideal) (φ := .f32) .ogt (perturbed A0 A6)
    (broadcastInDim S4x4096 ![] facts.bcast_S_S4x4096 (constant (F := Ideal) S_ .f32 0xFF800000#32))) facts.natLt_1_32)
    (constantI S_ 32 0#32) facts.reducesTo_S4x4096_S4_d1 facts.h_S_

theorem counts_at (b : Fin 4) : counts A0 A6 (ix1 b) = BitVec.ofNat 32 (Finset.univ.filter fun n => ⊥ < noisy A0 A6 b n).card := by
  unfold counts
  refine (Host.reduce_eq_fold_single IntOp.addi _ _ facts.reducesTo_S4x4096_S4_d1 Ref.rowReduces facts.h_S_ (ix1 b)).trans ?_
  refine Eq.trans ?_ (fold_count Finset.univ (noisy A0 A6 b))
  refine Finset.fold_congr fun (n : Fin 4096) _ => ?_
  have l : Shape.Reduces.lift Ref.rowReduces (ix1 b) n = ix2 b n := Ref.lift_row b n
  show BitVec.setWidth 32 (Ideal.cmp .ogt (perturbed A0 A6 (Shape.Reduces.lift Ref.rowReduces (ix1 b) n)) (Ideal.ofBits .f32 0xFF800000#32)) = _
  rw [l, TopK.bot_f32]
  exact congrArg (fun x : EReal => BitVec.setWidth 32 (BitVec.ofBool (decide (⊥ < x)))) (perturbed_at A0 A6 b n)

/-- The precondition puts every place drawn above −∞. -/
theorem alive (A1 : S4x64x64.Idx → BitVec 32) (A2 : S4x64x64x3.Idx → EReal) (A3 : S4x32x32x3.Idx → EReal) (A4 A5 : S4x512x512x3.Idx → EReal)
    (h : fn (F := Ideal) A0 A1 A2 A3 A4 A5 A6 = fun _ => 1#1) (b : Fin 4) (k : Fin 16) : noisy A0 A6 b (chosen A0 A6 b k) ≠ ⊥ := by
  have h' : Host.reduce IntOp.andi (cmpi .sge (counts A0 A6) (broadcastInDim S4 ![] facts.bcast_S_S4 (constantI S_ 32 16#32)))
      (constantI S_ 1 1#1) facts.reducesTo_S4_S_d0 facts.h_S_ (fun a => a.elim0) = 1#1 := congrFun h _
  haveI : Subsingleton S_.Idx := ⟨fun x y => funext fun a => a.elim0⟩
  have hb : IntOp.cmpi .sge (counts A0 A6 (ix1 b)) 16#32 = 1#1 :=
    Host.reduce_andi_all _ _ facts.reducesTo_S4_S_d0 facts.h_S_ _ h' (ix1 b)
  rw [counts_at] at hb
  have le : (Finset.univ.filter fun n => ⊥ < noisy A0 A6 b n).card ≤ 4096 := (Finset.card_filter_le _ _).trans (by simp)
  refine ranked_alive (noisy A0 A6 b) ?_ ⟨k.val, by omega⟩ k.isLt
  generalize (Finset.univ.filter fun n => ⊥ < noisy A0 A6 b n).card = c at hb le
  have hs : (BitVec.ofNat 32 c).toInt = c := by
    rw [BitVec.toInt_eq_toNat_cond, BitVec.toNat_ofNat, Nat.mod_eq_of_lt (by omega), if_pos (by omega)]
  have h16 : (16#32).toInt = 16 := by decide
  unfold IntOp.cmpi at hb
  by_contra hc
  simp only [BitVec.slt_eq_decide, BitVec.sle_eq_decide, hs, h16] at hb
  rw [decide_eq_false (by omega)] at hb
  exact absurd hb (by decide)

end

end Cert.Proof.Enough

end
-- ==== Proof.Algebraic.lean ====
/-
  The value claim: over the real numbers the kernel and its reference end with the same four results.
-/
module

public import proofs.«01_k».proof.Proof.Frames
public import proofs.«01_k».proof.Proof.KernelResults
public import proofs.«01_k».proof.Proof.Enough

@[expose] public section

noncomputable section

namespace Cert.Proof

open Idealize.ShloMosaic Idealize.SL.Sem
open Cert.Proof.Spec

attribute [local instance] Cert.Proof.Enough.facts

/-- The reference ends with the specification's results. -/
theorem reference_results (m' : (ℓ : Loc ReferenceIdeal.nD ReferenceIdeal.τ ReferenceIdeal.sig) → Buf (Elt Ideal) ℓ) (g' : Dev ReferenceIdeal.nD → PrngReg) :
    θ_run (ReferenceIdeal.defs (F := Ideal)) (onTc (τ := ReferenceIdeal.τ) (ReferenceIdeal.main (F := Ideal))) ⟨m', fun _ => 0, g'⟩ fun r => ∀ c : Dev ReferenceIdeal.nD,
      have V : Valuation ReferenceIdeal.τ ReferenceIdeal.sig (Elt Ideal) := StableHlo.launchContents m' c
      r.2.mem ((c.tc : Thread ReferenceIdeal.nD ReferenceIdeal.τ).loc ReferenceIdeal.main_v105) = patch (Ref.a0 V) (Ref.a1 V) (Ref.a4 V) (Ref.a5 V) (Ref.a6 V)
      ∧ r.2.mem ((c.tc : Thread ReferenceIdeal.nD ReferenceIdeal.τ).loc ReferenceIdeal.main_v10) = attention (Ref.a0 V) (Ref.a6 V)
      ∧ r.2.mem ((c.tc : Thread ReferenceIdeal.nD ReferenceIdeal.τ).loc ReferenceIdeal.main_v108) = offsets
      ∧ r.2.mem ((c.tc : Thread ReferenceIdeal.nD ReferenceIdeal.τ).loc ReferenceIdeal.main_v107) = samples (Ref.a0 V) (Ref.a1 V) (Ref.a6 V)
      ∧ r.2.mem ((c.tc : Thread ReferenceIdeal.nD ReferenceIdeal.τ).loc ReferenceIdeal.main_arg0) = m' ((c.tc : Thread ReferenceIdeal.nD ReferenceIdeal.τ).loc ReferenceIdeal.main_arg0)
      ∧ r.2.mem ((c.tc : Thread ReferenceIdeal.nD ReferenceIdeal.τ).loc ReferenceIdeal.main_arg1) = m' ((c.tc : Thread ReferenceIdeal.nD ReferenceIdeal.τ).loc ReferenceIdeal.main_arg1)
      ∧ r.2.mem ((c.tc : Thread ReferenceIdeal.nD ReferenceIdeal.τ).loc ReferenceIdeal.main_arg2) = m' ((c.tc : Thread ReferenceIdeal.nD ReferenceIdeal.τ).loc ReferenceIdeal.main_arg2)
      ∧ r.2.mem ((c.tc : Thread ReferenceIdeal.nD ReferenceIdeal.τ).loc ReferenceIdeal.main_arg3) = m' ((c.tc : Thread ReferenceIdeal.nD ReferenceIdeal.τ).loc ReferenceIdeal.main_arg3)
      ∧ r.2.mem ((c.tc : Thread ReferenceIdeal.nD ReferenceIdeal.τ).loc ReferenceIdeal.main_arg4) = m' ((c.tc : Thread ReferenceIdeal.nD ReferenceIdeal.τ).loc ReferenceIdeal.main_arg4)
      ∧ r.2.mem ((c.tc : Thread ReferenceIdeal.nD ReferenceIdeal.τ).loc ReferenceIdeal.main_arg5) = m' ((c.tc : Thread ReferenceIdeal.nD ReferenceIdeal.τ).loc ReferenceIdeal.main_arg5)
      ∧ r.2.mem ((c.tc : Thread ReferenceIdeal.nD ReferenceIdeal.τ).loc ReferenceIdeal.main_arg6) = m' ((c.tc : Thread ReferenceIdeal.nD ReferenceIdeal.τ).loc ReferenceIdeal.main_arg6) :=
  (θ_run _ _ _).mono (fun r h c => by
    obtain ⟨h0, h1, h2, h3, ha⟩ := h c
    exact ⟨h0.trans (Ref.result1 _), h1.trans (Ref.result2 _), h2.trans Ref.result3, h3.trans (Ref.result4 _), ha⟩)
    (Cert.ReferenceIdeal.Value.run (F := Ideal) m' g')

/-- From the precondition: every place the kernel draws has a value above −∞. -/
theorem drawn_alive (m : (ℓ : Loc KernelIdeal.nD KernelIdeal.τ KernelIdeal.sig) → Buf (Elt Ideal) ℓ) (h : Cert.Pre_KernelIdeal_sixteen_places m)
    (d : Dev KernelIdeal.nD) (b : Fin 4) (k : Fin 16) :
    noisy (Value.A0 m d) (Value.A6 m d) b (chosen (Value.A0 m d) (Value.A6 m d) b k) ≠ ⊥ :=
  Enough.alive (Value.A0 m d) (Value.A6 m d) _ _ _ _ _ (h d) b k

theorem algebraic : Cert.algebraic_KernelIdeal_ReferenceIdeal_pre_sixteen_places := by
  intro m g m' g' hm hargs
  refine ⟨fun c => patch (Value.A0 m c) (Value.A1 m c) (Value.A4 m c) (Value.A5 m c) (Value.A6 m c), fun c => attention (Value.A0 m c) (Value.A6 m c),
    fun _ => offsets, fun c => samples (Value.A0 m c) (Value.A1 m c) (Value.A6 m c), ?_, ?_⟩
  · refine (θ_run _ _ _).mono (fun r h c => ?_) (Launch.run_main (F := Ideal) m g)
    have hp := drawn_alive m hm c
    exact ⟨(h.1 c _ (Launch.mem_uc KernelIdeal.main_v10 (by decide))).trans (Value.kernel_patch m c hp),
      (h.1 c _ (Launch.mem_uc KernelIdeal.main_v12 (by decide))).trans (Value.kernel_attention m c hp),
      (h.1 c _ (Launch.mem_uc KernelIdeal.main_v20 (by decide))).trans (Value.W5_v20 m c),
      (h.1 c _ (Launch.mem_uc KernelIdeal.main_v19 (by decide))).trans (Value.kernel_samples m c hp),
      Launch.args_kept m h c⟩
  · refine (θ_run _ _ _).mono (fun r h c => ?_) (reference_results m' g')
    obtain ⟨h0, h1, h2, h3, ha⟩ := h c
    obtain ⟨e0, e1, -, -, e4, e5, e6⟩ := hargs c
    have e0 : Ref.a0 (StableHlo.launchContents m' c) = Value.A0 m c := e0
    have e1 : Ref.a1 (StableHlo.launchContents m' c) = Value.A1 m c := e1
    have e4 : Ref.a4 (StableHlo.launchContents m' c) = Value.A4 m c := e4
    have e5 : Ref.a5 (StableHlo.launchContents m' c) = Value.A5 m c := e5
    have e6 : Ref.a6 (StableHlo.launchContents m' c) = Value.A6 m c := e6
    rw [e0, e1, e4, e5, e6] at h0
    rw [e0, e6] at h1
    rw [e0, e1, e6] at h3
    exact ⟨h0, h1, h2, h3, ha⟩

end Cert.Proof

end
-- ==== Proof.lean ====
/-
  The certificate: the kernel and its reference end with their arguments and counters as they found them, and over the real
  numbers with the same four results.
-/
module

public import proofs.«01_k».proof.Defs
public import proofs.«01_k».proof.Proof.Gen.ReferenceIdeal.Run
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Enough.facts,
  frame_kernel, frame_kernelIdeal, fun m g _ => frame_kernelIdeal m g trivial, frame_reference, fun m g _ => frame_reference m g trivial,
  trivial, algebraic⟩

end Cert.Proof

end
